-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Experts [hPre_expert_ids : Cert.Pre_expert_ids.Facts] (m : (ℓ : Loc Cert.Experts.nD Cert.Experts.τ Cert.Experts.sig) → Buf (Elt Bits) ℓ) : Prop :=
  ∀ c : Dev Cert.Experts.nD,
    (Cert.Pre_expert_ids.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_expert_ids.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_expert_ids : Cert.Pre_expert_ids.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_ids.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_expert_ids.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsIdeal_routed [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2.2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Convs (m : (ℓ : Loc Cert.Convs.nD Cert.Convs.τ Cert.Convs.sig) → Buf (Elt Bits) ℓ) : Prop :=
  True

def Pre_ConvsIdeal (m : (ℓ : Loc Cert.ConvsIdeal.nD Cert.ConvsIdeal.τ Cert.ConvsIdeal.sig) → Buf (Elt Ideal) ℓ) : Prop :=
  True

def Pre_ConvsRefIdeal (m : (ℓ : Loc Cert.ConvsRefIdeal.nD Cert.ConvsRefIdeal.τ Cert.ConvsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Experts [hExperts : Cert.Experts.Facts] [hPre_expert_ids : Cert.Pre_expert_ids.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_expert_ids : Cert.Pre_expert_ids.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsIdeal_pre_routed [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_routed m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Convs [hConvs : Cert.Convs.Facts] : Prop :=
  ∀ (m : (ℓ : Loc Cert.Convs.nD Cert.Convs.τ Cert.Convs.sig) → Buf (Elt Bits) ℓ) (g : Dev Cert.Convs.nD → PrngReg), Pre_Convs m →
    θ_run (Cert.Convs.defs (F := Bits)) (onTc (τ := Cert.Convs.τ) (Cert.Convs.main (F := Bits))) ⟨m, fun _ => 0, g⟩ (fun r => (∀ c : Dev Cert.Convs.nD,
      r.2.mem ((c.tc : Thread Cert.Convs.nD Cert.Convs.τ).loc Cert.Convs.main_arg0) = m ((c.tc : Thread Cert.Convs.nD Cert.Convs.τ).loc Cert.Convs.main_arg0)
      ∧ r.2.mem ((c.tc : Thread Cert.Convs.nD Cert.Convs.τ).loc Cert.Convs.main_arg1) = m ((c.tc : Thread Cert.Convs.nD Cert.Convs.τ).loc Cert.Convs.main_arg1)
      ∧ r.2.mem ((c.tc : Thread Cert.Convs.nD Cert.Convs.τ).loc Cert.Convs.main_arg2) = m ((c.tc : Thread Cert.Convs.nD Cert.Convs.τ).loc Cert.Convs.main_arg2)
      ∧ r.2.mem ((c.tc : Thread Cert.Convs.nD Cert.Convs.τ).loc Cert.Convs.main_arg3) = m ((c.tc : Thread Cert.Convs.nD Cert.Convs.τ).loc Cert.Convs.main_arg3)
      ∧ r.2.mem ((c.tc : Thread Cert.Convs.nD Cert.Convs.τ).loc Cert.Convs.main_arg4) = m ((c.tc : Thread Cert.Convs.nD Cert.Convs.τ).loc Cert.Convs.main_arg4)
      ∧ r.2.mem ((c.tc : Thread Cert.Convs.nD Cert.Convs.τ).loc Cert.Convs.main_arg5) = m ((c.tc : Thread Cert.Convs.nD Cert.Convs.τ).loc Cert.Convs.main_arg5)
      ∧ r.2.mem ((c.tc : Thread Cert.Convs.nD Cert.Convs.τ).loc Cert.Convs.main_arg6) = m ((c.tc : Thread Cert.Convs.nD Cert.Convs.τ).loc Cert.Convs.main_arg6)
      ∧ r.2.mem ((c.tc : Thread Cert.Convs.nD Cert.Convs.τ).loc Cert.Convs.main_arg7) = m ((c.tc : Thread Cert.Convs.nD Cert.Convs.τ).loc Cert.Convs.main_arg7)
      ∧ r.2.mem ((c.tc : Thread Cert.Convs.nD Cert.Convs.τ).loc Cert.Convs.main_arg8) = m ((c.tc : Thread Cert.Convs.nD Cert.Convs.τ).loc Cert.Convs.main_arg8)
      ∧ r.2.mem ((c.tc : Thread Cert.Convs.nD Cert.Convs.τ).loc Cert.Convs.main_arg9) = m ((c.tc : Thread Cert.Convs.nD Cert.Convs.τ).loc Cert.Convs.main_arg9))
      ∧ r.2.sem = fun _ => 0)

def quiescent_ConvsIdeal [hConvsIdeal : Cert.ConvsIdeal.Facts] : Prop :=
  ∀ (m : (ℓ : Loc Cert.ConvsIdeal.nD Cert.ConvsIdeal.τ Cert.ConvsIdeal.sig) → Buf (Elt Ideal) ℓ) (g : Dev Cert.ConvsIdeal.nD → PrngReg), Pre_ConvsIdeal m →
    θ_run (Cert.ConvsIdeal.defs (F := Ideal)) (onTc (τ := Cert.ConvsIdeal.τ) (Cert.ConvsIdeal.main (F := Ideal))) ⟨m, fun _ => 0, g⟩ (fun r => (∀ c : Dev Cert.ConvsIdeal.nD,
      r.2.mem ((c.tc : Thread Cert.ConvsIdeal.nD Cert.ConvsIdeal.τ).loc Cert.ConvsIdeal.main_arg0) = m ((c.tc : Thread Cert.ConvsIdeal.nD Cert.ConvsIdeal.τ).loc Cert.ConvsIdeal.main_arg0)
      ∧ r.2.mem ((c.tc : Thread Cert.ConvsIdeal.nD Cert.ConvsIdeal.τ).loc Cert.ConvsIdeal.main_arg1) = m ((c.tc : Thread Cert.ConvsIdeal.nD Cert.ConvsIdeal.τ).loc Cert.ConvsIdeal.main_arg1)
      ∧ r.2.mem ((c.tc : Thread Cert.ConvsIdeal.nD Cert.ConvsIdeal.τ).loc Cert.ConvsIdeal.main_arg2) = m ((c.tc : Thread Cert.ConvsIdeal.nD Cert.ConvsIdeal.τ).loc Cert.ConvsIdeal.main_arg2)
      ∧ r.2.mem ((c.tc : Thread Cert.ConvsIdeal.nD Cert.ConvsIdeal.τ).loc Cert.ConvsIdeal.main_arg3) = m ((c.tc : Thread Cert.ConvsIdeal.nD Cert.ConvsIdeal.τ).loc Cert.ConvsIdeal.main_arg3)
      ∧ r.2.mem ((c.tc : Thread Cert.ConvsIdeal.nD Cert.ConvsIdeal.τ).loc Cert.ConvsIdeal.main_arg4) = m ((c.tc : Thread Cert.ConvsIdeal.nD Cert.ConvsIdeal.τ).loc Cert.ConvsIdeal.main_arg4)
      ∧ r.2.mem ((c.tc : Thread Cert.ConvsIdeal.nD Cert.ConvsIdeal.τ).loc Cert.ConvsIdeal.main_arg5) = m ((c.tc : Thread Cert.ConvsIdeal.nD Cert.ConvsIdeal.τ).loc Cert.ConvsIdeal.main_arg5)
      ∧ r.2.mem ((c.tc : Thread Cert.ConvsIdeal.nD Cert.ConvsIdeal.τ).loc Cert.ConvsIdeal.main_arg6) = m ((c.tc : Thread Cert.ConvsIdeal.nD Cert.ConvsIdeal.τ).loc Cert.ConvsIdeal.main_arg6)
      ∧ r.2.mem ((c.tc : Thread Cert.ConvsIdeal.nD Cert.ConvsIdeal.τ).loc Cert.ConvsIdeal.main_arg7) = m ((c.tc : Thread Cert.ConvsIdeal.nD Cert.ConvsIdeal.τ).loc Cert.ConvsIdeal.main_arg7)
      ∧ r.2.mem ((c.tc : Thread Cert.ConvsIdeal.nD Cert.ConvsIdeal.τ).loc Cert.ConvsIdeal.main_arg8) = m ((c.tc : Thread Cert.ConvsIdeal.nD Cert.ConvsIdeal.τ).loc Cert.ConvsIdeal.main_arg8)
      ∧ r.2.mem ((c.tc : Thread Cert.ConvsIdeal.nD Cert.ConvsIdeal.τ).loc Cert.ConvsIdeal.main_arg9) = m ((c.tc : Thread Cert.ConvsIdeal.nD Cert.ConvsIdeal.τ).loc Cert.ConvsIdeal.main_arg9))
      ∧ r.2.sem = fun _ => 0)

def quiescent_ConvsRefIdeal [hConvsRefIdeal : Cert.ConvsRefIdeal.Facts] : Prop :=
  ∀ (m : (ℓ : Loc Cert.ConvsRefIdeal.nD Cert.ConvsRefIdeal.τ Cert.ConvsRefIdeal.sig) → Buf (Elt Ideal) ℓ) (g : Dev Cert.ConvsRefIdeal.nD → PrngReg), Pre_ConvsRefIdeal m →
    θ_run (Cert.ConvsRefIdeal.defs (F := Ideal)) (onTc (τ := Cert.ConvsRefIdeal.τ) (Cert.ConvsRefIdeal.main (F := Ideal))) ⟨m, fun _ => 0, g⟩ (fun r => (∀ c : Dev Cert.ConvsRefIdeal.nD,
      r.2.mem ((c.tc : Thread Cert.ConvsRefIdeal.nD Cert.ConvsRefIdeal.τ).loc Cert.ConvsRefIdeal.main_arg0) = m ((c.tc : Thread Cert.ConvsRefIdeal.nD Cert.ConvsRefIdeal.τ).loc Cert.ConvsRefIdeal.main_arg0)
      ∧ r.2.mem ((c.tc : Thread Cert.ConvsRefIdeal.nD Cert.ConvsRefIdeal.τ).loc Cert.ConvsRefIdeal.main_arg1) = m ((c.tc : Thread Cert.ConvsRefIdeal.nD Cert.ConvsRefIdeal.τ).loc Cert.ConvsRefIdeal.main_arg1)
      ∧ r.2.mem ((c.tc : Thread Cert.ConvsRefIdeal.nD Cert.ConvsRefIdeal.τ).loc Cert.ConvsRefIdeal.main_arg2) = m ((c.tc : Thread Cert.ConvsRefIdeal.nD Cert.ConvsRefIdeal.τ).loc Cert.ConvsRefIdeal.main_arg2)
      ∧ r.2.mem ((c.tc : Thread Cert.ConvsRefIdeal.nD Cert.ConvsRefIdeal.τ).loc Cert.ConvsRefIdeal.main_arg3) = m ((c.tc : Thread Cert.ConvsRefIdeal.nD Cert.ConvsRefIdeal.τ).loc Cert.ConvsRefIdeal.main_arg3)
      ∧ r.2.mem ((c.tc : Thread Cert.ConvsRefIdeal.nD Cert.ConvsRefIdeal.τ).loc Cert.ConvsRefIdeal.main_arg4) = m ((c.tc : Thread Cert.ConvsRefIdeal.nD Cert.ConvsRefIdeal.τ).loc Cert.ConvsRefIdeal.main_arg4)
      ∧ r.2.mem ((c.tc : Thread Cert.ConvsRefIdeal.nD Cert.ConvsRefIdeal.τ).loc Cert.ConvsRefIdeal.main_arg5) = m ((c.tc : Thread Cert.ConvsRefIdeal.nD Cert.ConvsRefIdeal.τ).loc Cert.ConvsRefIdeal.main_arg5)
      ∧ r.2.mem ((c.tc : Thread Cert.ConvsRefIdeal.nD Cert.ConvsRefIdeal.τ).loc Cert.ConvsRefIdeal.main_arg6) = m ((c.tc : Thread Cert.ConvsRefIdeal.nD Cert.ConvsRefIdeal.τ).loc Cert.ConvsRefIdeal.main_arg6)
      ∧ r.2.mem ((c.tc : Thread Cert.ConvsRefIdeal.nD Cert.ConvsRefIdeal.τ).loc Cert.ConvsRefIdeal.main_arg7) = m ((c.tc : Thread Cert.ConvsRefIdeal.nD Cert.ConvsRefIdeal.τ).loc Cert.ConvsRefIdeal.main_arg7)
      ∧ r.2.mem ((c.tc : Thread Cert.ConvsRefIdeal.nD Cert.ConvsRefIdeal.τ).loc Cert.ConvsRefIdeal.main_arg8) = m ((c.tc : Thread Cert.ConvsRefIdeal.nD Cert.ConvsRefIdeal.τ).loc Cert.ConvsRefIdeal.main_arg8)
      ∧ r.2.mem ((c.tc : Thread Cert.ConvsRefIdeal.nD Cert.ConvsRefIdeal.τ).loc Cert.ConvsRefIdeal.main_arg9) = m ((c.tc : Thread Cert.ConvsRefIdeal.nD Cert.ConvsRefIdeal.τ).loc Cert.ConvsRefIdeal.main_arg9))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v25_0)) (v1 : (c : Dev Cert.InProjIdeal.nD) → Buf (Elt Ideal) ((c.tc : Thread Cert.InProjIdeal.nD Cert.InProjIdeal.τ).loc Cert.InProjIdeal.main_v25_1)) (v2 : (c : Dev Cert.InProjIdeal.nD) → Buf (Elt Ideal) ((c.tc : Thread Cert.InProjIdeal.nD Cert.InProjIdeal.τ).loc Cert.InProjIdeal.main_v25_2)) (v3 : (c : Dev Cert.InProjIdeal.nD) → Buf (Elt Ideal) ((c.tc : Thread Cert.InProjIdeal.nD Cert.InProjIdeal.τ).loc Cert.InProjIdeal.main_v25_3)) (v4 : (c : Dev Cert.InProjIdeal.nD) → Buf (Elt Ideal) ((c.tc : Thread Cert.InProjIdeal.nD Cert.InProjIdeal.τ).loc Cert.InProjIdeal.main_v25_4)) (v5 : (c : Dev Cert.InProjIdeal.nD) → Buf (Elt Ideal) ((c.tc : Thread Cert.InProjIdeal.nD Cert.InProjIdeal.τ).loc Cert.InProjIdeal.main_v25_5)) (v6 : (c : Dev Cert.InProjIdeal.nD) → Buf (Elt Ideal) ((c.tc : Thread Cert.InProjIdeal.nD Cert.InProjIdeal.τ).loc Cert.InProjIdeal.main_v25_6)) (v7 : (c : Dev Cert.InProjIdeal.nD) → Buf (Elt Ideal) ((c.tc : Thread Cert.InProjIdeal.nD Cert.InProjIdeal.τ).loc Cert.InProjIdeal.main_v25_7)) (v8 : (c : Dev Cert.InProjIdeal.nD) → Buf (Elt Ideal) ((c.tc : Thread Cert.InProjIdeal.nD Cert.InProjIdeal.τ).loc Cert.InProjIdeal.main_v25_8)) (v9 : (c : Dev Cert.InProjIdeal.nD) → Buf (Elt Ideal) ((c.tc : Thread Cert.InProjIdeal.nD Cert.InProjIdeal.τ).loc Cert.InProjIdeal.main_v25_9)) (v10 : (c : Dev Cert.InProjIdeal.nD) → Buf (Elt Ideal) ((c.tc : Thread Cert.InProjIdeal.nD Cert.InProjIdeal.τ).loc Cert.InProjIdeal.main_v25_10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25_0) = v0 c
          ∧ r.2.mem ((c.tc : Thread Cert.InProjIdeal.nD Cert.InProjIdeal.τ).loc Cert.InProjIdeal.main_v25_1) = v1 c
          ∧ r.2.mem ((c.tc : Thread Cert.InProjIdeal.nD Cert.InProjIdeal.τ).loc Cert.InProjIdeal.main_v25_2) = v2 c
          ∧ r.2.mem ((c.tc : Thread Cert.InProjIdeal.nD Cert.InProjIdeal.τ).loc Cert.InProjIdeal.main_v25_3) = v3 c
          ∧ r.2.mem ((c.tc : Thread Cert.InProjIdeal.nD Cert.InProjIdeal.τ).loc Cert.InProjIdeal.main_v25_4) = v4 c
          ∧ r.2.mem ((c.tc : Thread Cert.InProjIdeal.nD Cert.InProjIdeal.τ).loc Cert.InProjIdeal.main_v25_5) = v5 c
          ∧ r.2.mem ((c.tc : Thread Cert.InProjIdeal.nD Cert.InProjIdeal.τ).loc Cert.InProjIdeal.main_v25_6) = v6 c
          ∧ r.2.mem ((c.tc : Thread Cert.InProjIdeal.nD Cert.InProjIdeal.τ).loc Cert.InProjIdeal.main_v25_7) = v7 c
          ∧ r.2.mem ((c.tc : Thread Cert.InProjIdeal.nD Cert.InProjIdeal.τ).loc Cert.InProjIdeal.main_v25_8) = v8 c
          ∧ r.2.mem ((c.tc : Thread Cert.InProjIdeal.nD Cert.InProjIdeal.τ).loc Cert.InProjIdeal.main_v25_9) = v9 c
          ∧ r.2.mem ((c.tc : Thread Cert.InProjIdeal.nD Cert.InProjIdeal.τ).loc Cert.InProjIdeal.main_v25_10) = v10 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v29) = v3 c
          ∧ r.2.mem ((c.tc : Thread Cert.InProjRefIdeal.nD Cert.InProjRefIdeal.τ).loc Cert.InProjRefIdeal.main_v30) = v4 c
          ∧ r.2.mem ((c.tc : Thread Cert.InProjRefIdeal.nD Cert.InProjRefIdeal.τ).loc Cert.InProjRefIdeal.main_v31) = v5 c
          ∧ r.2.mem ((c.tc : Thread Cert.InProjRefIdeal.nD Cert.InProjRefIdeal.τ).loc Cert.InProjRefIdeal.main_v32) = v6 c
          ∧ r.2.mem ((c.tc : Thread Cert.InProjRefIdeal.nD Cert.InProjRefIdeal.τ).loc Cert.InProjRefIdeal.main_v33) = v7 c
          ∧ r.2.mem ((c.tc : Thread Cert.InProjRefIdeal.nD Cert.InProjRefIdeal.τ).loc Cert.InProjRefIdeal.main_v34) = v8 c
          ∧ r.2.mem ((c.tc : Thread Cert.InProjRefIdeal.nD Cert.InProjRefIdeal.τ).loc Cert.InProjRefIdeal.main_v35) = v9 c
          ∧ r.2.mem ((c.tc : Thread Cert.InProjRefIdeal.nD Cert.InProjRefIdeal.τ).loc Cert.InProjRefIdeal.main_v36) = v10 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Experts_ExpertsIdeal : Prop :=
  True

def algebraic_ExpertsIdeal_ExpertsRefIdeal_pre_routed [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_routed m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v57) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v31) = v0 c
          ∧ r.2.mem ((c.tc : Thread Cert.MemKvRefIdeal.nD Cert.MemKvRefIdeal.τ).loc Cert.MemKvRefIdeal.main_v32) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Convs_ConvsIdeal : Prop :=
  True

def algebraic_ConvsIdeal_ConvsRefIdeal [hConvsIdeal : Cert.ConvsIdeal.Facts] [hConvsRefIdeal : Cert.ConvsRefIdeal.Facts] : Prop :=
  ∀ (m : (ℓ : Loc Cert.ConvsIdeal.nD Cert.ConvsIdeal.τ Cert.ConvsIdeal.sig) → Buf (Elt Ideal) ℓ) (g : Dev Cert.ConvsIdeal.nD → PrngReg)
    (m' : (ℓ : Loc Cert.ConvsRefIdeal.nD Cert.ConvsRefIdeal.τ Cert.ConvsRefIdeal.sig) → Buf (Elt Ideal) ℓ) (g' : Dev Cert.ConvsRefIdeal.nD → PrngReg), Pre_ConvsIdeal m →
    (∀ c : Dev Cert.ConvsIdeal.nD,
      m' ((c.tc : Thread Cert.ConvsRefIdeal.nD Cert.ConvsRefIdeal.τ).loc Cert.ConvsRefIdeal.main_arg0) = m ((c.tc : Thread Cert.ConvsIdeal.nD Cert.ConvsIdeal.τ).loc Cert.ConvsIdeal.main_arg0)
      ∧ m' ((c.tc : Thread Cert.ConvsRefIdeal.nD Cert.ConvsRefIdeal.τ).loc Cert.ConvsRefIdeal.main_arg1) = m ((c.tc : Thread Cert.ConvsIdeal.nD Cert.ConvsIdeal.τ).loc Cert.ConvsIdeal.main_arg1)
      ∧ m' ((c.tc : Thread Cert.ConvsRefIdeal.nD Cert.ConvsRefIdeal.τ).loc Cert.ConvsRefIdeal.main_arg2) = m ((c.tc : Thread Cert.ConvsIdeal.nD Cert.ConvsIdeal.τ).loc Cert.ConvsIdeal.main_arg2)
      ∧ m' ((c.tc : Thread Cert.ConvsRefIdeal.nD Cert.ConvsRefIdeal.τ).loc Cert.ConvsRefIdeal.main_arg3) = m ((c.tc : Thread Cert.ConvsIdeal.nD Cert.ConvsIdeal.τ).loc Cert.ConvsIdeal.main_arg3)
      ∧ m' ((c.tc : Thread Cert.ConvsRefIdeal.nD Cert.ConvsRefIdeal.τ).loc Cert.ConvsRefIdeal.main_arg4) = m ((c.tc : Thread Cert.ConvsIdeal.nD Cert.ConvsIdeal.τ).loc Cert.ConvsIdeal.main_arg4)
      ∧ m' ((c.tc : Thread Cert.ConvsRefIdeal.nD Cert.ConvsRefIdeal.τ).loc Cert.ConvsRefIdeal.main_arg5) = m ((c.tc : Thread Cert.ConvsIdeal.nD Cert.ConvsIdeal.τ).loc Cert.ConvsIdeal.main_arg5)
      ∧ m' ((c.tc : Thread Cert.ConvsRefIdeal.nD Cert.ConvsRefIdeal.τ).loc Cert.ConvsRefIdeal.main_arg6) = m ((c.tc : Thread Cert.ConvsIdeal.nD Cert.ConvsIdeal.τ).loc Cert.ConvsIdeal.main_arg6)
      ∧ m' ((c.tc : Thread Cert.ConvsRefIdeal.nD Cert.ConvsRefIdeal.τ).loc Cert.ConvsRefIdeal.main_arg7) = m ((c.tc : Thread Cert.ConvsIdeal.nD Cert.ConvsIdeal.τ).loc Cert.ConvsIdeal.main_arg7)
      ∧ m' ((c.tc : Thread Cert.ConvsRefIdeal.nD Cert.ConvsRefIdeal.τ).loc Cert.ConvsRefIdeal.main_arg8) = m ((c.tc : Thread Cert.ConvsIdeal.nD Cert.ConvsIdeal.τ).loc Cert.ConvsIdeal.main_arg8)
      ∧ m' ((c.tc : Thread Cert.ConvsRefIdeal.nD Cert.ConvsRefIdeal.τ).loc Cert.ConvsRefIdeal.main_arg9) = m ((c.tc : Thread Cert.ConvsIdeal.nD Cert.ConvsIdeal.τ).loc Cert.ConvsIdeal.main_arg9)) →
    ∃ (v0 : (c : Dev Cert.ConvsIdeal.nD) → Buf (Elt Ideal) ((c.tc : Thread Cert.ConvsIdeal.nD Cert.ConvsIdeal.τ).loc Cert.ConvsIdeal.main_v3_0)) (v1 : (c : Dev Cert.ConvsIdeal.nD) → Buf (Elt Ideal) ((c.tc : Thread Cert.ConvsIdeal.nD Cert.ConvsIdeal.τ).loc Cert.ConvsIdeal.main_v3_1)),
      θ_run (Cert.ConvsIdeal.defs (F := Ideal)) (onTc (τ := Cert.ConvsIdeal.τ) (Cert.ConvsIdeal.main (F := Ideal))) ⟨m, fun _ => 0, g⟩ (fun r => ∀ c : Dev Cert.ConvsIdeal.nD,
          r.2.mem ((c.tc : Thread Cert.ConvsIdeal.nD Cert.ConvsIdeal.τ).loc Cert.ConvsIdeal.main_v3_0) = v0 c
          ∧ r.2.mem ((c.tc : Thread Cert.ConvsIdeal.nD Cert.ConvsIdeal.τ).loc Cert.ConvsIdeal.main_v3_1) = v1 c
          ∧ r.2.mem ((c.tc : Thread Cert.ConvsIdeal.nD Cert.ConvsIdeal.τ).loc Cert.ConvsIdeal.main_arg0) = m ((c.tc : Thread Cert.ConvsIdeal.nD Cert.ConvsIdeal.τ).loc Cert.ConvsIdeal.main_arg0)
          ∧ r.2.mem ((c.tc : Thread Cert.ConvsIdeal.nD Cert.ConvsIdeal.τ).loc Cert.ConvsIdeal.main_arg1) = m ((c.tc : Thread Cert.ConvsIdeal.nD Cert.ConvsIdeal.τ).loc Cert.ConvsIdeal.main_arg1)
          ∧ r.2.mem ((c.tc : Thread Cert.ConvsIdeal.nD Cert.ConvsIdeal.τ).loc Cert.ConvsIdeal.main_arg2) = m ((c.tc : Thread Cert.ConvsIdeal.nD Cert.ConvsIdeal.τ).loc Cert.ConvsIdeal.main_arg2)
          ∧ r.2.mem ((c.tc : Thread Cert.ConvsIdeal.nD Cert.ConvsIdeal.τ).loc Cert.ConvsIdeal.main_arg3) = m ((c.tc : Thread Cert.ConvsIdeal.nD Cert.ConvsIdeal.τ).loc Cert.ConvsIdeal.main_arg3)
          ∧ r.2.mem ((c.tc : Thread Cert.ConvsIdeal.nD Cert.ConvsIdeal.τ).loc Cert.ConvsIdeal.main_arg4) = m ((c.tc : Thread Cert.ConvsIdeal.nD Cert.ConvsIdeal.τ).loc Cert.ConvsIdeal.main_arg4)
          ∧ r.2.mem ((c.tc : Thread Cert.ConvsIdeal.nD Cert.ConvsIdeal.τ).loc Cert.ConvsIdeal.main_arg5) = m ((c.tc : Thread Cert.ConvsIdeal.nD Cert.ConvsIdeal.τ).loc Cert.ConvsIdeal.main_arg5)
          ∧ r.2.mem ((c.tc : Thread Cert.ConvsIdeal.nD Cert.ConvsIdeal.τ).loc Cert.ConvsIdeal.main_arg6) = m ((c.tc : Thread Cert.ConvsIdeal.nD Cert.ConvsIdeal.τ).loc Cert.ConvsIdeal.main_arg6)
          ∧ r.2.mem ((c.tc : Thread Cert.ConvsIdeal.nD Cert.ConvsIdeal.τ).loc Cert.ConvsIdeal.main_arg7) = m ((c.tc : Thread Cert.ConvsIdeal.nD Cert.ConvsIdeal.τ).loc Cert.ConvsIdeal.main_arg7)
          ∧ r.2.mem ((c.tc : Thread Cert.ConvsIdeal.nD Cert.ConvsIdeal.τ).loc Cert.ConvsIdeal.main_arg8) = m ((c.tc : Thread Cert.ConvsIdeal.nD Cert.ConvsIdeal.τ).loc Cert.ConvsIdeal.main_arg8)
          ∧ r.2.mem ((c.tc : Thread Cert.ConvsIdeal.nD Cert.ConvsIdeal.τ).loc Cert.ConvsIdeal.main_arg9) = m ((c.tc : Thread Cert.ConvsIdeal.nD Cert.ConvsIdeal.τ).loc Cert.ConvsIdeal.main_arg9))
      ∧ θ_run (Cert.ConvsRefIdeal.defs (F := Ideal)) (onTc (τ := Cert.ConvsRefIdeal.τ) (Cert.ConvsRefIdeal.main (F := Ideal))) ⟨m', fun _ => 0, g'⟩ (fun r => ∀ c : Dev Cert.ConvsRefIdeal.nD,
          r.2.mem ((c.tc : Thread Cert.ConvsRefIdeal.nD Cert.ConvsRefIdeal.τ).loc Cert.ConvsRefIdeal.main_v278) = v0 c
          ∧ r.2.mem ((c.tc : Thread Cert.ConvsRefIdeal.nD Cert.ConvsRefIdeal.τ).loc Cert.ConvsRefIdeal.main_v279) = v1 c
          ∧ r.2.mem ((c.tc : Thread Cert.ConvsRefIdeal.nD Cert.ConvsRefIdeal.τ).loc Cert.ConvsRefIdeal.main_arg0) = m' ((c.tc : Thread Cert.ConvsRefIdeal.nD Cert.ConvsRefIdeal.τ).loc Cert.ConvsRefIdeal.main_arg0)
          ∧ r.2.mem ((c.tc : Thread Cert.ConvsRefIdeal.nD Cert.ConvsRefIdeal.τ).loc Cert.ConvsRefIdeal.main_arg1) = m' ((c.tc : Thread Cert.ConvsRefIdeal.nD Cert.ConvsRefIdeal.τ).loc Cert.ConvsRefIdeal.main_arg1)
          ∧ r.2.mem ((c.tc : Thread Cert.ConvsRefIdeal.nD Cert.ConvsRefIdeal.τ).loc Cert.ConvsRefIdeal.main_arg2) = m' ((c.tc : Thread Cert.ConvsRefIdeal.nD Cert.ConvsRefIdeal.τ).loc Cert.ConvsRefIdeal.main_arg2)
          ∧ r.2.mem ((c.tc : Thread Cert.ConvsRefIdeal.nD Cert.ConvsRefIdeal.τ).loc Cert.ConvsRefIdeal.main_arg3) = m' ((c.tc : Thread Cert.ConvsRefIdeal.nD Cert.ConvsRefIdeal.τ).loc Cert.ConvsRefIdeal.main_arg3)
          ∧ r.2.mem ((c.tc : Thread Cert.ConvsRefIdeal.nD Cert.ConvsRefIdeal.τ).loc Cert.ConvsRefIdeal.main_arg4) = m' ((c.tc : Thread Cert.ConvsRefIdeal.nD Cert.ConvsRefIdeal.τ).loc Cert.ConvsRefIdeal.main_arg4)
          ∧ r.2.mem ((c.tc : Thread Cert.ConvsRefIdeal.nD Cert.ConvsRefIdeal.τ).loc Cert.ConvsRefIdeal.main_arg5) = m' ((c.tc : Thread Cert.ConvsRefIdeal.nD Cert.ConvsRefIdeal.τ).loc Cert.ConvsRefIdeal.main_arg5)
          ∧ r.2.mem ((c.tc : Thread Cert.ConvsRefIdeal.nD Cert.ConvsRefIdeal.τ).loc Cert.ConvsRefIdeal.main_arg6) = m' ((c.tc : Thread Cert.ConvsRefIdeal.nD Cert.ConvsRefIdeal.τ).loc Cert.ConvsRefIdeal.main_arg6)
          ∧ r.2.mem ((c.tc : Thread Cert.ConvsRefIdeal.nD Cert.ConvsRefIdeal.τ).loc Cert.ConvsRefIdeal.main_arg7) = m' ((c.tc : Thread Cert.ConvsRefIdeal.nD Cert.ConvsRefIdeal.τ).loc Cert.ConvsRefIdeal.main_arg7)
          ∧ r.2.mem ((c.tc : Thread Cert.ConvsRefIdeal.nD Cert.ConvsRefIdeal.τ).loc Cert.ConvsRefIdeal.main_arg8) = m' ((c.tc : Thread Cert.ConvsRefIdeal.nD Cert.ConvsRefIdeal.τ).loc Cert.ConvsRefIdeal.main_arg8)
          ∧ r.2.mem ((c.tc : Thread Cert.ConvsRefIdeal.nD Cert.ConvsRefIdeal.τ).loc Cert.ConvsRefIdeal.main_arg9) = m' ((c.tc : Thread Cert.ConvsRefIdeal.nD Cert.ConvsRefIdeal.τ).loc Cert.ConvsRefIdeal.main_arg9))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hExperts : Cert.Experts.Facts) (hExpertsIdeal : Cert.ExpertsIdeal.Facts) (hExpertsRefIdeal : Cert.ExpertsRefIdeal.Facts) (hMemKv : Cert.MemKv.Facts) (hMemKvIdeal : Cert.MemKvIdeal.Facts) (hMemKvRefIdeal : Cert.MemKvRefIdeal.Facts) (hConvs : Cert.Convs.Facts) (hConvsIdeal : Cert.ConvsIdeal.Facts) (hConvsRefIdeal : Cert.ConvsRefIdeal.Facts) (hPre_finite_keys : Cert.Pre_finite_keys.Facts) (hPre_expert_ids : Cert.Pre_expert_ids.Facts) (hPre_routed : Cert.Pre_routed.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_InProj (hInProj := hInProj)
    ∧ quiescent_InProjIdeal (hInProjIdeal := hInProjIdeal)
    ∧ quiescent_InProjRefIdeal (hInProjRefIdeal := hInProjRefIdeal)
    ∧ quiescent_Experts (hExperts := hExperts) (hPre_expert_ids := hPre_expert_ids)
    ∧ quiescent_ExpertsIdeal (hExpertsIdeal := hExpertsIdeal) (hPre_expert_ids := hPre_expert_ids)
    ∧ quiescent_ExpertsIdeal_pre_routed (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Convs (hConvs := hConvs)
    ∧ quiescent_ConvsIdeal (hConvsIdeal := hConvsIdeal)
    ∧ quiescent_ConvsRefIdeal (hConvsRefIdeal := hConvsRefIdeal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_InProj_InProjIdeal
    ∧ algebraic_InProjIdeal_InProjRefIdeal (hInProjIdeal := hInProjIdeal) (hInProjRefIdeal := hInProjRefIdeal)
    ∧ preserves_Experts_ExpertsIdeal
    ∧ algebraic_ExpertsIdeal_ExpertsRefIdeal_pre_routed (hExpertsIdeal := hExpertsIdeal) (hExpertsRefIdeal := hExpertsRefIdeal) (hPre_routed := hPre_routed)
    ∧ preserves_MemKv_MemKvIdeal
    ∧ algebraic_MemKvIdeal_MemKvRefIdeal (hMemKvIdeal := hMemKvIdeal) (hMemKvRefIdeal := hMemKvRefIdeal)
    ∧ preserves_Convs_ConvsIdeal
    ∧ algebraic_ConvsIdeal_ConvsRefIdeal (hConvsIdeal := hConvsIdeal) (hConvsRefIdeal := hConvsRefIdeal)
-- ==== Pre_expert_ids.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S73728x1024 .f32) (main_arg3 : FVec F S32x1024x512 .f32) (main_arg4 : FVec F S32x1024x512 .f32) (main_arg5 : FVec F S32x512x1024 .f32) : IVec S288 1 × IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  (main_v1, main_v3)
-- ==== Pre_finite_keys.lean ====
abbrev S2x16384x1024 : Shape := ⟨3, ![2, 16384, 1024]⟩
abbrev S32768x384 : Shape := ⟨2, ![32768, 384]⟩
abbrev S1536x1024 : Shape := ⟨2, ![1536, 1024]⟩
abbrev S1024 : Shape := ⟨1, ![1024]⟩
abbrev S1024x1024 : Shape := ⟨2, ![1024, 1024]⟩
abbrev S2x256x1024 : Shape := ⟨3, ![2, 256, 1024]⟩
abbrev S256 : Shape := ⟨1, ![256]⟩
abbrev S_ : Shape := ⟨0, ![]⟩

class Facts : Prop where
  bitsLt_bf16_f32 : FTy.bits .bf16 < FTy.bits .f32
  bcast_S_S2x256x1024 : S_.BroadcastsInDim S2x256x1024 (![] : Fin 0 → Fin S2x256x1024.rank)
  bcast_S_S256 : S_.BroadcastsInDim S256 (![] : Fin 0 → Fin S256.rank)

variable [Facts]

def fn {F : FTy → Type} [FloatOps F] (main_arg0 : FVec F S2x16384x1024 .f32) (main_arg1 : FVec F S32768x384 .f32) (main_arg2 : FVec F S32768x384 .f32) (main_arg3 : FVec F S32768x384 .f32) (main_arg4 : FVec F S32768x384 .f32) (main_arg5 : FVec F S1536x1024 .f32) (main_arg6 : FVec F S1024 .f32) (main_arg7 : FVec F S1024x1024 .f32) (main_arg8 : FVec F S2x256x1024 .bf16) (main_arg9 : FVec F S2x256x1024 .bf16) (main_arg10 : FVec F S256 .f32) (main_arg11 : FVec F S1024x1024 .f32) : IVec S2x256x1024 1 × IVec S256 1 :=
  let main_v0 : FVec F S2x256x1024 .f32 := (extf .f32 · bitsLt_bf16_f32) main_arg8
  let main_v1 : FVec F S2x256x1024 .f32 := Host.absf main_v0
  let main_cst : FVec F S_ .f32 := constant S_ .f32 0x7F800000#32
  let main_v2 : FVec F S2x256x1024 .f32 := broadcastInDim S2x256x1024 ![] bcast_S_S2x256x1024 main_cst
  let main_v3 : IVec S2x256x1024 1 := cmpf .olt main_v1 main_v2
  let main_v4 : FVec F S256 .f32 := Host.absf main_arg10
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  (main_v3, main_v6)
-- ==== Pre_routed.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S288x256x1024 : Shape := ⟨3, ![288, 256, 1024]⟩
abbrev S_ : Shape := ⟨0, ![]⟩
abbrev S1x1x1 : Shape := ⟨3, ![1, 1, 1]⟩

class Facts : Prop where
  shapeCasts_S73728x1024_S288x256x1024 : S73728x1024.ShapeCasts S288x256x1024
  bcast_S_S288 : S_.BroadcastsInDim S288 (![] : Fin 0 → Fin S288.rank)
  bcast_S1_S1x1x1_2 : S1.BroadcastsInDim S1x1x1 (![2] : Fin 1 → Fin S1x1x1.rank)
  bcast_S1x1x1_S288x256x1024_0_1_2 : S1x1x1.BroadcastsInDim S288x256x1024 (![0, 1, 2] : Fin 3 → Fin S288x256x1024.rank)
  bcast_S_S288x256x1024 : S_.BroadcastsInDim S288x256x1024 (![] : Fin 0 → Fin S288x256x1024.rank)

variable [Facts]

def fn {F : FTy → Type} [FloatOps F] (main_arg0 : IVec S288 32) (main_arg1 : IVec S1 32) (main_arg2 : FVec F S73728x1024 .f32) (main_arg3 : FVec F S32x1024x512 .f32) (main_arg4 : FVec F S32x1024x512 .f32) (main_arg5 : FVec F S32x512x1024 .f32) : IVec S288 1 × IVec S288 1 × IVec S288x256x1024 1 :=
  let main_v0 : FVec F S288x256x1024 .f32 := shapeCast S288x256x1024 main_arg2 shapeCasts_S73728x1024_S288x256x1024
  let main_v1 : IVec S288x256x1024 32 := iotaInDim S288x256x1024 32 0
  let main_c : IVec S_ 32 := constantI S_ 32 0#32
  let main_v2 : IVec S288 32 := broadcastInDim S288 ![] bcast_S_S288 main_c
  let main_v3 : IVec S288 1 := cmpi .sge main_arg0 main_v2
  let main_c_0 : IVec S_ 32 := constantI S_ 32 32#32
  let main_v4 : IVec S288 32 := broadcastInDim S288 ![] bcast_S_S288 main_c_0
  let main_v5 : IVec S288 1 := cmpi .slt main_arg0 main_v4
  let main_v6 : IVec S1x1x1 32 := broadcastInDim S1x1x1 ![2] bcast_S1_S1x1x1_2 main_arg1
  let main_v7 : IVec S288x256x1024 32 := broadcastInDim S288x256x1024 ![0, 1, 2] bcast_S1x1x1_S288x256x1024_0_1_2 main_v6
  let main_v8 : IVec S288x256x1024 1 := cmpi .slt main_v1 main_v7
  let main_cst : FVec F S_ .f32 := constant S_ .f32 0x00000000#32
  let main_v9 : FVec F S288x256x1024 .f32 := broadcastInDim S288x256x1024 ![] bcast_S_S288x256x1024 main_cst
  let main_v10 : IVec S288x256x1024 1 := cmpf .oeq main_v0 main_v9
  let main_v11 : IVec S288x256x1024 1 := ori main_v8 main_v10
  (main_v3, main_v5, main_v11)
-- ==== Kernel.lean ====
abbrev S2x16384x1024 : Shape := ⟨3, ![2, 16384, 1024]⟩
abbrev S32768x384 : Shape := ⟨2, ![32768, 384]⟩
abbrev S1536x1024 : Shape := ⟨2, ![1536, 1024]⟩
abbrev S1024 : Shape := ⟨1, ![1024]⟩
abbrev S1024x1024 : Shape := ⟨2, ![1024, 1024]⟩
abbrev S2x256x1024 : Shape := ⟨3, ![2, 256, 1024]⟩
abbrev S256 : Shape := ⟨1, ![256]⟩
abbrev S32768x1024 : Shape := ⟨2, ![32768, 1024]⟩
abbrev S384x1024 : Shape := ⟨2, ![384, 1024]⟩
abbrev S1x1024 : Shape := ⟨2, ![1, 1024]⟩
abbrev S1x256 : Shape := ⟨2, ![1, 256]⟩
abbrev S512x1024 : Shape := ⟨2, ![512, 1024]⟩
abbrev S512x384 : Shape := ⟨2, ![512, 384]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 23
  | .vmem => 24
  | .smem => 0
  | _ => 0

abbrev bufTy : (tb : Table) → Fin (tcTables nBuf tb) → BufTy
  | .hbm, ⟨0, _⟩ => ⟨S2x16384x1024, .f32⟩
  | .hbm, ⟨1, _⟩ => ⟨S32768x384, .f32⟩
  | .hbm, ⟨2, _⟩ => ⟨S32768x384, .f32⟩
  | .hbm, ⟨3, _⟩ => ⟨S32768x384, .f32⟩
  | .hbm, ⟨4, _⟩ => ⟨S32768x384, .f32⟩
  | .hbm, ⟨5, _⟩ => ⟨S1536x1024, .f32⟩
  | .hbm, ⟨6, _⟩ => ⟨S1024, .f32⟩
  | .hbm, ⟨7, _⟩ => ⟨S1024x1024, .f32⟩
  | .hbm, ⟨8, _⟩ => ⟨S2x256x1024, .bf16⟩
  | .hbm, ⟨9, _⟩ => ⟨S2x256x1024, .bf16⟩
  | .hbm, ⟨10, _⟩ => ⟨S256, .f32⟩
  | .hbm, ⟨11, _⟩ => ⟨S1024x1024, .f32⟩
  | .hbm, ⟨12, _⟩ => ⟨S32768x1024, .f32⟩
  | .hbm, ⟨13, _⟩ => ⟨S1536x1024, .bf16⟩
  | .hbm, ⟨14, _⟩ => ⟨S1024x1024, .bf16⟩
  | .hbm, ⟨15, _⟩ => ⟨S1024x1024, .bf16⟩
  | .hbm, ⟨16, _⟩ => ⟨S384x1024, .bf16⟩
  | .hbm, ⟨17, _⟩ => ⟨S384x1024, .bf16⟩
  | .hbm, ⟨18, _⟩ => ⟨S384x1024, .bf16⟩
  | .hbm, ⟨19, _⟩ => ⟨S384x1024, .bf16⟩
  | .hbm, ⟨20, _⟩ => ⟨S1x1024, .f32⟩
  | .hbm, ⟨21, _⟩ => ⟨S1x256, .f32⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | .local _ .vmem, ⟨14, _⟩ => ⟨S1x1024, .f32⟩
  | .local _ .vmem, ⟨15, _⟩ => ⟨S1024x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256, .f32⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S2x16384x1024 : Shape := ⟨3, ![2, 16384, 1024]⟩
abbrev S32768x384 : Shape := ⟨2, ![32768, 384]⟩
abbrev S1536x1024 : Shape := ⟨2, ![1536, 1024]⟩
abbrev S1024 : Shape := ⟨1, ![1024]⟩
abbrev S1024x1024 : Shape := ⟨2, ![1024, 1024]⟩
abbrev S2x256x1024 : Shape := ⟨3, ![2, 256, 1024]⟩
abbrev S256 : Shape := ⟨1, ![256]⟩
abbrev S2x16384x384 : Shape := ⟨3, ![2, 16384, 384]⟩
abbrev S2x16384x1536 : Shape := ⟨3, ![2, 16384, 1536]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4x256 : Shape := ⟨4, ![2, 16384, 4, 256]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩
abbrev S2x256x4x256 : Shape := ⟨4, ![2, 256, 4, 256]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩
abbrev S32768x1024 : Shape := ⟨2, ![32768, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x384, .f32⟩
  | .hbm, ⟨2, _⟩ => ⟨S32768x384, .f32⟩
  | .hbm, ⟨3, _⟩ => ⟨S32768x384, .f32⟩
  | .hbm, ⟨4, _⟩ => ⟨S32768x384, .f32⟩
  | .hbm, ⟨5, _⟩ => ⟨S1536x1024, .f32⟩
  | .hbm, ⟨6, _⟩ => ⟨S1024, .f32⟩
  | .hbm, ⟨7, _⟩ => ⟨S1024x1024, .f32⟩
  | .hbm, ⟨8, _⟩ => ⟨S2x256x1024, .bf16⟩
  | .hbm, ⟨9, _⟩ => ⟨S2x256x1024, .bf16⟩
  | .hbm, ⟨10, _⟩ => ⟨S256, .f32⟩
  | .hbm, ⟨11, _⟩ => ⟨S1024x1024, .f32⟩
  | .hbm, ⟨12, _⟩ => ⟨S2x16384x384, .f32⟩
  | .hbm, ⟨13, _⟩ => ⟨S2x16384x384, .f32⟩
  | .hbm, ⟨14, _⟩ => ⟨S2x16384x384, .f32⟩
  | .hbm, ⟨15, _⟩ => ⟨S2x16384x384, .f32⟩
  | .hbm, ⟨16, _⟩ => ⟨S2x16384x1536, .f32⟩
  | .hbm, ⟨17, _⟩ => ⟨S2x16384x1024, .f32⟩
  | .hbm, ⟨18, _⟩ => ⟨S2x16384x1024, .f32⟩
  | .hbm, ⟨19, _⟩ => ⟨S2x16384x1024, .f32⟩
  | .hbm, ⟨20, _⟩ => ⟨S_, .f32⟩
  | .hbm, ⟨21, _⟩ => ⟨S2x16384, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S2x16384x1, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x4x256, .f32⟩
  | .hbm, ⟨37, _⟩ => ⟨S2x16384x4x256, .f32⟩
  | .hbm, ⟨38, _⟩ => ⟨S_, .f32⟩
  | .hbm, ⟨39, _⟩ => ⟨S2x16384x4, .f32⟩
  | .hbm, ⟨40, _⟩ => ⟨S2x16384x4x1, .f32⟩
  | .hbm, ⟨41, _⟩ => ⟨S_, .f32⟩
  | .hbm, ⟨42, _⟩ => ⟨S2x16384x4x1, .f32⟩
  | .hbm, ⟨43, _⟩ => ⟨S2x16384x4x1, .f32⟩
  | .hbm, ⟨44, _⟩ => ⟨S_, .f32⟩
  | .hbm, ⟨45, _⟩ => ⟨S2x16384x4x1, .f32⟩
  | .hbm, ⟨46, _⟩ => ⟨S2x16384x4x1, .f32⟩
  | .hbm, ⟨47, _⟩ => ⟨S2x16384x4x1, .f32⟩
  | .hbm, ⟨48, _⟩ => ⟨S2x16384x4x256, .f32⟩
  | .hbm, ⟨49, _⟩ => ⟨S2x16384x4x256, .f32⟩
  | .hbm, ⟨50, _⟩ => ⟨S1x1x1x256, .f32⟩
  | .hbm, ⟨51, _⟩ => ⟨S2x16384x4x256, .f32⟩
  | .hbm, ⟨52, _⟩ => ⟨S2x16384x4x256, .f32⟩
  | .hbm, ⟨53, _⟩ => ⟨S2x256x4x256, .bf16⟩
  | .hbm, ⟨54, _⟩ => ⟨S2x256x4x256, .bf16⟩
  | .hbm, ⟨55, _⟩ => ⟨S2x256x4x256, .f32⟩
  | .hbm, ⟨56, _⟩ => ⟨S2x4x16384x256, .f32⟩
  | .hbm, ⟨57, _⟩ => ⟨S_, .f32⟩
  | .hbm, ⟨58, _⟩ => ⟨S2x4x16384x256, .f32⟩
  | .hbm, ⟨59, _⟩ => ⟨S2x4x16384x256, .f32⟩
  | .hbm, ⟨60, _⟩ => ⟨S_, .f32⟩
  | .hbm, ⟨61, _⟩ => ⟨S2x4x16384, .f32⟩
  | .hbm, ⟨62, _⟩ => ⟨S_, .f32⟩
  | .hbm, ⟨63, _⟩ => ⟨S2x4x16384, .f32⟩
  | .hbm, ⟨64, _⟩ => ⟨S2x4x16384, .f32⟩
  | .hbm, ⟨65, _⟩ => ⟨S2x4x16384x1, .f32⟩
  | .hbm, ⟨66, _⟩ => ⟨S2x4x16384x256, .f32⟩
  | .hbm, ⟨67, _⟩ => ⟨S2x4x16384x256, .f32⟩
  | .hbm, ⟨68, _⟩ => ⟨S2x4x16384x256, .f32⟩
  | .hbm, ⟨69, _⟩ => ⟨S_, .f32⟩
  | .hbm, ⟨70, _⟩ => ⟨S2x4x16384, .f32⟩
  | .hbm, ⟨71, _⟩ => ⟨S2x4x16384x1, .f32⟩
  | .hbm, ⟨72, _⟩ => ⟨S2x4x16384x256, .f32⟩
  | .hbm, ⟨73, _⟩ => ⟨S2x4x16384x256, .f32⟩
  | .hbm, ⟨74, _⟩ => ⟨S2x256x4x256, .f32⟩
  | .hbm, ⟨75, _⟩ => ⟨S2x4x256x16384, .f32⟩
  | .hbm, ⟨76, _⟩ => ⟨S2x16384x4x256, .f32⟩
  | .hbm, ⟨77, _⟩ => ⟨S2x16384x1024, .f32⟩
  | .hbm, ⟨78, _⟩ => ⟨S2x16384x1024, .f32⟩
  | .hbm, ⟨79, _⟩ => ⟨S2x16384x1024, .f32⟩
  | .hbm, ⟨80, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== InProj.lean ====
abbrev S2x16384x1024 : Shape := ⟨3, ![2, 16384, 1024]⟩
abbrev S1024 : Shape := ⟨1, ![1024]⟩
abbrev S1024x4358 : Shape := ⟨2, ![1024, 4358]⟩
abbrev S32768x1024 : Shape := ⟨2, ![32768, 1024]⟩
abbrev S1x1024 : Shape := ⟨2, ![1, 1024]⟩
abbrev S1024x384 : Shape := ⟨2, ![1024, 384]⟩
abbrev S1024x896 : Shape := ⟨2, ![1024, 896]⟩
abbrev S1024x6 : Shape := ⟨2, ![1024, 6]⟩
abbrev S_ : Shape := ⟨0, ![]⟩
abbrev S1024x128 : Shape := ⟨2, ![1024, 128]⟩
abbrev S32768x896 : Shape := ⟨2, ![32768, 896]⟩
abbrev S32768x128 : Shape := ⟨2, ![32768, 128]⟩
abbrev S32768x384 : Shape := ⟨2, ![32768, 384]⟩
abbrev S512x1024 : Shape := ⟨2, ![512, 1024]⟩
abbrev S512x896 : Shape := ⟨2, ![512, 896]⟩
abbrev S512x128 : Shape := ⟨2, ![512, 128]⟩
abbrev S512x384 : Shape := ⟨2, ![512, 384]⟩
abbrev S512 : Shape := ⟨1, ![512]⟩
abbrev S512x1 : Shape := ⟨2, ![512, 1]⟩

abbrev nBuf : Space → Nat
  | .hbm => 41
  | .vmem => 36
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4358, .f32⟩
  | .hbm, ⟨3, _⟩ => ⟨S32768x1024, .f32⟩
  | .hbm, ⟨4, _⟩ => ⟨S1x1024, .f32⟩
  | .hbm, ⟨5, _⟩ => ⟨S1024x384, .f32⟩
  | .hbm, ⟨6, _⟩ => ⟨S1024x896, .f32⟩
  | .hbm, ⟨7, _⟩ => ⟨S1024x6, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S1024x384, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x896, .bf16⟩
  | .hbm, ⟨20, _⟩ => ⟨S1024x128, .bf16⟩
  | .hbm, ⟨21, _⟩ => ⟨S1024x384, .bf16⟩
  | .hbm, ⟨22, _⟩ => ⟨S1024x384, .bf16⟩
  | .hbm, ⟨23, _⟩ => ⟨S1024x384, .bf16⟩
  | .hbm, ⟨24, _⟩ => ⟨S1024x384, .bf16⟩
  | .hbm, ⟨25, _⟩ => ⟨S1024x384, .bf16⟩
  | .hbm, ⟨26, _⟩ => ⟨S1024x384, .bf16⟩
  | .hbm, ⟨27, _⟩ => ⟨S1024x384, .bf16⟩
  | .hbm, ⟨28, _⟩ => ⟨S1024x384, .bf16⟩
  | .hbm, ⟨29, _⟩ => ⟨S1024x384, .bf16⟩
  | .hbm, ⟨30, _⟩ => ⟨S32768x896, .f32⟩
  | .hbm, ⟨31, _⟩ => ⟨S32768x128, .f32⟩
  | .hbm, ⟨32, _⟩ => ⟨S32768x384, .f32⟩
  | .hbm, ⟨33, _⟩ => ⟨S32768x384, .f32⟩
  | .hbm, ⟨34, _⟩ => ⟨S32768x384, .f32⟩
  | .hbm, ⟨35, _⟩ => ⟨S32768x384, .f32⟩
  | .hbm, ⟨36, _⟩ => ⟨S32768x384, .f32⟩
  | .hbm, ⟨37, _⟩ => ⟨S32768x384, .f32⟩
  | .hbm, ⟨38, _⟩ => ⟨S32768x384, .f32⟩
  | .hbm, ⟨39, _⟩ => ⟨S32768x384, .f32⟩
  | .hbm, ⟨40, _⟩ => ⟨S32768x384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x896, .bf16⟩
  | .local _ .vmem, ⟨4, _⟩ => ⟨S1024x128, .bf16⟩
  | .local _ .vmem, ⟨5, _⟩ => ⟨S1024x384, .bf16⟩
  | .local _ .vmem, ⟨6, _⟩ => ⟨S1024x384, .bf16⟩
  | .local _ .vmem, ⟨7, _⟩ => ⟨S1024x384, .bf16⟩
  | .local _ .vmem, ⟨8, _⟩ => ⟨S1024x384, .bf16⟩
  | .local _ .vmem, ⟨9, _⟩ => ⟨S1024x384, .bf16⟩
  | .local _ .vmem, ⟨10, _⟩ => ⟨S1024x384, .bf16⟩
  | .local _ .vmem, ⟨11, _⟩ => ⟨S1024x384, .bf16⟩
  | .local _ .vmem, ⟨12, _⟩ => ⟨S1024x384, .bf16⟩
  | .local _ .vmem, ⟨13, _⟩ => ⟨S1024x384, .bf16⟩
  | .local _ .vmem, ⟨14, _⟩ => ⟨S512x896, .f32⟩
  | .local _ .vmem, ⟨15, _⟩ => ⟨S512x896, .f32⟩
  | .local _ .vmem, ⟨16, _⟩ => ⟨S512x128, .f32⟩
  | .local _ .vmem, ⟨17, _⟩ => ⟨S512x128, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x384, .f32⟩
  | .local _ .vmem, ⟨22, _⟩ => ⟨S512x384, .f32⟩
  | .local _ .vmem, ⟨23, _⟩ => ⟨S512x384, .f32⟩
  | .local _ .vmem, ⟨24, _⟩ => ⟨S512x384, .f32⟩
  | .local _ .vmem, ⟨25, _⟩ => ⟨S512x384, .f32⟩
  | .local _ .vmem, ⟨26, _⟩ => ⟨S512x384, .f32⟩
  | .local _ .vmem, ⟨27, _⟩ => ⟨S512x384, .f32⟩
  | .local _ .vmem, ⟨28, _⟩ => ⟨S512x384, .f32⟩
  | .local _ .vmem, ⟨29, _⟩ => ⟨S512x384, .f32⟩
  | .local _ .vmem, ⟨30, _⟩ => ⟨S512x384, .f32⟩
  | .local _ .vmem, ⟨31, _⟩ => ⟨S512x384, .f32⟩
  | .local _ .vmem, ⟨32, _⟩ => ⟨S512x384, .f32⟩
  | .local _ .vmem, ⟨33, _⟩ => ⟨S512x384, .f32⟩
  | .local _ .vmem, ⟨34, _⟩ => ⟨S512x384, .f32⟩
  | .local _ .vmem, ⟨35, _⟩ => ⟨S512x384, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v25_3 : Ref sig .tc := ⟨.hbm, 33, rfl⟩
abbrev main_v25_4 : Ref sig .tc := ⟨.hbm, 34, rfl⟩
abbrev main_v25_5 : Ref sig .tc := ⟨.hbm, 35, rfl⟩
abbrev main_v25_6 : Ref sig .tc := ⟨.hbm, 36, rfl⟩
abbrev main_v25_7 : Ref sig .tc := ⟨.hbm, 37, rfl⟩
abbrev main_v25_8 : Ref sig .tc := ⟨.hbm, 38, rfl⟩
abbrev main_v25_9 : Ref sig .tc := ⟨.hbm, 39, rfl⟩
abbrev main_v25_10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x896 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x384 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x384 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x384 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== InProjRefIdeal.lean ====
abbrev S2x16384x1024 : Shape := ⟨3, ![2, 16384, 1024]⟩
abbrev S1024 : Shape := ⟨1, ![1024]⟩
abbrev S1024x4358 : Shape := ⟨2, ![1024, 4358]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4358 : Shape := ⟨3, ![2, 16384, 4358]⟩
abbrev S2x16384x384 : Shape := ⟨3, ![2, 16384, 384]⟩
abbrev S2x16384x896 : Shape := ⟨3, ![2, 16384, 896]⟩
abbrev S2x16384x6 : Shape := ⟨3, ![2, 16384, 6]⟩
abbrev S2x16384x128 : Shape := ⟨3, ![2, 16384, 128]⟩
abbrev S32768x896 : Shape := ⟨2, ![32768, 896]⟩
abbrev S32768x128 : Shape := ⟨2, ![32768, 128]⟩
abbrev S32768x384 : Shape := ⟨2, ![32768, 384]⟩

abbrev nBuf : Space → Nat
  | .hbm => 45
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4358, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x4358, .f32⟩
  | .hbm, ⟨20, _⟩ => ⟨S2x16384x384, .f32⟩
  | .hbm, ⟨21, _⟩ => ⟨S2x16384x896, .f32⟩
  | .hbm, ⟨22, _⟩ => ⟨S2x16384x6, .f32⟩
  | .hbm, ⟨23, _⟩ => ⟨S2x16384x384, .f32⟩
  | .hbm, ⟨24, _⟩ => ⟨S2x16384x384, .f32⟩
  | .hbm, ⟨25, _⟩ => ⟨S2x16384x384, .f32⟩
  | .hbm, ⟨26, _⟩ => ⟨S2x16384x384, .f32⟩
  | .hbm, ⟨27, _⟩ => ⟨S2x16384x384, .f32⟩
  | .hbm, ⟨28, _⟩ => ⟨S2x16384x384, .f32⟩
  | .hbm, ⟨29, _⟩ => ⟨S2x16384x384, .f32⟩
  | .hbm, ⟨30, _⟩ => ⟨S2x16384x384, .f32⟩
  | .hbm, ⟨31, _⟩ => ⟨S_, .i32⟩
  | .hbm, ⟨32, _⟩ => ⟨S_, .f32⟩
  | .hbm, ⟨33, _⟩ => ⟨S2x16384x128, .f32⟩
  | .hbm, ⟨34, _⟩ => ⟨S32768x896, .f32⟩
  | .hbm, ⟨35, _⟩ => ⟨S32768x128, .f32⟩
  | .hbm, ⟨36, _⟩ => ⟨S32768x384, .f32⟩
  | .hbm, ⟨37, _⟩ => ⟨S32768x384, .f32⟩
  | .hbm, ⟨38, _⟩ => ⟨S32768x384, .f32⟩
  | .hbm, ⟨39, _⟩ => ⟨S32768x384, .f32⟩
  | .hbm, ⟨40, _⟩ => ⟨S32768x384, .f32⟩
  | .hbm, ⟨41, _⟩ => ⟨S32768x384, .f32⟩
  | .hbm, ⟨42, _⟩ => ⟨S32768x384, .f32⟩
  | .hbm, ⟨43, _⟩ => ⟨S32768x384, .f32⟩
  | .hbm, ⟨44, _⟩ => ⟨S32768x384, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S288x256x1024 : Shape := ⟨3, ![288, 256, 1024]⟩
abbrev S_ : Shape := ⟨0, ![]⟩
abbrev S288x1 : Shape := ⟨2, ![288, 1]⟩
abbrev S288x3 : Shape := ⟨2, ![288, 3]⟩
abbrev S288x1x1024x512 : Shape := ⟨4, ![288, 1, 1024, 512]⟩
abbrev S288x1024x512 : Shape := ⟨3, ![288, 1024, 512]⟩
abbrev S288x256x512 : Shape := ⟨3, ![288, 256, 512]⟩
abbrev S288x1x512x1024 : Shape := ⟨4, ![288, 1, 512, 1024]⟩
abbrev S288x512x1024 : Shape := ⟨3, ![288, 512, 1024]⟩

abbrev nBuf : Space → Nat
  | .hbm => 108
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S288x256x1024, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S288x1, .i32⟩
  | .hbm, ⟨31, _⟩ => ⟨S288x1, .i32⟩
  | .hbm, ⟨32, _⟩ => ⟨S288x1, .i32⟩
  | .hbm, ⟨33, _⟩ => ⟨S288x3, .i32⟩
  | .hbm, ⟨34, _⟩ => ⟨S288x1x1024x512, .f32⟩
  | .hbm, ⟨35, _⟩ => ⟨S288x1024x512, .f32⟩
  | .hbm, ⟨36, _⟩ => ⟨S288x256x512, .f32⟩
  | .hbm, ⟨37, _⟩ => ⟨S288x256x512, .f32⟩
  | .hbm, ⟨38, _⟩ => ⟨S288x256x512, .f32⟩
  | .hbm, ⟨39, _⟩ => ⟨S_, .f32⟩
  | .hbm, ⟨40, _⟩ => ⟨S288x256x512, .f32⟩
  | .hbm, ⟨41, _⟩ => ⟨S288x256x512, .f32⟩
  | .hbm, ⟨42, _⟩ => ⟨S_, .f32⟩
  | .hbm, ⟨43, _⟩ => ⟨S288x256x512, .f32⟩
  | .hbm, ⟨44, _⟩ => ⟨S288x256x512, .f32⟩
  | .hbm, ⟨45, _⟩ => ⟨S288x256x512, .f32⟩
  | .hbm, ⟨46, _⟩ => ⟨S_, .i32⟩
  | .hbm, ⟨47, _⟩ => ⟨S288, .i32⟩
  | .hbm, ⟨48, _⟩ => ⟨S288, .i1⟩
  | .hbm, ⟨49, _⟩ => ⟨S_, .i32⟩
  | .hbm, ⟨50, _⟩ => ⟨S288, .i32⟩
  | .hbm, ⟨51, _⟩ => ⟨S288, .i32⟩
  | .hbm, ⟨52, _⟩ => ⟨S288, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S288x1, .i32⟩
  | .hbm, ⟨70, _⟩ => ⟨S288x1, .i32⟩
  | .hbm, ⟨71, _⟩ => ⟨S288x1, .i32⟩
  | .hbm, ⟨72, _⟩ => ⟨S288x3, .i32⟩
  | .hbm, ⟨73, _⟩ => ⟨S288x1x1024x512, .f32⟩
  | .hbm, ⟨74, _⟩ => ⟨S288x1024x512, .f32⟩
  | .hbm, ⟨75, _⟩ => ⟨S288x256x512, .f32⟩
  | .hbm, ⟨76, _⟩ => ⟨S288x256x512, .f32⟩
  | .hbm, ⟨77, _⟩ => ⟨S_, .i32⟩
  | .hbm, ⟨78, _⟩ => ⟨S288, .i32⟩
  | .hbm, ⟨79, _⟩ => ⟨S288, .i1⟩
  | .hbm, ⟨80, _⟩ => ⟨S_, .i32⟩
  | .hbm, ⟨81, _⟩ => ⟨S288, .i32⟩
  | .hbm, ⟨82, _⟩ => ⟨S288, .i32⟩
  | .hbm, ⟨83, _⟩ => ⟨S288, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S288x1, .i32⟩
  | .hbm, ⟨101, _⟩ => ⟨S288x1, .i32⟩
  | .hbm, ⟨102, _⟩ => ⟨S288x1, .i32⟩
  | .hbm, ⟨103, _⟩ => ⟨S288x3, .i32⟩
  | .hbm, ⟨104, _⟩ => ⟨S288x1x512x1024, .f32⟩
  | .hbm, ⟨105, _⟩ => ⟨S288x512x1024, .f32⟩
  | .hbm, ⟨106, _⟩ => ⟨S288x256x1024, .f32⟩
  | .hbm, ⟨107, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_c_4 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_c_6 : Ref sig .tc := ⟨.hbm, 22, rfl⟩
abbrev main_c_7 : Ref sig .tc := ⟨.hbm, 23, rfl⟩
abbrev main_v9 : Ref sig .tc := ⟨.hbm, 24, rfl⟩
abbrev main_c_8 : Ref sig .tc := ⟨.hbm, 25, rfl⟩
abbrev main_c_9 : Ref sig .tc := ⟨.hbm, 26, rfl⟩
abbrev main_v10 : Ref sig .tc := ⟨.hbm, 27, rfl⟩
abbrev main_c_10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v19 : Ref sig .tc := ⟨.hbm, 45, rfl⟩
abbrev main_c_11 : Ref sig .tc := ⟨.hbm, 46, rfl⟩
abbrev main_v20 : Ref sig .tc := ⟨.hbm, 47, rfl⟩
abbrev main_v21 : Ref sig .tc := ⟨.hbm, 48, rfl⟩
abbrev main_c_12 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_13 : Ref sig .tc := ⟨.hbm, 53, rfl⟩
abbrev main_c_14 : Ref sig .tc := ⟨.hbm, 54, rfl⟩
abbrev main_v25 : Ref sig .tc := ⟨.hbm, 55, rfl⟩
abbrev main_c_15 : Ref sig .tc := ⟨.hbm, 56, rfl⟩
abbrev main_c_16 : Ref sig .tc := ⟨.hbm, 57, rfl⟩
abbrev main_v26 : Ref sig .tc := ⟨.hbm, 58, rfl⟩
abbrev main_c_17 : Ref sig .tc := ⟨.hbm, 59, rfl⟩
abbrev main_v27 : Ref sig .tc := ⟨.hbm, 60, rfl⟩
abbrev main_c_18 : Ref sig .tc := ⟨.hbm, 61, rfl⟩
abbrev main_c_19 : Ref sig .tc := ⟨.hbm, 62, rfl⟩
abbrev main_v28 : Ref sig .tc := ⟨.hbm, 63, rfl⟩
abbrev main_c_20 : Ref sig .tc := ⟨.hbm, 64, rfl⟩
abbrev main_c_21 : Ref sig .tc := ⟨.hbm, 65, rfl⟩
abbrev main_v29 : Ref sig .tc := ⟨.hbm, 66, rfl⟩
abbrev main_c_22 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_23 : Ref sig .tc := ⟨.hbm, 77, rfl⟩
abbrev main_v39 : Ref sig .tc := ⟨.hbm, 78, rfl⟩
abbrev main_v40 : Ref sig .tc := ⟨.hbm, 79, rfl⟩
abbrev main_c_24 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_25 : Ref sig .tc := ⟨.hbm, 84, rfl⟩
abbrev main_c_26 : Ref sig .tc := ⟨.hbm, 85, rfl⟩
abbrev main_v44 : Ref sig .tc := ⟨.hbm, 86, rfl⟩
abbrev main_c_27 : Ref sig .tc := ⟨.hbm, 87, rfl⟩
abbrev main_c_28 : Ref sig .tc := ⟨.hbm, 88, rfl⟩
abbrev main_v45 : Ref sig .tc := ⟨.hbm, 89, rfl⟩
abbrev main_c_29 : Ref sig .tc := ⟨.hbm, 90, rfl⟩
abbrev main_v46 : Ref sig .tc := ⟨.hbm, 91, rfl⟩
abbrev main_c_30 : Ref sig .tc := ⟨.hbm, 92, rfl⟩
abbrev main_c_31 : Ref sig .tc := ⟨.hbm, 93, rfl⟩
abbrev main_v47 : Ref sig .tc := ⟨.hbm, 94, rfl⟩
abbrev main_c_32 : Ref sig .tc := ⟨.hbm, 95, rfl⟩
abbrev main_c_33 : Ref sig .tc := ⟨.hbm, 96, rfl⟩
abbrev main_v48 : Ref sig .tc := ⟨.hbm, 97, rfl⟩
abbrev main_c_34 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩

abbrev nD : Nat := 1
abbrev τ : Topo := Topo.v7x

variable {F : FTy → Type} [FloatOps F]
-- ==== MemKv.lean ====
abbrev S2x256x1024 : Shape := ⟨3, ![2, 256, 1024]⟩
abbrev S1024 : Shape := ⟨1, ![1024]⟩
abbrev S1024x2048 : Shape := ⟨2, ![1024, 2048]⟩
abbrev S256 : Shape := ⟨1, ![256]⟩
abbrev S1x1024 : Shape := ⟨2, ![1, 1024]⟩
abbrev S1x256 : Shape := ⟨2, ![1, 256]⟩
abbrev S1x256x1024 : Shape := ⟨3, ![1, 256, 1024]⟩
abbrev S256x1024 : Shape := ⟨2, ![256, 1024]⟩
abbrev S256x1 : Shape := ⟨2, ![256, 1]⟩
abbrev S256x2048 : Shape := ⟨2, ![256, 2048]⟩
abbrev S256x256 : Shape := ⟨2, ![256, 256]⟩
abbrev S1x256x256 : Shape := ⟨3, ![1, 256, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S256, .f32⟩
  | .hbm, ⟨4, _⟩ => ⟨S1024x2048, .bf16⟩
  | .hbm, ⟨5, _⟩ => ⟨S1x1024, .f32⟩
  | .hbm, ⟨6, _⟩ => ⟨S1x256, .f32⟩
  | .hbm, ⟨7, _⟩ => ⟨S2x256x1024, .bf16⟩
  | .hbm, ⟨8, _⟩ => ⟨S2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S2x256x1024 : Shape := ⟨3, ![2, 256, 1024]⟩
abbrev S1024 : Shape := ⟨1, ![1024]⟩
abbrev S1024x2048 : Shape := ⟨2, ![1024, 2048]⟩
abbrev S256 : Shape := ⟨1, ![256]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S2x256x4x256 : Shape := ⟨4, ![2, 256, 4, 256]⟩
abbrev S2x256x4 : Shape := ⟨3, ![2, 256, 4]⟩
abbrev S2x256x4x1 : Shape := ⟨4, ![2, 256, 4, 1]⟩
abbrev S1x1x1x256 : Shape := ⟨4, ![1, 1, 1, 256]⟩

abbrev nBuf : Space → Nat
  | .hbm => 43
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S256, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x2048, .f32⟩
  | .hbm, ⟨21, _⟩ => ⟨S2x256x1024, .f32⟩
  | .hbm, ⟨22, _⟩ => ⟨S2x256x1024, .f32⟩
  | .hbm, ⟨23, _⟩ => ⟨S2x256x4x256, .f32⟩
  | .hbm, ⟨24, _⟩ => ⟨S2x256x4x256, .f32⟩
  | .hbm, ⟨25, _⟩ => ⟨S_, .f32⟩
  | .hbm, ⟨26, _⟩ => ⟨S2x256x4, .f32⟩
  | .hbm, ⟨27, _⟩ => ⟨S2x256x4x1, .f32⟩
  | .hbm, ⟨28, _⟩ => ⟨S_, .f32⟩
  | .hbm, ⟨29, _⟩ => ⟨S2x256x4x1, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S2x256x4x1, .f32⟩
  | .hbm, ⟨35, _⟩ => ⟨S2x256x4x256, .f32⟩
  | .hbm, ⟨36, _⟩ => ⟨S2x256x4x256, .f32⟩
  | .hbm, ⟨37, _⟩ => ⟨S1x1x1x256, .f32⟩
  | .hbm, ⟨38, _⟩ => ⟨S2x256x4x256, .f32⟩
  | .hbm, ⟨39, _⟩ => ⟨S2x256x4x256, .f32⟩
  | .hbm, ⟨40, _⟩ => ⟨S2x256x1024, .f32⟩
  | .hbm, ⟨41, _⟩ => ⟨S2x256x1024, .bf16⟩
  | .hbm, ⟨42, _⟩ => ⟨S2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Convs.lean ====
abbrev S32768x384 : Shape := ⟨2, ![32768, 384]⟩
abbrev S3x384 : Shape := ⟨2, ![3, 384]⟩
abbrev S31x384 : Shape := ⟨2, ![31, 384]⟩
abbrev S384 : Shape := ⟨1, ![384]⟩
abbrev S1x384 : Shape := ⟨2, ![1, 384]⟩
abbrev S512x384 : Shape := ⟨2, ![512, 384]⟩
abbrev S520x384 : Shape := ⟨2, ![520, 384]⟩
abbrev S544x384 : Shape := ⟨2, ![544, 384]⟩
abbrev S8x384 : Shape := ⟨2, ![8, 384]⟩
abbrev S32x384 : Shape := ⟨2, ![32, 384]⟩
abbrev S64x384 : Shape := ⟨2, ![64, 384]⟩
abbrev S72x384 : Shape := ⟨2, ![72, 384]⟩
abbrev S64 : Shape := ⟨1, ![64]⟩
abbrev S64x1 : Shape := ⟨2, ![64, 1]⟩

abbrev nBuf : Space → Nat
  | .hbm => 15
  | .vmem => 21
  | .smem => 0
  | _ => 0

abbrev bufTy : (tb : Table) → Fin (tcTables nBuf tb) → BufTy
  | .hbm, ⟨0, _⟩ => ⟨S32768x384, .f32⟩
  | .hbm, ⟨1, _⟩ => ⟨S32768x384, .f32⟩
  | .hbm, ⟨2, _⟩ => ⟨S32768x384, .f32⟩
  | .hbm, ⟨3, _⟩ => ⟨S32768x384, .f32⟩
  | .hbm, ⟨4, _⟩ => ⟨S32768x384, .f32⟩
  | .hbm, ⟨5, _⟩ => ⟨S3x384, .f32⟩
  | .hbm, ⟨6, _⟩ => ⟨S31x384, .f32⟩
  | .hbm, ⟨7, _⟩ => ⟨S384, .f32⟩
  | .hbm, ⟨8, _⟩ => ⟨S384, .f32⟩
  | .hbm, ⟨9, _⟩ => ⟨S384, .f32⟩
  | .hbm, ⟨10, _⟩ => ⟨S1x384, .f32⟩
  | .hbm, ⟨11, _⟩ => ⟨S1x384, .f32⟩
  | .hbm, ⟨12, _⟩ => ⟨S1x384, .f32⟩
  | .hbm, ⟨13, _⟩ => ⟨S32768x384, .f32⟩
  | .hbm, ⟨14, _⟩ => ⟨S32768x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S3x384, .f32⟩
  | .local _ .vmem, ⟨11, _⟩ => ⟨S31x384, .f32⟩
  | .local _ .vmem, ⟨12, _⟩ => ⟨S1x384, .f32⟩
  | .local _ .vmem, ⟨13, _⟩ => ⟨S1x384, .f32⟩
  | .local _ .vmem, ⟨14, _⟩ => ⟨S1x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S512x384, .f32⟩
  | .local _ .vmem, ⟨19, _⟩ => ⟨S520x384, .f32⟩
  | .local _ .vmem, ⟨20, _⟩ => ⟨S544x384, .f32⟩
  | _, _ => ⟨S32768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ConvsRefIdeal.lean ====
abbrev S32768x384 : Shape := ⟨2, ![32768, 384]⟩
abbrev S3x384 : Shape := ⟨2, ![3, 384]⟩
abbrev S31x384 : Shape := ⟨2, ![31, 384]⟩
abbrev S384 : Shape := ⟨1, ![384]⟩
abbrev S2x16384x384 : Shape := ⟨3, ![2, 16384, 384]⟩
abbrev S_ : Shape := ⟨0, ![]⟩
abbrev S2x16386x384 : Shape := ⟨3, ![2, 16386, 384]⟩
abbrev S1x384 : Shape := ⟨2, ![1, 384]⟩
abbrev S1x1x384 : Shape := ⟨3, ![1, 1, 384]⟩
abbrev S2x16414x384 : Shape := ⟨3, ![2, 16414, 384]⟩
abbrev S2x16384 : Shape := ⟨2, ![2, 16384]⟩
abbrev S2x16384x1 : Shape := ⟨3, ![2, 16384, 1]⟩

abbrev nBuf : Space → Nat
  | .hbm => 309
  | .vmem => 0
  | .smem => 0
  | _ => 0

abbrev hbmTy0_0 (i : Nat) : BufTy := match i % 128 with
  | 0 => ⟨S32768x384, .f32⟩
  | 1 => ⟨S32768x384, .f32⟩
  | 2 => ⟨S32768x384, .f32⟩
  | 3 => ⟨S32768x384, .f32⟩
  | 4 => ⟨S32768x384, .f32⟩
  | 5 => ⟨S3x384, .f32⟩
  | 6 => ⟨S31x384, .f32⟩
  | 7 => ⟨S384, .f32⟩
  | 8 => ⟨S384, .f32⟩
  | 9 => ⟨S384, .f32⟩
  | 10 => ⟨S2x16384x384, .f32⟩
  | 11 => ⟨S2x16384x384, .f32⟩
  | 12 => ⟨S2x16384x384, .f32⟩
  | 13 => ⟨S2x16384x384, .f32⟩
  | 14 => ⟨S2x16384x384, .f32⟩
  | 15 => ⟨S2x16384x384, .f32⟩
  | 16 => ⟨S_, .i32⟩
  | 17 => ⟨S_, .f32⟩
  | 18 => ⟨S2x16386x384, .f32⟩
  | 19 => ⟨S1x384, .f32⟩
  | 20 => ⟨S384, .f32⟩
  | 21 => ⟨S2x16384x384, .f32⟩
  | 22 => ⟨S1x1x384, .f32⟩
  | 23 => ⟨S2x16384x384, .f32⟩
  | 24 => ⟨S2x16384x384, .f32⟩
  | 25 => ⟨S1x384, .f32⟩
  | 26 => ⟨S384, .f32⟩
  | 27 => ⟨S2x16384x384, .f32⟩
  | 28 => ⟨S1x1x384, .f32⟩
  | 29 => ⟨S2x16384x384, .f32⟩
  | 30 => ⟨S2x16384x384, .f32⟩
  | 31 => ⟨S2x16384x384, .f32⟩
  | 32 => ⟨S1x384, .f32⟩
  | 33 => ⟨S384, .f32⟩
  | 34 => ⟨S2x16384x384, .f32⟩
  | 35 => ⟨S1x1x384, .f32⟩
  | 36 => ⟨S2x16384x384, .f32⟩
  | 37 => ⟨S2x16384x384, .f32⟩
  | 38 => ⟨S2x16384x384, .f32⟩
  | 39 => ⟨S2x16384x384, .f32⟩
  | 40 => ⟨S2x16384x384, .f32⟩
  | 41 => ⟨S2x16384x384, .f32⟩
  | 42 => ⟨S_, .f32⟩
  | 43 => ⟨S2x16384x384, .f32⟩
  | 44 => ⟨S2x16384x384, .f32⟩
  | 45 => ⟨S_, .f32⟩
  | 46 => ⟨S2x16384x384, .f32⟩
  | 47 => ⟨S2x16384x384, .f32⟩
  | 48 => ⟨S2x16384x384, .f32⟩
  | 49 => ⟨S_, .i32⟩
  | 50 => ⟨S_, .f32⟩
  | 51 => ⟨S2x16414x384, .f32⟩
  | 52 => ⟨S1x384, .f32⟩
  | 53 => ⟨S384, .f32⟩
  | 54 => ⟨S2x16384x384, .f32⟩
  | 55 => ⟨S1x1x384, .f32⟩
  | 56 => ⟨S2x16384x384, .f32⟩
  | 57 => ⟨S2x16384x384, .f32⟩
  | 58 => ⟨S1x384, .f32⟩
  | 59 => ⟨S384, .f32⟩
  | 60 => ⟨S2x16384x384, .f32⟩
  | 61 => ⟨S1x1x384, .f32⟩
  | 62 => ⟨S2x16384x384, .f32⟩
  | 63 => ⟨S2x16384x384, .f32⟩
  | 64 => ⟨S2x16384x384, .f32⟩
  | 65 => ⟨S1x384, .f32⟩
  | 66 => ⟨S384, .f32⟩
  | 67 => ⟨S2x16384x384, .f32⟩
  | 68 => ⟨S1x1x384, .f32⟩
  | 69 => ⟨S2x16384x384, .f32⟩
  | 70 => ⟨S2x16384x384, .f32⟩
  | 71 => ⟨S2x16384x384, .f32⟩
  | 72 => ⟨S1x384, .f32⟩
  | 73 => ⟨S384, .f32⟩
  | 74 => ⟨S2x16384x384, .f32⟩
  | 75 => ⟨S1x1x384, .f32⟩
  | 76 => ⟨S2x16384x384, .f32⟩
  | 77 => ⟨S2x16384x384, .f32⟩
  | 78 => ⟨S2x16384x384, .f32⟩
  | 79 => ⟨S1x384, .f32⟩
  | 80 => ⟨S384, .f32⟩
  | 81 => ⟨S2x16384x384, .f32⟩
  | 82 => ⟨S1x1x384, .f32⟩
  | 83 => ⟨S2x16384x384, .f32⟩
  | 84 => ⟨S2x16384x384, .f32⟩
  | 85 => ⟨S2x16384x384, .f32⟩
  | 86 => ⟨S1x384, .f32⟩
  | 87 => ⟨S384, .f32⟩
  | 88 => ⟨S2x16384x384, .f32⟩
  | 89 => ⟨S1x1x384, .f32⟩
  | 90 => ⟨S2x16384x384, .f32⟩
  | 91 => ⟨S2x16384x384, .f32⟩
  | 92 => ⟨S2x16384x384, .f32⟩
  | 93 => ⟨S1x384, .f32⟩
  | 94 => ⟨S384, .f32⟩
  | 95 => ⟨S2x16384x384, .f32⟩
  | 96 => ⟨S1x1x384, .f32⟩
  | 97 => ⟨S2x16384x384, .f32⟩
  | 98 => ⟨S2x16384x384, .f32⟩
  | 99 => ⟨S2x16384x384, .f32⟩
  | 100 => ⟨S1x384, .f32⟩
  | 101 => ⟨S384, .f32⟩
  | 102 => ⟨S2x16384x384, .f32⟩
  | 103 => ⟨S1x1x384, .f32⟩
  | 104 => ⟨S2x16384x384, .f32⟩
  | 105 => ⟨S2x16384x384, .f32⟩
  | 106 => ⟨S2x16384x384, .f32⟩
  | 107 => ⟨S1x384, .f32⟩
  | 108 => ⟨S384, .f32⟩
  | 109 => ⟨S2x16384x384, .f32⟩
  | 110 => ⟨S1x1x384, .f32⟩
  | 111 => ⟨S2x16384x384, .f32⟩
  | 112 => ⟨S2x16384x384, .f32⟩
  | 113 => ⟨S2x16384x384, .f32⟩
  | 114 => ⟨S1x384, .f32⟩
  | 115 => ⟨S384, .f32⟩
  | 116 => ⟨S2x16384x384, .f32⟩
  | 117 => ⟨S1x1x384, .f32⟩
  | 118 => ⟨S2x16384x384, .f32⟩
  | 119 => ⟨S2x16384x384, .f32⟩
  | 120 => ⟨S2x16384x384, .f32⟩
  | 121 => ⟨S1x384, .f32⟩
  | 122 => ⟨S384, .f32⟩
  | 123 => ⟨S2x16384x384, .f32⟩
  | 124 => ⟨S1x1x384, .f32⟩
  | 125 => ⟨S2x16384x384, .f32⟩
  | 126 => ⟨S2x16384x384, .f32⟩
  | 127 => ⟨S2x16384x384, .f32⟩
  | _ => ⟨S32768x384, .f32⟩

abbrev hbmTy0_1 (i : Nat) : BufTy := match i % 128 with
  | 0 => ⟨S1x384, .f32⟩
  | 1 => ⟨S384, .f32⟩
  | 2 => ⟨S2x16384x384, .f32⟩
  | 3 => ⟨S1x1x384, .f32⟩
  | 4 => ⟨S2x16384x384, .f32⟩
  | 5 => ⟨S2x16384x384, .f32⟩
  | 6 => ⟨S2x16384x384, .f32⟩
  | 7 => ⟨S1x384, .f32⟩
  | 8 => ⟨S384, .f32⟩
  | 9 => ⟨S2x16384x384, .f32⟩
  | 10 => ⟨S1x1x384, .f32⟩
  | 11 => ⟨S2x16384x384, .f32⟩
  | 12 => ⟨S2x16384x384, .f32⟩
  | 13 => ⟨S2x16384x384, .f32⟩
  | 14 => ⟨S1x384, .f32⟩
  | 15 => ⟨S384, .f32⟩
  | 16 => ⟨S2x16384x384, .f32⟩
  | 17 => ⟨S1x1x384, .f32⟩
  | 18 => ⟨S2x16384x384, .f32⟩
  | 19 => ⟨S2x16384x384, .f32⟩
  | 20 => ⟨S2x16384x384, .f32⟩
  | 21 => ⟨S1x384, .f32⟩
  | 22 => ⟨S384, .f32⟩
  | 23 => ⟨S2x16384x384, .f32⟩
  | 24 => ⟨S1x1x384, .f32⟩
  | 25 => ⟨S2x16384x384, .f32⟩
  | 26 => ⟨S2x16384x384, .f32⟩
  | 27 => ⟨S2x16384x384, .f32⟩
  | 28 => ⟨S1x384, .f32⟩
  | 29 => ⟨S384, .f32⟩
  | 30 => ⟨S2x16384x384, .f32⟩
  | 31 => ⟨S1x1x384, .f32⟩
  | 32 => ⟨S2x16384x384, .f32⟩
  | 33 => ⟨S2x16384x384, .f32⟩
  | 34 => ⟨S2x16384x384, .f32⟩
  | 35 => ⟨S1x384, .f32⟩
  | 36 => ⟨S384, .f32⟩
  | 37 => ⟨S2x16384x384, .f32⟩
  | 38 => ⟨S1x1x384, .f32⟩
  | 39 => ⟨S2x16384x384, .f32⟩
  | 40 => ⟨S2x16384x384, .f32⟩
  | 41 => ⟨S2x16384x384, .f32⟩
  | 42 => ⟨S1x384, .f32⟩
  | 43 => ⟨S384, .f32⟩
  | 44 => ⟨S2x16384x384, .f32⟩
  | 45 => ⟨S1x1x384, .f32⟩
  | 46 => ⟨S2x16384x384, .f32⟩
  | 47 => ⟨S2x16384x384, .f32⟩
  | 48 => ⟨S2x16384x384, .f32⟩
  | 49 => ⟨S1x384, .f32⟩
  | 50 => ⟨S384, .f32⟩
  | 51 => ⟨S2x16384x384, .f32⟩
  | 52 => ⟨S1x1x384, .f32⟩
  | 53 => ⟨S2x16384x384, .f32⟩
  | 54 => ⟨S2x16384x384, .f32⟩
  | 55 => ⟨S2x16384x384, .f32⟩
  | 56 => ⟨S1x384, .f32⟩
  | 57 => ⟨S384, .f32⟩
  | 58 => ⟨S2x16384x384, .f32⟩
  | 59 => ⟨S1x1x384, .f32⟩
  | 60 => ⟨S2x16384x384, .f32⟩
  | 61 => ⟨S2x16384x384, .f32⟩
  | 62 => ⟨S2x16384x384, .f32⟩
  | 63 => ⟨S1x384, .f32⟩
  | 64 => ⟨S384, .f32⟩
  | 65 => ⟨S2x16384x384, .f32⟩
  | 66 => ⟨S1x1x384, .f32⟩
  | 67 => ⟨S2x16384x384, .f32⟩
  | 68 => ⟨S2x16384x384, .f32⟩
  | 69 => ⟨S2x16384x384, .f32⟩
  | 70 => ⟨S1x384, .f32⟩
  | 71 => ⟨S384, .f32⟩
  | 72 => ⟨S2x16384x384, .f32⟩
  | 73 => ⟨S1x1x384, .f32⟩
  | 74 => ⟨S2x16384x384, .f32⟩
  | 75 => ⟨S2x16384x384, .f32⟩
  | 76 => ⟨S2x16384x384, .f32⟩
  | 77 => ⟨S1x384, .f32⟩
  | 78 => ⟨S384, .f32⟩
  | 79 => ⟨S2x16384x384, .f32⟩
  | 80 => ⟨S1x1x384, .f32⟩
  | 81 => ⟨S2x16384x384, .f32⟩
  | 82 => ⟨S2x16384x384, .f32⟩
  | 83 => ⟨S2x16384x384, .f32⟩
  | 84 => ⟨S1x384, .f32⟩
  | 85 => ⟨S384, .f32⟩
  | 86 => ⟨S2x16384x384, .f32⟩
  | 87 => ⟨S1x1x384, .f32⟩
  | 88 => ⟨S2x16384x384, .f32⟩
  | 89 => ⟨S2x16384x384, .f32⟩
  | 90 => ⟨S2x16384x384, .f32⟩
  | 91 => ⟨S1x384, .f32⟩
  | 92 => ⟨S384, .f32⟩
  | 93 => ⟨S2x16384x384, .f32⟩
  | 94 => ⟨S1x1x384, .f32⟩
  | 95 => ⟨S2x16384x384, .f32⟩
  | 96 => ⟨S2x16384x384, .f32⟩
  | 97 => ⟨S2x16384x384, .f32⟩
  | 98 => ⟨S1x384, .f32⟩
  | 99 => ⟨S384, .f32⟩
  | 100 => ⟨S2x16384x384, .f32⟩
  | 101 => ⟨S1x1x384, .f32⟩
  | 102 => ⟨S2x16384x384, .f32⟩
  | 103 => ⟨S2x16384x384, .f32⟩
  | 104 => ⟨S2x16384x384, .f32⟩
  | 105 => ⟨S1x384, .f32⟩
  | 106 => ⟨S384, .f32⟩
  | 107 => ⟨S2x16384x384, .f32⟩
  | 108 => ⟨S1x1x384, .f32⟩
  | 109 => ⟨S2x16384x384, .f32⟩
  | 110 => ⟨S2x16384x384, .f32⟩
  | 111 => ⟨S2x16384x384, .f32⟩
  | 112 => ⟨S1x384, .f32⟩
  | 113 => ⟨S384, .f32⟩
  | 114 => ⟨S2x16384x384, .f32⟩
  | 115 => ⟨S1x1x384, .f32⟩
  | 116 => ⟨S2x16384x384, .f32⟩
  | 117 => ⟨S2x16384x384, .f32⟩
  | 118 => ⟨S2x16384x384, .f32⟩
  | 119 => ⟨S1x384, .f32⟩
  | 120 => ⟨S384, .f32⟩
  | 121 => ⟨S2x16384x384, .f32⟩
  | 122 => ⟨S1x1x384, .f32⟩
  | 123 => ⟨S2x16384x384, .f32⟩
  | 124 => ⟨S2x16384x384, .f32⟩
  | 125 => ⟨S2x16384x384, .f32⟩
  | 126 => ⟨S1x384, .f32⟩
  | 127 => ⟨S384, .f32⟩
  | _ => ⟨S32768x384, .f32⟩

abbrev hbmTy0_2 (i : Nat) : BufTy := match i % 128 with
  | 0 => ⟨S2x16384x384, .f32⟩
  | 1 => ⟨S1x1x384, .f32⟩
  | 2 => ⟨S2x16384x384, .f32⟩
  | 3 => ⟨S2x16384x384, .f32⟩
  | 4 => ⟨S2x16384x384, .f32⟩
  | 5 => ⟨S1x384, .f32⟩
  | 6 => ⟨S384, .f32⟩
  | 7 => ⟨S2x16384x384, .f32⟩
  | 8 => ⟨S1x1x384, .f32⟩
  | 9 => ⟨S2x16384x384, .f32⟩
  | 10 => ⟨S2x16384x384, .f32⟩
  | 11 => ⟨S2x16384x384, .f32⟩
  | 12 => ⟨S1x1x384, .f32⟩
  | 13 => ⟨S2x16384x384, .f32⟩
  | 14 => ⟨S2x16384x384, .f32⟩
  | 15 => ⟨S_, .f32⟩
  | 16 => ⟨S2x16384, .f32⟩
  | 17 => ⟨S2x16384x1, .f32⟩
  | 18 => ⟨S_, .f32⟩
  | 19 => ⟨S2x16384x1, .f32⟩
  | 20 => ⟨S2x16384x1, .f32⟩
  | 21 => ⟨S2x16384x384, .f32⟩
  | 22 => ⟨S2x16384x384, .f32⟩
  | 23 => ⟨S2x16384x384, .f32⟩
  | 24 => ⟨S_, .f32⟩
  | 25 => ⟨S2x16384, .f32⟩
  | 26 => ⟨S2x16384x1, .f32⟩
  | 27 => ⟨S_, .f32⟩
  | 28 => ⟨S2x16384x1, .f32⟩
  | 29 => ⟨S2x16384x1, .f32⟩
  | 30 => ⟨S_, .f32⟩
  | 31 => ⟨S2x16384x1, .f32⟩
  | 32 => ⟨S2x16384x1, .f32⟩
  | 33 => ⟨S2x16384x1, .f32⟩
  | 34 => ⟨S2x16384x384, .f32⟩
  | 35 => ⟨S2x16384x384, .f32⟩
  | 36 => ⟨S1x1x384, .f32⟩
  | 37 => ⟨S2x16384x384, .f32⟩
  | 38 => ⟨S2x16384x384, .f32⟩
  | 39 => ⟨S1x1x384, .f32⟩
  | 40 => ⟨S2x16384x384, .f32⟩
  | 41 => ⟨S2x16384x384, .f32⟩
  | 42 => ⟨S2x16384x384, .f32⟩
  | 43 => ⟨S2x16384x384, .f32⟩
  | 44 => ⟨S_, .f32⟩
  | 45 => ⟨S2x16384x384, .f32⟩
  | 46 => ⟨S2x16384x384, .f32⟩
  | 47 => ⟨S_, .f32⟩
  | 48 => ⟨S2x16384x384, .f32⟩
  | 49 => ⟨S2x16384x384, .f32⟩
  | 50 => ⟨S2x16384x384, .f32⟩
  | 51 => ⟨S32768x384, .f32⟩
  | 52 => ⟨S32768x384, .f32⟩
  | _ => ⟨S32768x384, .f32⟩

abbrev hbmTy (i : Nat) : BufTy := match i / 128 with
  | 0 => hbmTy0_0 i
  | 1 => hbmTy0_1 i
  | 2 => hbmTy0_2 i
  | _ => ⟨S32768x384, .f32⟩

abbrev bufTy : (tb : Table) → Fin (tcTables nBuf tb) → BufTy
  | .hbm, ⟨i, _⟩ => hbmTy i
  | _, _ => ⟨S32768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_1 : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_cst_2 : Ref sig .tc := ⟨.hbm, 271, rfl⟩
abbrev main_v255 : Ref sig .tc := ⟨.hbm, 272, rfl⟩
abbrev main_v256 : Ref sig .tc := ⟨.hbm, 273, rfl⟩
abbrev main_cst_3 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_cst_4 : Ref sig .tc := ⟨.hbm, 280, rfl⟩
abbrev main_v262 : Ref sig .tc := ⟨.hbm, 281, rfl⟩
abbrev main_v263 : Ref sig .tc := ⟨.hbm, 282, rfl⟩
abbrev main_cst_5 : Ref sig .tc := ⟨.hbm, 283, rfl⟩
abbrev main_v264 : Ref sig .tc := ⟨.hbm, 284, rfl⟩
abbrev main_v265 : Ref sig .tc := ⟨.hbm, 285, rfl⟩
abbrev main_cst_6 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_call2_v0 : Ref sig .tc := ⟨.hbm, 298, rfl⟩
abbrev main_call2_v1 : Ref sig .tc := ⟨.hbm, 299, rfl⟩
abbrev main_call2_cst : Ref sig .tc := ⟨.hbm, 300, rfl⟩
abbrev main_call2_v2 : Ref sig .tc := ⟨.hbm, 301, rfl⟩
abbrev main_call2_v3 : Ref sig .tc := ⟨.hbm, 302, rfl⟩
abbrev main_call2_cst_0 : Ref sig .tc := ⟨.hbm, 303, rfl⟩
abbrev main_call2_v4 : Ref sig .tc := ⟨.hbm, 304, rfl⟩
abbrev main_call2_v5 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩

abbrev nD : Nat := 1
abbrev τ : Topo := Topo.v7x

variable {F : FTy → Type} [FloatOps F]
-- ==== Proof.LayerMath.lean ====
/-
  The layer's row functions over the extended reals, and the laws that join the kernel's order of operations to the
  reference's: the root-mean-square normalisation, the softmax weights, a head of the attention with the quotient taken
  after the weighted sum (the kernel) and before it (the reference).
-/
module

public import Idealize.ShloMosaic.Lib.Pointwise
public import Idealize.ShloMosaic.Lib.IdealHost

@[expose] public section

noncomputable section

open Idealize.ShloMosaic
open scoped BigOperators

namespace Cert.LayerMath

/-- The constant added under the root: 1e-6 as the program prints it. -/
abbrev eps : EReal := Ideal.ofBits .f32 0x358637BD#32
/-- The row length 1024, as printed. -/
abbrev c1024 : EReal := Ideal.ofBits .f32 0x44800000#32
/-- The head width 256, as printed. -/
abbrev c256 : EReal := Ideal.ofBits .f32 0x43800000#32
/-- The attention's scale 1/16, as printed. -/
abbrev c16 : EReal := Ideal.ofBits .f32 0x3D800000#32
/-- Minus infinity, as printed. -/
abbrev negInf : EReal := Ideal.ofBits .f32 0xFF800000#32

/-- `c1024` is the real 1024. -/
theorem c1024_eq : c1024 = ((1024 : ℝ) : EReal) := by
  simp [c1024, Ideal.ofBits, Ideal.ieee, -EReal.coe_mul]; norm_num

/-- `c256` is the real 256. -/
theorem c256_eq : c256 = ((256 : ℝ) : EReal) := by
  simp [c256, Ideal.ofBits, Ideal.ieee, -EReal.coe_mul]; norm_num

/-- `c16` is the real 1/16. -/
theorem c16_eq : c16 = ((1 / 16 : ℝ) : EReal) := by
  simp [c16, Ideal.ofBits, Ideal.ieee, -EReal.coe_mul]; norm_num

/-- `negInf` is the bottom element. -/
theorem negInf_eq : negInf = ⊥ := by
  simp [negInf, Ideal.ofBits, Ideal.ieee]

/-- `eps` is a positive real. -/
theorem eps_eq : ∃ e : ℝ, 0 < e ∧ eps = (e : EReal) := by
  refine ⟨_, ?_, by simp only [eps, Ideal.ofBits, Ideal.ieee]; simp [-EReal.coe_mul]; rfl⟩
  positivity

/-- Root-mean-square normalisation of a row `x` with gain `g`, the mean over `c` entries. -/
def rms {n : ℕ} (c : EReal) (x g : Fin n → EReal) (i : Fin n) : EReal :=
  x i * Ideal.rsqrt (Ideal.div (∑ k, x k * x k) c + eps) * g i

/-- The unnormalised softmax weights of a row of scores. -/
def wt {n : ℕ} (s : Fin n → EReal) (i : Fin n) : EReal :=
  Ideal.exp (s i - Finset.fold max negInf s Finset.univ)

/-- Weighted mean, the quotient taken after the sum. -/
def mixAfter {n : ℕ} (s v : Fin n → EReal) : EReal :=
  Ideal.div (∑ i, wt s i * v i) (∑ i, wt s i)

/-- Weighted mean, every weight divided first. -/
def mixBefore {n : ℕ} (s v : Fin n → EReal) : EReal :=
  ∑ i, v i * Ideal.div (wt s i) (∑ k, wt s k)

/-- A finite sum of reals, as an extended real. -/
theorem coe_sum {ι : Type} (t : Finset ι) (r : ι → ℝ) : ((∑ i ∈ t, r i : ℝ) : EReal) = ∑ i ∈ t, (r i : EReal) := by
  classical
  induction t using Finset.induction_on with
  | empty => simp
  | insert a t ha ih => rw [Finset.sum_insert ha, Finset.sum_insert ha, EReal.coe_add, ih]

/-- A finite sum of reals is real. -/
theorem sum_real {ι : Type} (t : Finset ι) (f : ι → EReal) (h : ∀ i, ∃ r : ℝ, f i = r) : ∃ r : ℝ, ∑ i ∈ t, f i = r := by
  choose r hr using h
  exact ⟨∑ i ∈ t, r i, by rw [coe_sum]; exact Finset.sum_congr rfl fun i _ => hr i⟩

/-- A square is not negative. -/
theorem sq_nonneg (x : EReal) : 0 ≤ x * x := by
  induction x with
  | bot => simp
  | top => simp
  | coe r => exact_mod_cast mul_self_nonneg r

/-- THE NORMALISED ROW IS REAL where its gain is, whatever the row: an infinite entry makes the root's reciprocal zero. -/
theorem rms_real {n : ℕ} {c : EReal} (hc : ∃ r : ℝ, 0 < r ∧ c = r) (x g : Fin n → EReal) (i : Fin n)
    (hg : ∃ r : ℝ, g i = r) : ∃ r : ℝ, rms c x g i = r := by
  obtain ⟨c', hc0, rfl⟩ := hc
  obtain ⟨g', hg'⟩ := hg
  obtain ⟨e, he, hee⟩ := eps_eq
  unfold rms
  rw [hg', hee, Ideal.div_coe hc0.ne']
  by_cases hx : ∀ k, ∃ r : ℝ, x k = r
  · choose r hr using hx
    have hs : ∑ k, x k * x k = ((∑ k, r k * r k : ℝ) : EReal) := by
      rw [coe_sum]; exact Finset.sum_congr rfl fun k _ => by rw [hr k, EReal.coe_mul]
    have hp : 0 < (∑ k, r k * r k) * (1 / c') + e :=
      add_pos_of_nonneg_of_pos (mul_nonneg (Finset.sum_nonneg fun k _ => mul_self_nonneg _) (by positivity)) he
    rw [hs, hr i, ← EReal.coe_mul, ← EReal.coe_add, Ideal.rsqrt_coe, if_neg (not_lt.mpr hp.le), if_neg hp.ne', ← EReal.coe_mul,
      ← EReal.coe_mul]
    exact ⟨_, rfl⟩
  · push Not at hx
    obtain ⟨k, hk⟩ := hx
    have hk2 : x k * x k = ⊤ := by
      generalize x k = y at hk
      induction y with
      | bot => simp
      | top => simp
      | coe r => exact absurd rfl (hk r)
    have hs : ∑ k, x k * x k = ⊤ := by
      refine top_le_iff.mp ?_
      rw [← hk2]
      exact Finset.single_le_sum (f := fun k => x k * x k) (fun k _ => sq_nonneg _) (Finset.mem_univ k)
    rw [hs, EReal.top_mul_coe_of_pos (by positivity), EReal.top_add_coe, Ideal.rsqrt_top, mul_zero, zero_mul]
    exact ⟨0, rfl⟩

/-- The largest of finitely many reals, from minus infinity, is one of them (for a row that is not empty). -/
theorem fold_max_mem {n : ℕ} (s : Fin (n + 1) → EReal) : ∃ k, Finset.fold max negInf s Finset.univ = s k ∧ ∀ i, s i ≤ s k := by
  obtain ⟨k, _, hk⟩ := Finset.exists_max_image Finset.univ s Finset.univ_nonempty
  refine ⟨k, le_antisymm ?_ ?_, fun i => hk i (Finset.mem_univ i)⟩
  · rw [Finset.fold_max_le]; exact ⟨by rw [negInf_eq]; exact bot_le, hk⟩
  · rw [Finset.le_fold_max]; exact Or.inr ⟨k, Finset.mem_univ k, le_rfl⟩

/-- The weights of a row of real scores are positive reals. -/
theorem wt_real {n : ℕ} (s : Fin (n + 1) → EReal) (hs : ∀ i, ∃ r : ℝ, s i = r) (i : Fin (n + 1)) : ∃ r : ℝ, 0 < r ∧ wt s i = r := by
  obtain ⟨k, hk, _⟩ := fold_max_mem s
  obtain ⟨a, ha⟩ := hs i
  obtain ⟨b, hb⟩ := hs k
  refine ⟨Real.exp (a - b), Real.exp_pos _, ?_⟩
  unfold wt
  rw [hk, ha, hb, ← EReal.coe_sub, Ideal.exp_coe]

/-- A real factor that is not negative goes into a sum. -/
theorem sum_mul_real {ι : Type} (t : Finset ι) (f : ι → EReal) {c : ℝ} (hc : 0 ≤ c) : (∑ i ∈ t, f i) * (c : EReal) = ∑ i ∈ t, f i * (c : EReal) := by
  classical
  induction t using Finset.induction_on with
  | empty => simp
  | insert a t ha ih =>
    rw [Finset.sum_insert ha, Finset.sum_insert ha, EReal.right_distrib_of_nonneg_of_ne_top (by exact_mod_cast hc) (EReal.coe_ne_top c), ih]

/-- THE QUOTIENT BEFORE OR AFTER THE SUM: the same weighted mean, for real scores and any values. -/
theorem mix_eq {n : ℕ} (s v : Fin (n + 1) → EReal) (hs : ∀ i, ∃ r : ℝ, s i = r) : mixAfter s v = mixBefore s v := by
  choose r hr0 hr using wt_real s hs
  have hl : ∑ i, wt s i = ((∑ i, r i : ℝ) : EReal) := by
    rw [coe_sum]; exact Finset.sum_congr rfl fun i _ => hr i
  have hp : 0 < ∑ i, r i := Finset.sum_pos (fun i _ => hr0 i) Finset.univ_nonempty
  unfold mixAfter mixBefore
  rw [hl, Ideal.div_coe hp.ne', sum_mul_real _ _ (by positivity)]
  refine Finset.sum_congr rfl fun i _ => ?_
  rw [Ideal.div_coe hp.ne', mul_assoc, mul_left_comm]

/-- The scale on the query or on the score. -/
theorem scale_eq {n : ℕ} (q k : Fin n → EReal) : ∑ e, (q e * c16) * k e = (∑ e, q e * k e) * c16 := by
  rw [c16_eq, sum_mul_real _ _ (by norm_num)]
  exact Finset.sum_congr rfl fun e _ => by rw [mul_assoc, mul_assoc, mul_comm (k e)]

/-- Four partial products over 384 columns are the product over the 1536 columns side by side. -/
theorem sum_four (x : EReal) (f : Fin 1536 → EReal) :
    x + (∑ k : Fin 384, f ⟨k.val, by omega⟩) + (∑ k : Fin 384, f ⟨384 + k.val, by omega⟩)
      + (∑ k : Fin 384, f ⟨768 + k.val, by omega⟩) + (∑ k : Fin 384, f ⟨1152 + k.val, by omega⟩) = x + ∑ k, f k := by
  have e : ∑ k, f k = ((∑ k : Fin 384, f ⟨k.val, by omega⟩) + (∑ k : Fin 384, f ⟨384 + k.val, by omega⟩))
      + ((∑ k : Fin 384, f ⟨768 + k.val, by omega⟩) + (∑ k : Fin 384, f ⟨1152 + k.val, by omega⟩)) := by
    have h1 := Fin.sum_univ_add (a := 768) (b := 768) f
    have h2 := Fin.sum_univ_add (a := 384) (b := 384) (fun k : Fin 768 => f ⟨k.val, by omega⟩)
    have h3 := Fin.sum_univ_add (a := 384) (b := 384) (fun k : Fin 768 => f ⟨768 + k.val, by omega⟩)
    refine h1.trans (congrArg₂ _ (h2.trans rfl) (h3.trans ?_))
    refine congrArg₂ _ rfl (Finset.sum_congr rfl fun k _ => congrArg f (Fin.ext ?_))
    simp [Fin.natAdd]; omega
  rw [e]; simp only [add_assoc]

/-- An extended real whose magnitude is below infinity is a real. -/
theorem real_of_abs_lt {x : EReal} (h : max x (-x) < ⊤) : ∃ r : ℝ, x = r := by
  induction x with
  | bot => simp at h
  | top => simp at h
  | coe r => exact ⟨r, rfl⟩

end Cert.LayerMath

end
-- ==== Proof.CrossBlock.lean ====
/-
  THE CROSS ATTENTION CALL, ONE BLOCK: what the kernel body stores, row by row, as the layer's row functions — the
  four partial output projections added to the stream, the normalised query, the four heads over the memory's keys and
  values, the heads' projection added back.
-/
module

public import proofs.«01_k».proof.Proof.Gen.KernelIdeal.Value
public import proofs.«01_k».proof.Proof.LayerMath

@[expose] public section

set_option maxRecDepth 16384

noncomputable section

open Idealize.ShloMosaic Idealize.ShloMosaic.TcCoe Idealize.SL.Sem

namespace Cert.LayerMath

/-- A row of the stream with the four parts of the output projection added one by one. -/
def addProj (x : Fin 1024 → EReal) (y0 y1 y2 y3 : Fin 384 → EReal) (w0 w1 w2 w3 : Fin 384 → Fin 1024 → EReal) (j : Fin 1024) : EReal :=
  x j + (∑ k, y0 k * w0 k j) + (∑ k, y1 k * w1 k j) + (∑ k, y2 k * w2 k j) + (∑ k, y3 k * w3 k j)

/-- The query row of a stream row. -/
def query (x1 g : Fin 1024 → EReal) (wq : Fin 1024 → Fin 1024 → EReal) (j : Fin 1024) : EReal :=
  ∑ i, rms c1024 x1 g i * wq i j

/-- Column `d` of head `a` in a row of 1024. -/
abbrev col (a : Fin 4) (d : Fin 256) : Fin 1024 := ⟨256 * a.val + d.val, by omega⟩

/-- The scores of a head, the scale on the query. -/
def scores (q gq : Fin 256 → EReal) (k : Fin 256 → Fin 256 → EReal) (m : Fin 256) : EReal :=
  ∑ e, (rms c256 q gq e * c16) * k m e

/-- The row a head returns: the weighted mean of the values. -/
def head (q : Fin 1024 → EReal) (gq : Fin 256 → EReal) (k v : Fin 256 → Fin 1024 → EReal) (a : Fin 4) (d : Fin 256) : EReal :=
  mixAfter (scores (fun e => q (col a e)) gq (fun m e => k m (col a e))) (fun m => v m (col a d))

/-- The row the call returns, from the stream row `x1` it adds to. -/
def crossRow (x1 : Fin 1024 → EReal) (gca : Fin 1024 → EReal) (wq : Fin 1024 → Fin 1024 → EReal) (k v : Fin 256 → Fin 1024 → EReal)
    (gq : Fin 256 → EReal) (wo : Fin 1024 → Fin 1024 → EReal) (j : Fin 1024) : EReal :=
  x1 j + ∑ l : Fin 1024, head (query x1 gca wq) gq k v ⟨l.val / 256, by omega⟩ ⟨l.val % 256, by omega⟩ * wo l j

end Cert.LayerMath

namespace Cert.KernelIdeal.Block

open Cert.KernelIdeal Cert.KernelIdeal.Gen Cert.LayerMath

/-- The stream row with the four projections added. -/
theorem pay2_apply (v0 : Vec Ideal S512x1024 .f32) (v2 : Vec Ideal S512x384 .f32) (v4 : Vec Ideal S384x1024 .bf16) (v8 : Vec Ideal S512x384 .f32) (v10 : Vec Ideal S384x1024 .bf16) (v14 : Vec Ideal S512x384 .f32) (v16 : Vec Ideal S384x1024 .bf16) (v20 : Vec Ideal S512x384 .f32) (v22 : Vec Ideal S384x1024 .bf16) (r : Fin 512) (j : Fin 1024) :
    k0_pay2 v0 v2 v4 v8 v10 v14 v16 v20 v22 (ix2 r j)
      = addProj (fun j => v0 (ix2 r j)) (fun k => v2 (ix2 r k)) (fun k => v8 (ix2 r k)) (fun k => v14 (ix2 r k)) (fun k => v20 (ix2 r k))
          (fun k j => v4 (ix2 k j)) (fun k j => v10 (ix2 k j)) (fun k j => v16 (ix2 k j)) (fun k j => v22 (ix2 k j)) j := by
  pointwise [k0_pay2]
  rfl

/-- The query row. -/
theorem pay6_apply (v25 : FVec Ideal S512x1024 .f32) (v26 : Vec Ideal S1x1024 .f32) (v30 : FVec Ideal S512x1 .f32) (v41 : Vec Ideal S1024x1024 .bf16)
    (hv30 : ∀ r : Fin 512, v30 (ix2 r 0) = ∑ k : Fin 1024, v25 (ix2 r k) * v25 (ix2 r k)) (r : Fin 512) (j : Fin 1024) :
    k0_pay6 v25 (k0_pay3 v26) v30 k0_pay5 v41 (ix2 r j) = query (fun j => v25 (ix2 r j)) (fun j => v26 (ix2 0 j)) (fun i j => v41 (ix2 i j)) j := by
  pointwise [k0_pay6, k0_pay3, k0_pay5, hv30]
  rfl

/-- The weights of the first head. -/
theorem pay8_apply (v25 : FVec Ideal S512x1024 .f32) (v27 : FVec Ideal S1x1024 .f32) (v30 : FVec Ideal S512x1 .f32) (v31 : FVec Ideal S512x1 .f32) (v41 : Vec Ideal S1024x1024 .bf16) (v44 : Vec Ideal S1x256 .f32)
    (k : Vec Ideal S1x256x256 .bf16) (r : Fin 512) (m : Fin 256) :
    k0_pay8 v25 v27 v30 v31 v41 v44 k (ix2 r m)
      = wt (scores (fun e => k0_pay6 v25 v27 v30 v31 v41 (ix2 r (col 0 e))) (fun e => v44 (ix2 0 e)) (fun m e => k (ix3 0 m e))) m := by
  unfold k0_pay8
  generalize k0_pay6 v25 v27 v30 v31 v41 = q
  pointwise [k0_pay7]
  unfold wt scores rms
  simp only [col, Fin.isValue, Fin.val_zero, Nat.mul_zero, Nat.zero_add]

/-- The first head. -/
theorem head0_apply (v25 : FVec Ideal S512x1024 .f32) (v27 : FVec Ideal S1x1024 .f32) (v30 : FVec Ideal S512x1 .f32) (v31 : FVec Ideal S512x1 .f32) (v41 : Vec Ideal S1024x1024 .bf16) (v44 : Vec Ideal S1x256 .f32)
    (x11 x12 : Vec Ideal S1x256x1024 .bf16) (r : Fin 512) (d : Fin 256) :
    k0_pay11 (k0_pay9 v25 v27 v30 v31 v41 v44 (View.ld x11 r0_6)) (k0_pay10 v25 v27 v30 v31 v41 v44 (View.ld x11 r0_6)) (View.ld x12 r0_6) (ix2 r d)
      = head (fun j => k0_pay6 v25 v27 v30 v31 v41 (ix2 r j)) (fun e => v44 (ix2 0 e)) (fun m j => x11 (ix3 0 m j)) (fun m j => x12 (ix3 0 m j)) 0 d := by
  pointwise [k0_pay11, k0_pay9, k0_pay10, pay8_apply, r0_6]
  unfold head mixAfter
  simp only [col, Fin.isValue, Fin.val_zero, Nat.mul_zero, Nat.zero_add]

/-- The second head. -/
theorem head1_apply (q : FVec Ideal S512x1024 .f32) (v44 : Vec Ideal S1x256 .f32)
    (x11 x12 : Vec Ideal S1x256x1024 .bf16) (r : Fin 512) (d : Fin 256) :
    k0_pay12 q (k0_pay7 v44) (View.ld x11 r0_7) (View.ld x12 r0_7) (ix2 r d)
      = head (fun j => q (ix2 r j)) (fun e => v44 (ix2 0 e)) (fun m j => x11 (ix3 0 m j)) (fun m j => x12 (ix3 0 m j)) 1 d := by
  pointwise [k0_pay12, k0_pay7, r0_7]
  rfl

/-- The third head. -/
theorem head2_apply (q : FVec Ideal S512x1024 .f32) (v44 : Vec Ideal S1x256 .f32)
    (x11 x12 : Vec Ideal S1x256x1024 .bf16) (r : Fin 512) (d : Fin 256) :
    k0_pay15 (k0_pay7 v44) (k0_pay13 q) (k0_pay14 q) (Scalar.ofBits .f32 0x43800000#32) (View.ld x11 r0_8) (View.ld x12 r0_8) (ix2 r d)
      = head (fun j => q (ix2 r j)) (fun e => v44 (ix2 0 e)) (fun m j => x11 (ix3 0 m j)) (fun m j => x12 (ix3 0 m j)) 2 d := by
  pointwise [k0_pay15, k0_pay13, k0_pay14, k0_pay7, r0_8]
  rfl

/-- The normalised query of the fourth head. -/
theorem pay16_apply (q : FVec Ideal S512x1024 .f32) (v44 : Vec Ideal S1x256 .f32) (r : Fin 512) (e : Fin 256) :
    k0_pay16 q (k0_pay7 v44) (ix2 r e) = rms c256 (fun e => q (ix2 r (col 3 e))) (fun e => v44 (ix2 0 e)) e * c16 := by
  pointwise [k0_pay16, k0_pay7]
  rfl

set_option maxHeartbeats 1000000 in
/-- The heads side by side, projected and added to the stream; the fourth head is computed here. -/
theorem pay1_apply (x1 : FVec Ideal S512x1024 .f32) (h0 h1 h2 : FVec Ideal S512x256 .bf16) (q : FVec Ideal S512x1024 .f32) (v44 : Vec Ideal S1x256 .f32)
    (x11 x12 : Vec Ideal S1x256x1024 .bf16) (wo : Vec Ideal S1024x1024 .bf16) (r : Fin 512)
    (e0 : ∀ d, h0 (ix2 r d) = head (fun j => q (ix2 r j)) (fun e => v44 (ix2 0 e)) (fun m j => x11 (ix3 0 m j)) (fun m j => x12 (ix3 0 m j)) 0 d)
    (e1 : ∀ d, h1 (ix2 r d) = head (fun j => q (ix2 r j)) (fun e => v44 (ix2 0 e)) (fun m j => x11 (ix3 0 m j)) (fun m j => x12 (ix3 0 m j)) 1 d)
    (e2 : ∀ d, h2 (ix2 r d) = head (fun j => q (ix2 r j)) (fun e => v44 (ix2 0 e)) (fun m j => x11 (ix3 0 m j)) (fun m j => x12 (ix3 0 m j)) 2 d)
    (j : Fin 1024) :
    k0_pay1 x1 h0 h1 h2 (k0_pay16 q (k0_pay7 v44)) (View.ld x11 r0_9) (View.ld x12 r0_9) wo (ix2 r j)
      = x1 (ix2 r j) + ∑ l : Fin 1024, head (fun j => q (ix2 r j)) (fun e => v44 (ix2 0 e)) (fun m j => x11 (ix3 0 m j)) (fun m j => x12 (ix3 0 m j))
          ⟨l.val / 256, by omega⟩ ⟨l.val % 256, by omega⟩ * wo (ix2 l j) := by
  pointwise [k0_pay1, pay16_apply, r0_9]
  refine congrArg _ (Finset.sum_congr rfl fun l _ => congrArg (· * _) ?_)
  have hl := l.isLt
  have k0 : ∀ h : l.val < 256, h0 (ix2 r ⟨l.val, h⟩) = head (fun j => q (ix2 r j)) (fun e => v44 (ix2 0 e)) (fun m j => x11 (ix3 0 m j)) (fun m j => x12 (ix3 0 m j)) ⟨l.val / 256, by omega⟩ ⟨l.val % 256, by omega⟩ := fun h => by
    rw [e0]; congr 1 <;> apply Fin.ext <;> dsimp <;> omega
  have k1 : ¬ l.val < 256 → ∀ h : l.val - 256 < 256, h1 (ix2 r ⟨l.val - 256, h⟩) = head (fun j => q (ix2 r j)) (fun e => v44 (ix2 0 e)) (fun m j => x11 (ix3 0 m j)) (fun m j => x12 (ix3 0 m j)) ⟨l.val / 256, by omega⟩ ⟨l.val % 256, by omega⟩ := fun n0 h => by
    rw [e1]; congr 1 <;> apply Fin.ext <;> dsimp <;> omega
  have k2 : ¬ l.val < 256 → ¬ l.val - 256 < 256 → ∀ h : l.val - 256 - 256 < 256, h2 (ix2 r ⟨l.val - 256 - 256, h⟩) = head (fun j => q (ix2 r j)) (fun e => v44 (ix2 0 e)) (fun m j => x11 (ix3 0 m j)) (fun m j => x12 (ix3 0 m j)) ⟨l.val / 256, by omega⟩ ⟨l.val % 256, by omega⟩ := fun n0 n1 h => by
    rw [e2]; congr 1 <;> apply Fin.ext <;> dsimp <;> omega
  have k3 : ¬ l.val < 256 → ¬ l.val - 256 < 256 → ¬ l.val - 256 - 256 < 256 → ∀ h : l.val - 256 - 256 - 256 < 256,
      head (fun j => q (ix2 r j)) (fun e => v44 (ix2 0 e)) (fun m j => x11 (ix3 0 m j)) (fun m j => x12 (ix3 0 m j)) 3 ⟨l.val - 256 - 256 - 256, h⟩ = head (fun j => q (ix2 r j)) (fun e => v44 (ix2 0 e)) (fun m j => x11 (ix3 0 m j)) (fun m j => x12 (ix3 0 m j)) ⟨l.val / 256, by omega⟩ ⟨l.val % 256, by omega⟩ := fun n0 n1 n2 h => by
    congr 1 <;> apply Fin.ext <;> dsimp <;> omega
  split_ifs
  all_goals first
    | exact k0 (by assumption)
    | exact absurd rfl (by assumption)
    | exact k1 (by assumption) (by assumption)
    | exact k2 (by assumption) (by assumption) (by assumption)
    | exact k3 (by assumption) (by assumption) (by assumption) (by omega)

/-- WHAT THE BODY STORES, at row `r` and column `j` of its block. -/
theorem out_apply (x0 : Vec Ideal S512x1024 .f32) (x1 x2 x3 x4 : Vec Ideal S512x384 .f32) (x5 x6 x7 x8 : Vec Ideal S384x1024 .bf16) (x9 : Vec Ideal S1x1024 .f32) (x10 : Vec Ideal S1024x1024 .bf16) (x11 x12 : Vec Ideal S1x256x1024 .bf16) (x13 : Vec Ideal S1x256 .f32) (x14 : Vec Ideal S1024x1024 .bf16) (r : Fin 512) (j : Fin 1024) :
    out0_15 x0 x1 x2 x3 x4 x5 x6 x7 x8 x9 x10 x11 x12 x13 x14 (ix2 r j)
      = crossRow (addProj (fun j => x0 (ix2 r j)) (fun k => x1 (ix2 r k)) (fun k => x2 (ix2 r k)) (fun k => x3 (ix2 r k)) (fun k => x4 (ix2 r k))
          (fun k j => x5 (ix2 k j)) (fun k j => x6 (ix2 k j)) (fun k j => x7 (ix2 k j)) (fun k j => x8 (ix2 k j)))
          (fun j => x9 (ix2 0 j)) (fun i j => x10 (ix2 i j)) (fun m j => x11 (ix3 0 m j)) (fun m j => x12 (ix3 0 m j))
          (fun e => x13 (ix2 0 e)) (fun l j => x14 (ix2 l j)) j := by
  have hz : (![0, 0] : Fin 2 → Nat) = fun _ => 0 := funext fun a => by fin_cases a <;> rfl
  unfold_out out0_15
  rw [View.canon_unit_zero hz]
  have l0 : View.ld x0 r0_0 = x0 := View.ld_unit_zero hz _ x0
  have l1 : View.ld x1 r0_1 = x1 := View.ld_unit_zero hz _ x1
  have l2 : View.ld x2 r0_1 = x2 := View.ld_unit_zero hz _ x2
  have l3 : View.ld x3 r0_1 = x3 := View.ld_unit_zero hz _ x3
  have l4 : View.ld x4 r0_1 = x4 := View.ld_unit_zero hz _ x4
  have l5 : View.ld x5 r0_2 = x5 := View.ld_unit_zero hz _ x5
  have l6 : View.ld x6 r0_2 = x6 := View.ld_unit_zero hz _ x6
  have l7 : View.ld x7 r0_2 = x7 := View.ld_unit_zero hz _ x7
  have l8 : View.ld x8 r0_2 = x8 := View.ld_unit_zero hz _ x8
  have l9 : View.ld x9 r0_3 = x9 := View.ld_unit_zero hz _ x9
  have l10 : View.ld x10 r0_4 = x10 := View.ld_unit_zero hz _ x10
  have l13 : View.ld x13 r0_5 = x13 := View.ld_unit_zero hz _ x13
  have l14 : View.ld x14 r0_4 = x14 := View.ld_unit_zero hz _ x14
  rw [l0, l1, l2, l3, l4, l5, l6, l7, l8, l9, l10, l13, l14]
  have hx1 : (fun j => k0_pay2 x0 x1 x5 x2 x6 x3 x7 x4 x8 (ix2 r j)) = addProj (fun j => x0 (ix2 r j)) (fun k => x1 (ix2 r k)) (fun k => x2 (ix2 r k)) (fun k => x3 (ix2 r k)) (fun k => x4 (ix2 r k))
          (fun k j => x5 (ix2 k j)) (fun k j => x6 (ix2 k j)) (fun k j => x7 (ix2 k j)) (fun k j => x8 (ix2 k j)) :=
    funext fun j => pay2_apply x0 x1 x5 x2 x6 x3 x7 x4 x8 r j
  have h30 : ∀ r : Fin 512, k0_pay4 x0 x1 x5 x2 x6 x3 x7 x4 x8 (ix2 r 0)
      = ∑ k : Fin 1024, k0_pay2 x0 x1 x5 x2 x6 x3 x7 x4 x8 (ix2 r k) * k0_pay2 x0 x1 x5 x2 x6 x3 x7 x4 x8 (ix2 r k) := fun r => by
    unfold k0_pay4; generalize k0_pay2 x0 x1 x5 x2 x6 x3 x7 x4 x8 = u; pointwise
  have hq : (fun j => k0_pay6 (k0_pay2 x0 x1 x5 x2 x6 x3 x7 x4 x8) (k0_pay3 x9) (k0_pay4 x0 x1 x5 x2 x6 x3 x7 x4 x8) k0_pay5 x10 (ix2 r j))
      = query (fun j => k0_pay2 x0 x1 x5 x2 x6 x3 x7 x4 x8 (ix2 r j)) (fun j => x9 (ix2 0 j)) (fun i j => x10 (ix2 i j)) :=
    funext fun j => pay6_apply _ x9 _ x10 h30 r j
  refine (pay1_apply _ _ _ _ _ _ _ _ _ r (fun d => head0_apply _ _ _ _ _ _ _ _ r d) (fun d => head1_apply _ _ _ _ r d)
    (fun d => head2_apply _ _ _ _ r d) j).trans ?_
  rw [hq, hx1]
  unfold crossRow
  rw [← hx1]

end Cert.KernelIdeal.Block

end
-- ==== Proof.CrossFinal.lean ====
/-
  THE CROSS ATTENTION CALL, ITS RESULT ARRAY: the sixty-four blocks the grid writes, put together, are one function of
  the arguments, row by row.
-/
module

public import proofs.«01_k».proof.Proof.CrossBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.LayerMath

variable (m : (ℓ : Loc nD τ sig) → Buf (Elt Ideal) ℓ) (ρ : Dev nD → PrngReg)

/-- The block each window reads or writes at grid point `t`, decided. -/
theorem idx : ∀ t : Fin cfg0.N,
    win0_0.index t = ![t.val, 0] ∧
    win0_1.index t = ![t.val, 0] ∧
    win0_2.index t = ![t.val, 0] ∧
    win0_3.index t = ![t.val, 0] ∧
    win0_4.index t = ![t.val, 0] ∧
    win0_5.index t = ![0, 0] ∧
    win0_6.index t = ![0, 0] ∧
    win0_7.index t = ![0, 0] ∧
    win0_8.index t = ![0, 0] ∧
    win0_9.index t = ![0, 0] ∧
    win0_10.index t = ![0, 0] ∧
    win0_11.index t = ![t.val / 32, 0, 0] ∧
    win0_12.index t = ![t.val / 32, 0, 0] ∧
    win0_13.index t = ![0, 0] ∧
    win0_14.index t = ![0, 0] ∧
    win0_15.index t = ![t.val, 0] :=
  (by decide +kernel : ∀ t : Fin grid0.N, _)

/-- The grid has sixty-four points. -/
theorem lt64 (t : Fin cfg0.N) : t.val < 64 := t.isLt

/-- The stream block, read in the argument. -/
theorem blk0 (c : Dev nD) (t : Fin cfg0.N) (r : Fin 512) (j : Fin 1024) :
    iblk m c 0 t (ix2 r j) = m ((c : Thread nD τ).loc main_arg0) (ix3 ⟨t.val / 32, by have := lt64 t; omega⟩ ⟨512 * (t.val % 32) + r.val, by omega⟩ j) := by
  have := lt64 t
  blk_ext! [iblk, V, idx t]

/-- The block of mixer 0. -/
theorem blk1 (c : Dev nD) (t : Fin cfg0.N) (r : Fin 512) (j : Fin 384) :
    iblk m c 1 t (ix2 r j) = m ((c : Thread nD τ).loc main_arg1) (ix2 ⟨512 * t.val + r.val, by have := lt64 t; omega⟩ j) := by
  have := lt64 t
  blk_ext! [iblk, V, idx t]

/-- The block of mixer 1. -/
theorem blk2 (c : Dev nD) (t : Fin cfg0.N) (r : Fin 512) (j : Fin 384) :
    iblk m c 2 t (ix2 r j) = m ((c : Thread nD τ).loc main_arg2) (ix2 ⟨512 * t.val + r.val, by have := lt64 t; omega⟩ j) := by
  have := lt64 t
  blk_ext! [iblk, V, idx t]

/-- The block of mixer 2. -/
theorem blk3 (c : Dev nD) (t : Fin cfg0.N) (r : Fin 512) (j : Fin 384) :
    iblk m c 3 t (ix2 r j) = m ((c : Thread nD τ).loc main_arg3) (ix2 ⟨512 * t.val + r.val, by have := lt64 t; omega⟩ j) := by
  have := lt64 t
  blk_ext! [iblk, V, idx t]

/-- The block of mixer 3. -/
theorem blk4 (c : Dev nD) (t : Fin cfg0.N) (r : Fin 512) (j : Fin 384) :
    iblk m c 4 t (ix2 r j) = m ((c : Thread nD τ).loc main_arg4) (ix2 ⟨512 * t.val + r.val, by have := lt64 t; omega⟩ j) := by
  have := lt64 t
  blk_ext! [iblk, V, idx t]

/-- Part 0 of the output projection. -/
theorem blk5 (c : Dev nD) (t : Fin cfg0.N) (i : Fin 384) (j : Fin 1024) :
    iblk m c 5 t (ix2 i j) = m ((c : Thread nD τ).loc main_arg5) (ix2 ⟨0 + i.val, by omega⟩ j) := by
  have := lt64 t
  blk_ext! [iblk, V, idx t]

/-- Part 1 of the output projection. -/
theorem blk6 (c : Dev nD) (t : Fin cfg0.N) (i : Fin 384) (j : Fin 1024) :
    iblk m c 6 t (ix2 i j) = m ((c : Thread nD τ).loc main_arg5) (ix2 ⟨384 + i.val, by omega⟩ j) := by
  have := lt64 t
  blk_ext! [iblk, V, idx t]

/-- Part 2 of the output projection. -/
theorem blk7 (c : Dev nD) (t : Fin cfg0.N) (i : Fin 384) (j : Fin 1024) :
    iblk m c 7 t (ix2 i j) = m ((c : Thread nD τ).loc main_arg5) (ix2 ⟨768 + i.val, by omega⟩ j) := by
  have := lt64 t
  blk_ext! [iblk, V, idx t]

/-- Part 3 of the output projection. -/
theorem blk8 (c : Dev nD) (t : Fin cfg0.N) (i : Fin 384) (j : Fin 1024) :
    iblk m c 8 t (ix2 i j) = m ((c : Thread nD τ).loc main_arg5) (ix2 ⟨1152 + i.val, by omega⟩ j) := by
  have := lt64 t
  blk_ext! [iblk, V, idx t]

/-- The gain of the cross attention. -/
theorem blk9 (c : Dev nD) (t : Fin cfg0.N) (j : Fin 1024) :
    iblk m c 9 t (ix2 0 j) = m ((c : Thread nD τ).loc main_arg6) (ix1 j) := by
  have := lt64 t
  blk_ext! [iblk, V, idx t]

/-- The query weights. -/
theorem blk10 (c : Dev nD) (t : Fin cfg0.N) (i j : Fin 1024) :
    iblk m c 10 t (ix2 i j) = m ((c : Thread nD τ).loc main_arg7) (ix2 i j) := by
  have := lt64 t
  blk_ext! [iblk, V, idx t]

/-- The keys of the batch. -/
theorem blk11 (c : Dev nD) (t : Fin cfg0.N) (i : Fin 256) (j : Fin 1024) :
    iblk m c 11 t (ix3 0 i j) = m ((c : Thread nD τ).loc main_arg8) (ix3 ⟨t.val / 32, by have := lt64 t; omega⟩ i j) := by
  have := lt64 t
  blk_ext! [iblk, V, idx t]

/-- The values of the batch. -/
theorem blk12 (c : Dev nD) (t : Fin cfg0.N) (i : Fin 256) (j : Fin 1024) :
    iblk m c 12 t (ix3 0 i j) = m ((c : Thread nD τ).loc main_arg9) (ix3 ⟨t.val / 32, by have := lt64 t; omega⟩ i j) := by
  have := lt64 t
  blk_ext! [iblk, V, idx t]

/-- The gain of the heads. -/
theorem blk13 (c : Dev nD) (t : Fin cfg0.N) (j : Fin 256) :
    iblk m c 13 t (ix2 0 j) = m ((c : Thread nD τ).loc main_arg10) (ix1 j) := by
  have := lt64 t
  blk_ext! [iblk, V, idx t]

/-- The weights of the heads' projection. -/
theorem blk14 (c : Dev nD) (t : Fin cfg0.N) (i j : Fin 1024) :
    iblk m c 14 t (ix2 i j) = m ((c : Thread nD τ).loc main_arg11) (ix2 i j) := by
  have := lt64 t
  blk_ext! [iblk, V, idx t]

/-- Row `n` of the stream after the first projection: the four parts added one by one. -/
def row1 (c : Dev nD) (n : Fin 32768) : Fin 1024 → EReal :=
  addProj (fun j => m ((c : Thread nD τ).loc main_arg0) (ix3 ⟨n.val / 16384, by omega⟩ ⟨n.val % 16384, by omega⟩ j))
    (fun k => m ((c : Thread nD τ).loc main_arg1) (ix2 n k)) (fun k => m ((c : Thread nD τ).loc main_arg2) (ix2 n k))
    (fun k => m ((c : Thread nD τ).loc main_arg3) (ix2 n k)) (fun k => m ((c : Thread nD τ).loc main_arg4) (ix2 n k))
    (fun k j => m ((c : Thread nD τ).loc main_arg5) (ix2 ⟨0 + k.val, by omega⟩ j))
    (fun k j => m ((c : Thread nD τ).loc main_arg5) (ix2 ⟨384 + k.val, by omega⟩ j))
    (fun k j => m ((c : Thread nD τ).loc main_arg5) (ix2 ⟨768 + k.val, by omega⟩ j))
    (fun k j => m ((c : Thread nD τ).loc main_arg5) (ix2 ⟨1152 + k.val, by omega⟩ j))

/-- Entry `(n, j)` of the result, from the arguments. -/
def entry (c : Dev nD) (n : Fin 32768) (j : Fin 1024) : EReal :=
  crossRow (row1 m c n) (fun j => m ((c : Thread nD τ).loc main_arg6) (ix1 j))
    (fun i j => m ((c : Thread nD τ).loc main_arg7) (ix2 i j))
    (fun i j => m ((c : Thread nD τ).loc main_arg8) (ix3 ⟨n.val / 16384, by omega⟩ i j))
    (fun i j => m ((c : Thread nD τ).loc main_arg9) (ix3 ⟨n.val / 16384, by omega⟩ i j))
    (fun e => m ((c : Thread nD τ).loc main_arg10) (ix1 e))
    (fun l j => m ((c : Thread nD τ).loc main_arg11) (ix2 l j)) j

/-- The result array, entry by entry. -/
def G (c : Dev nD) : Buf (Elt Ideal) ((c : Thread nD τ).loc main_v10) := fun i => entry m c (i 0) (i 1)

/-- The block grid point `t` writes, at row `r` and column `j`. -/
theorem point (c : Dev nD) (t : Fin cfg0.N) (r : Fin 512) (j : Fin 1024) :
    out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (ix2 r j) = entry m c ⟨512 * t.val + r.val, by have := lt64 t; omega⟩ j := by
  rw [out_apply]
  simp only [blk0, blk1, blk2, blk3, blk4, blk5, blk6, blk7, blk8, blk9, blk10, blk11, blk12, blk13, blk14]
  have h1 : (512 * t.val + r.val) / 16384 = t.val / 32 := by omega
  have h2 : (512 * t.val + r.val) % 16384 = 512 * (t.val % 32) + r.val := by omega
  simp only [entry, row1, h1, h2]

/-- The result array after the run. -/
theorem final_o (c : Dev nD) : (dats m 0 c).arrAt 15 cfg0.N = G m c := by
  refine (dats m 0 c).arrAt_eq_of_covers 15 _ (by decide +kernel) fun t hf y => ?_
  blk_simp
  rw [after0_15]
  have := lt64 t
  obtain ⟨r, j, rfl⟩ : ∃ r j, y = ix2 r j := ⟨y 0, y 1, by blk_ext⟩
  rw [point]
  unfold G
  refine congrArg₂ (entry m c) (Fin.ext ?_) (Fin.ext ?_) <;> blk_simp [idx t] <;> simp <;> omega

/-- The run: the result array is the rows' function of the arguments, which end unchanged. -/
theorem run : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final_o m c), (h c).2⟩) (Value.run_blocks m ρ)

end Cert.KernelIdeal.Block

end
-- ==== Proof.CrossRef.lean ====
/-
  THE CROSS ATTENTION CALL, ITS REFERENCE: the layer's lines read entry by entry — the output projection, the query,
  the normalised heads, the scaled scores, the softmax, the weighted mean, the heads' projection.
-/
module

public import proofs.«01_k».proof.Proof.Gen.ReferenceIdeal.Read
public import proofs.«01_k».proof.Proof.CrossBlock
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.LayerMath

variable (x0 : (⟨S2x16384x1024, .f32⟩ : BufTy).Contents (Elt Ideal))
  (x1 x2 x3 x4 : (⟨S32768x384, .f32⟩ : BufTy).Contents (Elt Ideal))
  (x5 : (⟨S1536x1024, .f32⟩ : BufTy).Contents (Elt Ideal))
  (x6 : (⟨S1024, .f32⟩ : BufTy).Contents (Elt Ideal))
  (x7 : (⟨S1024x1024, .f32⟩ : BufTy).Contents (Elt Ideal))
  (x8 x9 : (⟨S2x256x1024, .bf16⟩ : BufTy).Contents (Elt Ideal))
  (x10 : (⟨S256, .f32⟩ : BufTy).Contents (Elt Ideal))
  (x11 : (⟨S1024x1024, .f32⟩ : BufTy).Contents (Elt Ideal))

/-- The column of a head, the two ways of writing it. -/
theorem col_eq (a : Fin 4) (e : Fin 256) (h : a.val * 256 + e.val < 1024) : (⟨a.val * 256 + e.val, h⟩ : Fin 1024) = col a e :=
  Fin.ext (by dsimp; omega)

/-- The output projection over the four mixers side by side, as the sum of its four parts. -/
theorem addProj_eq (x : Fin 1024 → EReal) (y0 y1 y2 y3 : Fin 384 → EReal) (w : Fin 1536 → Fin 1024 → EReal) (j : Fin 1024) :
    x j + ∑ k : Fin 1536, (if h : k.val < 384 then y0 ⟨k.val, h⟩
      else if h : k.val - 384 < 384 then y1 ⟨k.val - 384, h⟩
      else if h : k.val - 384 - 384 < 384 then y2 ⟨k.val - 384 - 384, h⟩
      else y3 ⟨k.val - 384 - 384 - 384, by omega⟩) * w k j
      = addProj x y0 y1 y2 y3 (fun k j => w ⟨0 + k.val, by omega⟩ j) (fun k j => w ⟨384 + k.val, by omega⟩ j)
          (fun k j => w ⟨768 + k.val, by omega⟩ j) (fun k j => w ⟨1152 + k.val, by omega⟩ j) j := by
  rw [← sum_four, addProj]
  have e1 : ∀ k : Fin 384, 384 + k.val - 384 = k.val := by omega
  have e2 : ∀ k : Fin 384, 768 + k.val - 384 - 384 = k.val := by omega
  have e3 : ∀ k : Fin 384, 1152 + k.val - 384 - 384 - 384 = k.val := by omega
  have n1 : ∀ k : Fin 384, ¬ 384 + k.val < 384 := by omega
  have n2 : ∀ k : Fin 384, ¬ 768 + k.val < 384 := by omega
  have n2' : ∀ k : Fin 384, ¬ 768 + k.val - 384 < 384 := by omega
  have n3 : ∀ k : Fin 384, ¬ 1152 + k.val < 384 := by omega
  have n3' : ∀ k : Fin 384, ¬ 1152 + k.val - 384 < 384 := by omega
  have n3'' : ∀ k : Fin 384, ¬ 1152 + k.val - 384 - 384 < 384 := by omega
  simp only [n1, n2, n2', n3, n3', n3'', e1, e2, e3, dite_false, Fin.is_lt, dite_true, zero_add]

/-- The stream after the output projection. -/
theorem v6_apply (b : Fin 2) (s : Fin 16384) (j : Fin 1024) :
    val_main_v6 x0 x1 x2 x3 x4 x5 (ix3 b s j) = addProj (fun j => x0 (ix3 b s j))
      (fun k => x1 (ix2 ⟨b.val * 16384 + s.val, by omega⟩ k)) (fun k => x2 (ix2 ⟨b.val * 16384 + s.val, by omega⟩ k))
      (fun k => x3 (ix2 ⟨b.val * 16384 + s.val, by omega⟩ k)) (fun k => x4 (ix2 ⟨b.val * 16384 + s.val, by omega⟩ k))
      (fun k j => x5 (ix2 ⟨0 + k.val, by omega⟩ j)) (fun k j => x5 (ix2 ⟨384 + k.val, by omega⟩ j))
      (fun k j => x5 (ix2 ⟨768 + k.val, by omega⟩ j)) (fun k j => x5 (ix2 ⟨1152 + k.val, by omega⟩ j)) j := by
  pointwise [val_main_v6, val_main_v5, val_main_v4, val_main_v3, val_main_v2, val_main_v1, val_main_v0]
  exact addProj_eq (fun j => x0 (ix3 b s j))
      (fun k => x1 (ix2 ⟨b.val * 16384 + s.val, by omega⟩ k)) (fun k => x2 (ix2 ⟨b.val * 16384 + s.val, by omega⟩ k))
      (fun k => x3 (ix2 ⟨b.val * 16384 + s.val, by omega⟩ k)) (fun k => x4 (ix2 ⟨b.val * 16384 + s.val, by omega⟩ k)) (fun k j => x5 (ix2 k j)) j

/-- The query row. -/
theorem v20_apply (b : Fin 2) (s : Fin 16384) (j : Fin 1024) :
    val_main_v20 x0 x1 x2 x3 x4 x5 x6 x7 (ix3 b s j)
      = query (fun j => val_main_v6 x0 x1 x2 x3 x4 x5 (ix3 b s j)) (fun j => x6 (ix1 j)) (fun i j => x7 (ix2 i j)) j := by
  pointwise [val_main_v20, val_main_v19, val_main_v18, val_main_v17, val_main_v16, val_main_v15, val_main_v14, val_main_v13, val_main_v12,
    val_main_v11, val_main_v10, val_main_v9, val_main_v8, val_main_v7, val_main_cst, val_main_cst_0, val_main_cst_1]
  rfl

/-- The normalised query of a head. -/
theorem v34_apply (b : Fin 2) (s : Fin 16384) (a : Fin 4) (e : Fin 256) :
    val_main_v34 x0 x1 x2 x3 x4 x5 x6 x7 x10 (ix4 b s a e)
      = rms c256 (fun e => val_main_v20 x0 x1 x2 x3 x4 x5 x6 x7 (ix3 b s (col a e))) (fun e => x10 (ix1 e)) e := by
  pointwise [val_main_v34, val_main_v33, val_main_v32, val_main_v31, val_main_v30, val_main_v29, val_main_v28, val_main_v27, val_main_v26,
    val_main_v25, val_main_v24, val_main_v23, val_main_v22, val_main_v21, val_main_cst_2, val_main_cst_3, val_main_cst_4]
  simp only [col_eq]
  rfl

/-- The scaled score of a head at a memory slot. -/
theorem v40_apply (b : Fin 2) (s : Fin 16384) (a : Fin 4) (m : Fin 256) :
    val_main_v40 x0 x1 x2 x3 x4 x5 x6 x7 x8 x10 (ix4 b a s m)
      = (∑ e, val_main_v34 x0 x1 x2 x3 x4 x5 x6 x7 x10 (ix4 b s a e) * x8 (ix3 b m (col a e))) * c16 := by
  pointwise [val_main_v40, val_main_v39, val_main_v38, val_main_v37, val_main_v35, val_main_cst_5]
  simp only [col_eq]

/-- The largest entry of a row, as the reference takes it. -/
theorem reduce_apply (y : (⟨S2x4x16384x256, .f32⟩ : BufTy).Contents (Elt Ideal)) (b : Fin 2) (a : Fin 4) (s : Fin 16384) :
    Host.reduce (FloatOps.maximumf (F := Ideal) (φ := .f32)) y (val_main_cst_6 (F := Ideal)) reducesTo_S2x4x16384x256_S2x4x16384_d3 h_S_ (ix3 b a s)
      = Finset.fold max negInf (fun m : Fin 256 => y (ix4 b a s m)) Finset.univ := by
  pointwise [val_main_cst_6]

/-- The largest score, with the pad of the maximum. -/
theorem v43_apply (b : Fin 2) (s : Fin 16384) (a : Fin 4) :
    val_main_v43 x0 x1 x2 x3 x4 x5 x6 x7 x8 x10 (ix3 b a s)
      = Finset.fold max negInf (fun m : Fin 256 => val_main_v40 x0 x1 x2 x3 x4 x5 x6 x7 x8 x10 (ix4 b a s m)) Finset.univ := by
  rw [val_main_v43_apply, val_main_v42_apply, val_main_v41, reduce_apply, val_main_cst_7_apply]
  generalize Finset.fold max negInf (fun m : Fin 256 => val_main_v40 x0 x1 x2 x3 x4 x5 x6 x7 x8 x10 (ix4 b a s m)) Finset.univ = z
  show max negInf z = z
  rw [negInf_eq]
  exact max_eq_right bot_le

/-- The weight of a memory slot before the division. -/
theorem v47_apply (b : Fin 2) (s : Fin 16384) (a : Fin 4) (m : Fin 256) :
    val_main_v47 x0 x1 x2 x3 x4 x5 x6 x7 x8 x10 (ix4 b a s m)
      = wt (fun m : Fin 256 => val_main_v40 x0 x1 x2 x3 x4 x5 x6 x7 x8 x10 (ix4 b a s m)) m := by
  have e : val_main_v47 x0 x1 x2 x3 x4 x5 x6 x7 x8 x10 (ix4 b a s m)
      = Ideal.exp (val_main_v40 x0 x1 x2 x3 x4 x5 x6 x7 x8 x10 (ix4 b a s m) - val_main_v43 x0 x1 x2 x3 x4 x5 x6 x7 x8 x10 (ix3 b a s)) := by
    rw [val_main_v47_apply, val_main_v46_apply, val_main_v45_apply, val_main_v44_apply,
      show idx_main_v44 (idx_main_v45 (ix4 b a s m)) = ix3 b a s from funext fun k => by fin_cases k <;> rfl]
    generalize val_main_v43 x0 x1 x2 x3 x4 x5 x6 x7 x8 x10 (ix3 b a s) = y
    generalize val_main_v40 x0 x1 x2 x3 x4 x5 x6 x7 x8 x10 (ix4 b a s m) = z
    rfl
  rw [e, v43_apply, wt]

/-- The row of a head. -/
theorem v53_apply (b : Fin 2) (s : Fin 16384) (a : Fin 4) (d : Fin 256) :
    val_main_v53 x0 x1 x2 x3 x4 x5 x6 x7 x8 x9 x10 (ix4 b a d s)
      = mixBefore (fun m : Fin 256 => val_main_v40 x0 x1 x2 x3 x4 x5 x6 x7 x8 x10 (ix4 b a s m)) (fun m => x9 (ix3 b m (col a d))) := by
  pointwise [val_main_v53, val_main_v52, val_main_v36, val_main_v51, val_main_v50, val_main_v49, val_main_v48, v47_apply, val_main_cst_8]
  simp only [col_eq, mixBefore]

/-- The result, from the rows of the heads. -/
theorem v58_apply (n : Fin 32768) (j : Fin 1024) :
    val_main_v58 x0 x1 x2 x3 x4 x5 x6 x7 x8 x9 x10 x11 (ix2 n j)
      = val_main_v6 x0 x1 x2 x3 x4 x5 (ix3 ⟨n.val / 16384, by omega⟩ ⟨n.val % 16384, by omega⟩ j)
        + ∑ l : Fin 1024, val_main_v53 x0 x1 x2 x3 x4 x5 x6 x7 x8 x9 x10
            (ix4 ⟨n.val / 16384, by omega⟩ ⟨l.val / 256, by omega⟩ ⟨l.val % 256, by omega⟩ ⟨n.val % 16384, by omega⟩) * x11 (ix2 l j) := by
  pointwise [val_main_v58, val_main_v57, val_main_v56, val_main_v55, val_main_v54]

end Cert.ReferenceIdeal.Rows

end
-- ==== Proof.PreRead.lean ====
/-
  THE PRECONDITIONS, READ: what a set mask says of one entry.
-/
module

public import proofs.«01_k».proof.Proof.Gen.Pre_finite_keys
public import proofs.«01_k».proof.Proof.LayerMath
public import Idealize.ShloMosaic.Lib.Pointwise

@[expose] public section

set_option maxRecDepth 16384

noncomputable section

open Idealize.ShloMosaic Idealize.ShloMosaic.TcCoe Idealize.SL.Sem

namespace Cert.PreRead

open Cert.LayerMath

/-- The literal the masks compare with is infinity. -/
theorem inf_eq : Ideal.ofBits .f32 0x7F800000#32 = ⊤ := by
  simp [Ideal.ofBits, Ideal.ieee, -EReal.coe_mul]

/-- A magnitude which compares below infinity belongs to a real number. -/
theorem real_of_cmp {φ : FTy} {x : Ideal φ} (h : BitVec.ofBool (decide (FloatOps.absf x < (Ideal.ofBits .f32 0x7F800000#32 : EReal))) = 1#1) :
    ∃ r : ℝ, (x : EReal) = r := by
  rw [inf_eq] at h
  refine real_of_abs_lt ?_
  by_contra hn
  rw [decide_eq_false (by exact hn)] at h
  exact absurd h (by decide)

open Cert.Pre_finite_keys in
/-- Under the precondition every key and every gain of the heads is a real number. -/
theorem keys_real (a0 : FVec Ideal S2x16384x1024 .f32) (a1 a2 a3 a4 : FVec Ideal S32768x384 .f32) (a5 : FVec Ideal S1536x1024 .f32)
    (a6 : FVec Ideal S1024 .f32) (a7 : FVec Ideal S1024x1024 .f32) (a8 a9 : FVec Ideal S2x256x1024 .bf16) (a10 : FVec Ideal S256 .f32)
    (a11 : FVec Ideal S1024x1024 .f32)
    (h1 : ∀ i, (fn (F := Ideal) a0 a1 a2 a3 a4 a5 a6 a7 a8 a9 a10 a11).1 i = 1#1)
    (h2 : ∀ i, (fn (F := Ideal) a0 a1 a2 a3 a4 a5 a6 a7 a8 a9 a10 a11).2 i = 1#1) :
    (∀ i j k, ∃ r : ℝ, a8 (ix3 i j k) = r) ∧ ∀ i, ∃ r : ℝ, a10 (ix1 i) = r := by
  refine ⟨fun i j k => ?_, fun i => ?_⟩
  · have h := h1 (ix3 i j k)
    pointwise [fn] at h
    exact real_of_cmp h
  · have h := h2 (ix1 i)
    pointwise [fn] at h
    exact real_of_cmp h

end Cert.PreRead

end
-- ==== Proof.CrossEq.lean ====
/-
  THE CROSS ATTENTION CALL, THE CLAIM: where the keys and the gain of the heads are real numbers the scores are real
  too, and then the kernel, which divides after the weighted sum, and the reference, which divides the weights, agree.
-/
module

public import proofs.«01_k».proof.Defs
public import proofs.«01_k».proof.Proof.CrossFinal
public import proofs.«01_k».proof.Proof.CrossRef
public import proofs.«01_k».proof.Proof.PreRead
public import proofs.«01_k».proof.Proof.Gen.Kernel.Frame
public import Idealize.ShloMosaic.Lib.Quiescent

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.LayerMath

/-- A head of the reference is the kernel's head, the scores real. -/
theorem head_eq (q gq : Fin 256 → EReal) (k : Fin 256 → Fin 256 → EReal) (v : Fin 256 → EReal)
    (hg : ∀ e, ∃ r : ℝ, gq e = r) (hk : ∀ m e, ∃ r : ℝ, k m e = r) :
    mixBefore (fun m => (∑ e, rms c256 q gq e * k m e) * c16) v = mixAfter (scores q gq k) v := by
  have hs : (fun m => (∑ e, rms c256 q gq e * k m e) * c16) = scores q gq k := funext fun m => (scale_eq _ _).symm
  rw [hs]
  refine (mix_eq _ _ fun m => ?_).symm
  refine sum_real _ _ fun e => ?_
  obtain ⟨a, ha⟩ := rms_real ⟨256, by norm_num, c256_eq⟩ q gq e (hg e)
  obtain ⟨b, hb⟩ := hk m e
  exact ⟨a * (1 / 16) * b, by rw [ha, hb, c16_eq]; norm_cast⟩

variable (x0 : (⟨S2x16384x1024, .f32⟩ : BufTy).Contents (Elt Ideal))
  (x1 x2 x3 x4 : (⟨S32768x384, .f32⟩ : BufTy).Contents (Elt Ideal))
  (x5 : (⟨S1536x1024, .f32⟩ : BufTy).Contents (Elt Ideal))
  (x6 : (⟨S1024, .f32⟩ : BufTy).Contents (Elt Ideal))
  (x7 : (⟨S1024x1024, .f32⟩ : BufTy).Contents (Elt Ideal))
  (x8 x9 : (⟨S2x256x1024, .bf16⟩ : BufTy).Contents (Elt Ideal))
  (x10 : (⟨S256, .f32⟩ : BufTy).Contents (Elt Ideal))
  (x11 : (⟨S1024x1024, .f32⟩ : BufTy).Contents (Elt Ideal))

/-- The reference's result at a row and a column, as the row function the kernel computes. -/
theorem ref_apply (hk : ∀ i j k, ∃ r : ℝ, x8 (ix3 i j k) = r) (hg : ∀ i, ∃ r : ℝ, x10 (ix1 i) = r) (n : Fin 32768) (j : Fin 1024) :
    val_main_v58 x0 x1 x2 x3 x4 x5 x6 x7 x8 x9 x10 x11 (ix2 n j)
      = crossRow (addProj (fun j => x0 (ix3 ⟨n.val / 16384, by omega⟩ ⟨n.val % 16384, by omega⟩ j))
          (fun k => x1 (ix2 n k)) (fun k => x2 (ix2 n k)) (fun k => x3 (ix2 n k)) (fun k => x4 (ix2 n k))
          (fun k j => x5 (ix2 ⟨0 + k.val, by omega⟩ j)) (fun k j => x5 (ix2 ⟨384 + k.val, by omega⟩ j))
          (fun k j => x5 (ix2 ⟨768 + k.val, by omega⟩ j)) (fun k j => x5 (ix2 ⟨1152 + k.val, by omega⟩ j)))
        (fun j => x6 (ix1 j)) (fun i j => x7 (ix2 i j))
        (fun i j => x8 (ix3 ⟨n.val / 16384, by omega⟩ i j)) (fun i j => x9 (ix3 ⟨n.val / 16384, by omega⟩ i j))
        (fun e => x10 (ix1 e)) (fun l j => x11 (ix2 l j)) j := by
  have hn : ∀ h : n.val / 16384 * 16384 + n.val % 16384 < 32768, (⟨n.val / 16384 * 16384 + n.val % 16384, h⟩ : Fin 32768) = n :=
    fun h => Fin.ext (by dsimp; omega)
  have h6 : ∀ j, val_main_v6 x0 x1 x2 x3 x4 x5 (ix3 ⟨n.val / 16384, by omega⟩ ⟨n.val % 16384, by omega⟩ j) = _ := fun j =>
    v6_apply x0 x1 x2 x3 x4 x5 ⟨n.val / 16384, by omega⟩ ⟨n.val % 16384, by omega⟩ j
  simp only [hn] at h6
  rw [v58_apply]
  simp only [v53_apply, v40_apply, v34_apply, v20_apply, h6]
  unfold crossRow head
  refine congrArg _ (Finset.sum_congr rfl fun l _ => congrArg (· * _) ?_)
  exact head_eq _ _ _ _ hg (fun m e => hk _ _ _)

end Cert.ReferenceIdeal.Rows

namespace Cert.Cross

/-- Run and frame of the kernel as printed. -/
theorem frame_kernel : quiescent_Kernel := fun m ρ _ => Cert.Kernel.Gen.frame m ρ

/-- Run and frame of the kernel over the reals. -/
theorem frame_ideal : quiescent_KernelIdeal := fun m ρ _ => Cert.KernelIdeal.Gen.frame m ρ

/-- The same under the precondition. -/
theorem frame_ideal_pre : quiescent_KernelIdeal_pre_finite_keys := fun m ρ _ => Cert.KernelIdeal.Gen.frame m ρ

open Cert.ReferenceIdeal Cert.ReferenceIdeal.Gen in
/-- Run and frame of the reference. -/
theorem frame_ref : quiescent_ReferenceIdeal := fun m ρ _ =>
  (θ_run defs _ _).mono (fun r h => ⟨fun c => (h c).2, sem_eq_zero_of_no_sems (by decide) r.2⟩) (Cert.ReferenceIdeal.Value.run (F := Ideal) m ρ)

/-- The same under the precondition. -/
theorem frame_ref_pre : quiescent_ReferenceIdeal_pre_finite_keys := fun m ρ _ => frame_ref m ρ trivial

/-- The reference's result is the kernel's, from the same arguments under the precondition. -/
theorem res_eq (m : (ℓ : Loc KernelIdeal.nD KernelIdeal.τ KernelIdeal.sig) → Buf (Elt Ideal) ℓ)
    (hpre : Pre_KernelIdeal_finite_keys m) (c : Dev KernelIdeal.nD) :
    Cert.ReferenceIdeal.Read.val_main_v58
      (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))
      (m ((c.tc : Thread KernelIdeal.nD KernelIdeal.τ).loc KernelIdeal.main_arg4)) (m ((c.tc : Thread KernelIdeal.nD KernelIdeal.τ).loc KernelIdeal.main_arg5))
      (m ((c.tc : Thread KernelIdeal.nD KernelIdeal.τ).loc KernelIdeal.main_arg6)) (m ((c.tc : Thread KernelIdeal.nD KernelIdeal.τ).loc KernelIdeal.main_arg7))
      (m ((c.tc : Thread KernelIdeal.nD KernelIdeal.τ).loc KernelIdeal.main_arg8)) (m ((c.tc : Thread KernelIdeal.nD KernelIdeal.τ).loc KernelIdeal.main_arg9))
      (m ((c.tc : Thread KernelIdeal.nD KernelIdeal.τ).loc KernelIdeal.main_arg10)) (m ((c.tc : Thread KernelIdeal.nD KernelIdeal.τ).loc KernelIdeal.main_arg11))
      = Cert.KernelIdeal.Block.G m c := by
  obtain ⟨hk, hg⟩ := Cert.PreRead.keys_real _ _ _ _ _ _ _ _ _ _ _ _ (fun i => congrFun (hpre c).1 i) (fun i => congrFun (hpre c).2 i)
  funext i
  obtain ⟨n, j, rfl⟩ : ∃ (n : Fin 32768) (j : Fin 1024), i = ix2 n j := ⟨i 0, i 1, by funext k; fin_cases k <;> rfl⟩
  exact Cert.ReferenceIdeal.Rows.ref_apply _ _ _ _ _ _ _ _ _ _ _ _ hk hg n j

open Cert.ReferenceIdeal in
/-- The kernel's result is the reference's. -/
theorem algebraic : algebraic_KernelIdeal_ReferenceIdeal_pre_finite_keys := fun m ρ m' ρ' hpre hag =>
  ⟨fun c => Cert.KernelIdeal.Block.G m c, Cert.KernelIdeal.Block.run m ρ,
    (θ_run defs _ _).mono (fun _ h c => ⟨(h c).1.trans (by
      obtain ⟨h0, h1, h2, h3, h4, h5, h6, h7, h8, h9, h10, h11⟩ := hag c
      refine (Cert.ReferenceIdeal.Read.val_main_v58_eq m' c).trans ?_
      rw [h0, h1, h2, h3, h4, h5, h6, h7, h8, h9, h10, h11]
      exact res_eq m hpre c), (h c).2⟩) (Cert.ReferenceIdeal.Value.run (F := Ideal) m' ρ')⟩

end Cert.Cross

end
-- ==== Proof.InProjBlock.lean ====
/-
  THE INPUT PROJECTION CALL, ONE BLOCK: each of the eleven results of the body is the normalised row times the columns
  of its own part of the weights.
-/
module

public import proofs.«01_k».proof.Proof.Gen.InProjIdeal.Value
public import proofs.«01_k».proof.Proof.LayerMath

@[expose] public section

set_option maxRecDepth 16384

noncomputable section

open Idealize.ShloMosaic Idealize.ShloMosaic.TcCoe Idealize.SL.Sem

namespace Cert.LayerMath

/-- A normalised row times the columns of some weights. -/
def proj {n : Nat} (x g : Fin 1024 → EReal) (w : Fin 1024 → Fin n → EReal) (j : Fin n) : EReal :=
  ∑ i, rms c1024 x g i * w i j

/-- The zero the lanes are padded with. -/
theorem sitofp_zero : (FloatOps.sitofp (F := Ideal) .f32 (0#32) : EReal) = 0 := by
  simp [FloatOps.sitofp]

end Cert.LayerMath

namespace Cert.InProjIdeal.Block

open Cert.InProjIdeal Cert.InProjIdeal.Gen Cert.LayerMath

/-- The normalised row as the body computes it. -/
theorem pay3_apply (v0 : Vec Ideal S512x1024 .f32) (v2 : Vec Ideal S1x1024 .f32) (r : Fin 512) (j : Fin 1024) :
    k0_pay3 v0 v2 (ix2 r j) = rms c1024 (fun j => v0 (ix2 r j)) (fun j => v2 (ix2 0 j)) j := by
  pointwise [k0_pay3]
  rfl

/-- Two zeros are the zero offset. -/
theorem hz : (![0, 0] : Fin 2 → Nat) = fun _ => 0 := funext fun a => by fin_cases a <;> rfl

/-- What the body stores for `xbc`. -/
theorem out13_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 896) :
    out0_13 x0 x1 x2 x3 x4 x5 x6 x7 x8 x9 x10 x11 x12 (ix2 r j) = proj (fun j => x0 (ix2 r j)) (fun j => x1 (ix2 0 j)) (fun i j => x2 (ix2 i j)) j := by
  unfold_out out0_13
  rw [View.canon_unit_zero hz]
  have l0 : View.ld x0 r0_0 = x0 := View.ld_unit_zero hz _ x0
  have l1 : View.ld x1 r0_1 = x1 := View.ld_unit_zero hz _ x1
  have l2 : View.ld x2 r0_2 = x2 := View.ld_unit_zero hz _ x2
  rw [l0, l1, l2]
  unfold k0_pay4
  have h3 := pay3_apply x0 x1 r
  generalize k0_pay3 x0 x1 = u at h3 ⊢
  pointwise [h3]
  rfl

/-- What the body stores for `dt`. -/
theorem out14_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 128) :
    out0_14 x0 x1 x2 x3 x4 x5 x6 x7 x8 x9 x10 x11 x12 (ix2 r j) = proj (fun j => x0 (ix2 r j)) (fun j => x1 (ix2 0 j)) (fun i j => x3 (ix2 i j)) j := by
  unfold_out out0_14
  rw [View.canon_unit_zero hz]
  have l0 : View.ld x0 r0_0 = x0 := View.ld_unit_zero hz _ x0
  have l1 : View.ld x1 r0_1 = x1 := View.ld_unit_zero hz _ x1
  have l2 : View.ld x3 r0_4 = x3 := View.ld_unit_zero hz _ x3
  rw [l0, l1, l2]
  unfold k0_pay5
  have h3 := pay3_apply x0 x1 r
  generalize k0_pay3 x0 x1 = u at h3 ⊢
  pointwise [h3]
  rfl

/-- What the body stores for `z`. -/
theorem out15_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_15 x0 x1 x2 x3 x4 x5 x6 x7 x8 x9 x10 x11 x12 (ix2 r j) = proj (fun j => x0 (ix2 r j)) (fun j => x1 (ix2 0 j)) (fun i j => x4 (ix2 i j)) j := by
  unfold_out out0_15
  rw [View.canon_unit_zero hz]
  have l0 : View.ld x0 r0_0 = x0 := View.ld_unit_zero hz _ x0
  have l1 : View.ld x1 r0_1 = x1 := View.ld_unit_zero hz _ x1
  have l2 : View.ld x4 r0_6 = x4 := View.ld_unit_zero hz _ x4
  rw [l0, l1, l2]
  unfold k0_pay6
  have h3 := pay3_apply x0 x1 r
  generalize k0_pay3 x0 x1 = u at h3 ⊢
  pointwise [h3]
  rfl

/-- What the body stores for `sc_b`. -/
theorem out16_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_16 x0 x1 x2 x3 x4 x5 x6 x7 x8 x9 x10 x11 x12 (ix2 r j) = proj (fun j => x0 (ix2 r j)) (fun j => x1 (ix2 0 j)) (fun i j => x5 (ix2 i j)) j := by
  unfold_out out0_16
  rw [View.canon_unit_zero hz]
  have l0 : View.ld x0 r0_0 = x0 := View.ld_unit_zero hz _ x0
  have l1 : View.ld x1 r0_1 = x1 := View.ld_unit_zero hz _ x1
  have l2 : View.ld x5 r0_6 = x5 := View.ld_unit_zero hz _ x5
  try rw [l2]
  try unfold k0_pay15
  try rw [l0, l1]
  unfold k0_pay8 k0_pay7
  have h3 := pay3_apply x0 x1 r
  generalize k0_pay3 x0 x1 = u at h3 ⊢
  pointwise [h3]
  rfl

/-- What the body stores for `sc_c`. -/
theorem out17_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_17 x0 x1 x2 x3 x4 x5 x6 x7 x8 x9 x10 x11 x12 (ix2 r j) = proj (fun j => x0 (ix2 r j)) (fun j => x1 (ix2 0 j)) (fun i j => x6 (ix2 i j)) j := by
  unfold_out out0_17
  rw [View.canon_unit_zero hz]
  have l0 : View.ld x0 r0_0 = x0 := View.ld_unit_zero hz _ x0
  have l1 : View.ld x1 r0_1 = x1 := View.ld_unit_zero hz _ x1
  have l2 : View.ld x6 r0_6 = x6 := View.ld_unit_zero hz _ x6
  try rw [l2]
  try unfold k0_pay15
  try rw [l0, l1]
  unfold k0_pay9
  have h3 := pay3_apply x0 x1 r
  generalize k0_pay3 x0 x1 = u at h3 ⊢
  pointwise [h3]
  rfl

/-- What the body stores for `sc_h`. -/
theorem out18_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_18 x0 x1 x2 x3 x4 x5 x6 x7 x8 x9 x10 x11 x12 (ix2 r j) = proj (fun j => x0 (ix2 r j)) (fun j => x1 (ix2 0 j)) (fun i j => x7 (ix2 i j)) j := by
  unfold_out out0_18
  rw [View.canon_unit_zero hz]
  have l0 : View.ld x0 r0_0 = x0 := View.ld_unit_zero hz _ x0
  have l1 : View.ld x1 r0_1 = x1 := View.ld_unit_zero hz _ x1
  have l2 : View.ld x7 r0_6 = x7 := View.ld_unit_zero hz _ x7
  try rw [l2]
  try unfold k0_pay15
  try rw [l0, l1]
  unfold k0_pay10
  have h3 := pay3_apply x0 x1 r
  generalize k0_pay3 x0 x1 = u at h3 ⊢
  pointwise [h3]
  rfl

/-- What the body stores for `q`. -/
theorem out19_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_19 x0 x1 x2 x3 x4 x5 x6 x7 x8 x9 x10 x11 x12 (ix2 r j) = proj (fun j => x0 (ix2 r j)) (fun j => x1 (ix2 0 j)) (fun i j => x8 (ix2 i j)) j := by
  unfold_out out0_19
  rw [View.canon_unit_zero hz]
  have l0 : View.ld x0 r0_0 = x0 := View.ld_unit_zero hz _ x0
  have l1 : View.ld x1 r0_1 = x1 := View.ld_unit_zero hz _ x1
  have l2 : View.ld x8 r0_6 = x8 := View.ld_unit_zero hz _ x8
  try rw [l2]
  try unfold k0_pay15
  try rw [l0, l1]
  unfold k0_pay11
  have h3 := pay3_apply x0 x1 r
  generalize k0_pay3 x0 x1 = u at h3 ⊢
  pointwise [h3]
  rfl

/-- What the body stores for `k`. -/
theorem out20_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_20 x0 x1 x2 x3 x4 x5 x6 x7 x8 x9 x10 x11 x12 (ix2 r j) = proj (fun j => x0 (ix2 r j)) (fun j => x1 (ix2 0 j)) (fun i j => x9 (ix2 i j)) j := by
  unfold_out out0_20
  rw [View.canon_unit_zero hz]
  have l0 : View.ld x0 r0_0 = x0 := View.ld_unit_zero hz _ x0
  have l1 : View.ld x1 r0_1 = x1 := View.ld_unit_zero hz _ x1
  have l2 : View.ld x9 r0_6 = x9 := View.ld_unit_zero hz _ x9
  try rw [l2]
  try unfold k0_pay15
  try rw [l0, l1]
  unfold k0_pay12
  have h3 := pay3_apply x0 x1 r
  generalize k0_pay3 x0 x1 = u at h3 ⊢
  pointwise [h3]
  rfl

/-- What the body stores for `v`. -/
theorem out21_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_21 x0 x1 x2 x3 x4 x5 x6 x7 x8 x9 x10 x11 x12 (ix2 r j) = proj (fun j => x0 (ix2 r j)) (fun j => x1 (ix2 0 j)) (fun i j => x10 (ix2 i j)) j := by
  unfold_out out0_21
  rw [View.canon_unit_zero hz]
  have l0 : View.ld x0 r0_0 = x0 := View.ld_unit_zero hz _ x0
  have l1 : View.ld x1 r0_1 = x1 := View.ld_unit_zero hz _ x1
  have l2 : View.ld x10 r0_6 = x10 := View.ld_unit_zero hz _ x10
  try rw [l2]
  try unfold k0_pay15
  try rw [l0, l1]
  unfold k0_pay13
  have h3 := pay3_apply x0 x1 r
  generalize k0_pay3 x0 x1 = u at h3 ⊢
  pointwise [h3]
  rfl

/-- What the body stores for `cf_a`. -/
theorem out22_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_22 x0 x1 x2 x3 x4 x5 x6 x7 x8 x9 x10 x11 x12 (ix2 r j) = proj (fun j => x0 (ix2 r j)) (fun j => x1 (ix2 0 j)) (fun i j => x11 (ix2 i j)) j := by
  unfold_out out0_22
  rw [View.canon_unit_zero hz]
  have l0 : View.ld x0 r0_0 = x0 := View.ld_unit_zero hz _ x0
  have l1 : View.ld x1 r0_1 = x1 := View.ld_unit_zero hz _ x1
  have l2 : View.ld x11 r0_6 = x11 := View.ld_unit_zero hz _ x11
  try rw [l2]
  try unfold k0_pay15
  try rw [l0, l1]
  unfold k0_pay1 k0_pay14
  have h3 := pay3_apply x0 x1 r
  generalize k0_pay3 x0 x1 = u at h3 ⊢
  pointwise [h3]
  rfl

/-- What the body stores for `cf_g`. -/
theorem out23_apply (x0 : Vec Ideal S512x1024 .f32) (x1 : Vec Ideal S1x1024 .f32) (x2 : Vec Ideal S1024x896 .bf16) (x3 : Vec Ideal S1024x128 .bf16) (x4 x5 x6 x7 x8 x9 x10 x11 x12 : Vec Ideal S1024x384 .bf16) (r : Fin 512) (j : Fin 384) :
    out0_23 x0 x1 x2 x3 x4 x5 x6 x7 x8 x9 x10 x11 x12 (ix2 r j) = proj (fun j => x0 (ix2 r j)) (fun j => x1 (ix2 0 j)) (fun i j => x12 (ix2 i j)) j := by
  unfold_out out0_23
  rw [View.canon_unit_zero hz]
  have l0 : View.ld x0 r0_0 = x0 := View.ld_unit_zero hz _ x0
  have l1 : View.ld x1 r0_1 = x1 := View.ld_unit_zero hz _ x1
  have l2 : View.ld x12 r0_6 = x12 := View.ld_unit_zero hz _ x12
  try rw [l2]
  try unfold k0_pay15
  try rw [l0, l1]
  unfold k0_pay2
  have h3 := pay3_apply x0 x1 r
  generalize k0_pay3 x0 x1 = u at h3 ⊢
  pointwise [h3]
  rfl

end Cert.InProjIdeal.Block

end
-- ==== Proof.InProjFinal.lean ====
/-
  THE INPUT PROJECTION CALL, ITS RESULT ARRAYS: the sixty-four blocks the grid writes of each result, put together, are
  the columns of one matrix product, the normalised rows times the weights; of the 128 lanes of `dt` only the first six
  carry a weight.
-/
module

public import proofs.«01_k».proof.Proof.InProjBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Block

open Cert.InProjIdeal Cert.InProjIdeal.Gen Cert.LayerMath

/-- Row `n` of the normalised stream times column `l` of the weights. -/
def full (x : Vec Ideal S2x16384x1024 .f32) (g : Vec Ideal S1024 .f32) (w : Vec Ideal S1024x4358 .f32) (n : Fin 32768) (l : Fin 4358) : EReal :=
  proj (fun j => x (ix3 ⟨n.val / 16384, by omega⟩ ⟨n.val % 16384, by omega⟩ j)) (fun j => g (ix1 j)) (fun i l => w (ix2 i l)) l

/-- The result `dt` at row `n` and lane `j`: six columns of the product, then zeros. -/
def lane (x : Vec Ideal S2x16384x1024 .f32) (g : Vec Ideal S1024 .f32) (w : Vec Ideal S1024x4358 .f32) (n : Fin 32768) (j : Fin 128) : EReal :=
  if h : j.val < 6 then full x g w n ⟨1280 + j.val, by omega⟩ else 0

variable (m : (ℓ : Loc nD τ sig) → Buf (Elt Ideal) ℓ) (ρ : Dev nD → PrngReg)

/-- The block each window reads or writes at grid point `t`, decided. -/
theorem idx : ∀ t : Fin cfg0.N,
    win0_0.index t = ![t.val, 0] ∧
    win0_1.index t = ![0, 0] ∧
    win0_2.index t = ![0, 0] ∧
    win0_3.index t = ![0, 0] ∧
    win0_4.index t = ![0, 0] ∧
    win0_5.index t = ![0, 0] ∧
    win0_6.index t = ![0, 0] ∧
    win0_7.index t = ![0, 0] ∧
    win0_8.index t = ![0, 0] ∧
    win0_9.index t = ![0, 0] ∧
    win0_10.index t = ![0, 0] ∧
    win0_11.index t = ![0, 0] ∧
    win0_12.index t = ![0, 0] ∧
    win0_13.index t = ![t.val, 0] ∧
    win0_14.index t = ![t.val, 0] ∧
    win0_15.index t = ![t.val, 0] ∧
    win0_16.index t = ![t.val, 0] ∧
    win0_17.index t = ![t.val, 0] ∧
    win0_18.index t = ![t.val, 0] ∧
    win0_19.index t = ![t.val, 0] ∧
    win0_20.index t = ![t.val, 0] ∧
    win0_21.index t = ![t.val, 0] ∧
    win0_22.index t = ![t.val, 0] ∧
    win0_23.index t = ![t.val, 0] :=
  (by decide +kernel : ∀ t : Fin grid0.N, _)

/-- The grid has sixty-four points. -/
theorem lt64 (t : Fin cfg0.N) : t.val < 64 := t.isLt

/-- The stream as the operand the host lays out. -/
theorem V_v0 (c : Dev nD) : V m c main_v0 = (shapeCast S32768x1024 (m ((c : Thread nD τ).loc main_arg0) : FVec Ideal S2x16384x1024 .f32) shapeCasts_S2x16384x1024_S32768x1024 : FVec Ideal S32768x1024 .f32) := by
  simp only [V, hostOps0, hostOps0_1, hostOps0_2, List.flatten_cons, List.flatten_nil, List.append_nil, List.cons_append, List.nil_append]
  after_results
  rfl

/-- The stream with its two leading axes laid out as one. -/
theorem stream_apply (x : FVec Ideal S2x16384x1024 .f32) (n : Fin 32768) (j : Fin 1024) :
    (shapeCast S32768x1024 x shapeCasts_S2x16384x1024_S32768x1024 : FVec Ideal S32768x1024 .f32) (ix2 n j)
      = x (ix3 ⟨n.val / 16384, by omega⟩ ⟨n.val % 16384, by omega⟩ j) := by
  pointwise

/-- The stream block, read in the argument. -/
theorem blk0 (c : Dev nD) (t : Fin cfg0.N) (r : Fin 512) (j : Fin 1024) :
    iblk m c 0 t (ix2 r j) = m ((c : Thread nD τ).loc main_arg0) (ix3 ⟨t.val / 32, by have := lt64 t; omega⟩ ⟨512 * (t.val % 32) + r.val, by omega⟩ j) := by
  have := lt64 t
  have e : (win0_0.blk t).view.emb (ix2 r j) = ix2 ⟨512 * t.val + r.val, by omega⟩ j := by blk_ext [idx t]
  refine (congrArg (V m c main_v0) e).trans ?_
  rw [V_v0, stream_apply]
  have h1 : (512 * t.val + r.val) / 16384 = t.val / 32 := by omega
  have h2 : (512 * t.val + r.val) % 16384 = 512 * (t.val % 32) + r.val := by omega
  exact congrArg₂ (fun a b => m ((c : Thread nD τ).loc main_arg0) (ix3 a b j)) (Fin.ext h1) (Fin.ext h2)

/-- The gain: the operand the host builds. -/
theorem V_v1 (c : Dev nD) : V m c main_v1 = (shapeCast S1x1024 (m ((c : Thread nD τ).loc main_arg1) : FVec Ideal S1024 .f32) shapeCasts_S1024_S1x1024 : FVec Ideal S1x1024 .f32) := by
  simp only [V, hostOps0, hostOps0_1, hostOps0_2, List.flatten_cons, List.flatten_nil, List.append_nil, List.cons_append, List.nil_append]
  after_results
  rfl

/-- The gain. -/
theorem blk1 (c : Dev nD) (t : Fin cfg0.N) (j : Fin 1024) :
    iblk m c 1 t (ix2 0 j) = m ((c : Thread nD τ).loc main_arg1) (ix1 j) := by
  have e : (win0_1.blk t).view.emb (ix2 0 j) = ix2 0 j := by blk_ext [idx t]
  refine (congrArg (V m c main_v1) e).trans ?_
  rw [V_v1]
  pointwise

/-- The weights of `xbc`: the operand the host builds. -/
theorem V_v14 (c : Dev nD) : V m c main_v14 = (truncf (F := Ideal) .bf16 (extractStridedSlice S1024x896 ![0, 384] (m ((c : Thread nD τ).loc main_arg2) : FVec Ideal S1024x4358 .f32) slices_S1024x4358_S1024x896_0_384) bitsLt_bf16_f32 : FVec Ideal S1024x896 .bf16) := by
  simp only [V, hostOps0, hostOps0_1, hostOps0_2, List.flatten_cons, List.flatten_nil, List.append_nil, List.cons_append, List.nil_append]
  after_results

/-- The weights of `xbc`. -/
theorem blk2 (c : Dev nD) (t : Fin cfg0.N) (i : Fin 1024) (j : Fin 896) :
    iblk m c 2 t (ix2 i j) = m ((c : Thread nD τ).loc main_arg2) (ix2 i ⟨384 + j.val, by omega⟩) := by
  have e : (win0_2.blk t).view.emb (ix2 i j) = ix2 i j := by blk_ext [idx t]
  refine (congrArg (V m c main_v14) e).trans ?_
  rw [V_v14]
  pointwise

/-- The weights of `z`: the operand the host builds. -/
theorem V_v16 (c : Dev nD) : V m c main_v16 = (truncf (F := Ideal) .bf16 (extractStridedSlice S1024x384 ![0, 0] (m ((c : Thread nD τ).loc main_arg2) : FVec Ideal S1024x4358 .f32) slices_S1024x4358_S1024x384_0_0) bitsLt_bf16_f32 : FVec Ideal S1024x384 .bf16) := by
  simp only [V, hostOps0, hostOps0_1, hostOps0_2, List.flatten_cons, List.flatten_nil, List.append_nil, List.cons_append, List.nil_append]
  after_results

/-- The weights of `z`. -/
theorem blk4 (c : Dev nD) (t : Fin cfg0.N) (i : Fin 1024) (j : Fin 384) :
    iblk m c 4 t (ix2 i j) = m ((c : Thread nD τ).loc main_arg2) (ix2 i ⟨0 + j.val, by omega⟩) := by
  have e : (win0_4.blk t).view.emb (ix2 i j) = ix2 i j := by blk_ext [idx t]
  refine (congrArg (V m c main_v16) e).trans ?_
  rw [V_v16]
  pointwise

/-- The weights of `sc_b`: the operand the host builds. -/
theorem V_v17 (c : Dev nD) : V m c main_v17 = (truncf (F := Ideal) .bf16 (extractStridedSlice S1024x384 ![0, 1286] (m ((c : Thread nD τ).loc main_arg2) : FVec Ideal S1024x4358 .f32) slices_S1024x4358_S1024x384_0_1286) bitsLt_bf16_f32 : FVec Ideal S1024x384 .bf16) := by
  simp only [V, hostOps0, hostOps0_1, hostOps0_2, List.flatten_cons, List.flatten_nil, List.append_nil, List.cons_append, List.nil_append]
  after_results

/-- The weights of `sc_b`. -/
theorem blk5 (c : Dev nD) (t : Fin cfg0.N) (i : Fin 1024) (j : Fin 384) :
    iblk m c 5 t (ix2 i j) = m ((c : Thread nD τ).loc main_arg2) (ix2 i ⟨1286 + j.val, by omega⟩) := by
  have e : (win0_5.blk t).view.emb (ix2 i j) = ix2 i j := by blk_ext [idx t]
  refine (congrArg (V m c main_v17) e).trans ?_
  rw [V_v17]
  pointwise

/-- The weights of `sc_c`: the operand the host builds. -/
theorem V_v18 (c : Dev nD) : V m c main_v18 = (truncf (F := Ideal) .bf16 (extractStridedSlice S1024x384 ![0, 1670] (m ((c : Thread nD τ).loc main_arg2) : FVec Ideal S1024x4358 .f32) slices_S1024x4358_S1024x384_0_1670) bitsLt_bf16_f32 : FVec Ideal S1024x384 .bf16) := by
  simp only [V, hostOps0, hostOps0_1, hostOps0_2, List.flatten_cons, List.flatten_nil, List.append_nil, List.cons_append, List.nil_append]
  after_results

/-- The weights of `sc_c`. -/
theorem blk6 (c : Dev nD) (t : Fin cfg0.N) (i : Fin 1024) (j : Fin 384) :
    iblk m c 6 t (ix2 i j) = m ((c : Thread nD τ).loc main_arg2) (ix2 i ⟨1670 + j.val, by omega⟩) := by
  have e : (win0_6.blk t).view.emb (ix2 i j) = ix2 i j := by blk_ext [idx t]
  refine (congrArg (V m c main_v18) e).trans ?_
  rw [V_v18]
  pointwise

/-- The weights of `sc_h`: the operand the host builds. -/
theorem V_v19 (c : Dev nD) : V m c main_v19 = (truncf (F := Ideal) .bf16 (extractStridedSlice S1024x384 ![0, 2054] (m ((c : Thread nD τ).loc main_arg2) : FVec Ideal S1024x4358 .f32) slices_S1024x4358_S1024x384_0_2054) bitsLt_bf16_f32 : FVec Ideal S1024x384 .bf16) := by
  simp only [V, hostOps0, hostOps0_1, hostOps0_2, List.flatten_cons, List.flatten_nil, List.append_nil, List.cons_append, List.nil_append]
  after_results

/-- The weights of `sc_h`. -/
theorem blk7 (c : Dev nD) (t : Fin cfg0.N) (i : Fin 1024) (j : Fin 384) :
    iblk m c 7 t (ix2 i j) = m ((c : Thread nD τ).loc main_arg2) (ix2 i ⟨2054 + j.val, by omega⟩) := by
  have e : (win0_7.blk t).view.emb (ix2 i j) = ix2 i j := by blk_ext [idx t]
  refine (congrArg (V m c main_v19) e).trans ?_
  rw [V_v19]
  pointwise

/-- The weights of `q`: the operand the host builds. -/
theorem V_v20 (c : Dev nD) : V m c main_v20 = (truncf (F := Ideal) .bf16 (extractStridedSlice S1024x384 ![0, 2438] (m ((c : Thread nD τ).loc main_arg2) : FVec Ideal S1024x4358 .f32) slices_S1024x4358_S1024x384_0_2438) bitsLt_bf16_f32 : FVec Ideal S1024x384 .bf16) := by
  simp only [V, hostOps0, hostOps0_1, hostOps0_2, List.flatten_cons, List.flatten_nil, List.append_nil, List.cons_append, List.nil_append]
  after_results

/-- The weights of `q`. -/
theorem blk8 (c : Dev nD) (t : Fin cfg0.N) (i : Fin 1024) (j : Fin 384) :
    iblk m c 8 t (ix2 i j) = m ((c : Thread nD τ).loc main_arg2) (ix2 i ⟨2438 + j.val, by omega⟩) := by
  have e : (win0_8.blk t).view.emb (ix2 i j) = ix2 i j := by blk_ext [idx t]
  refine (congrArg (V m c main_v20) e).trans ?_
  rw [V_v20]
  pointwise

/-- The weights of `k`: the operand the host builds. -/
theorem V_v21 (c : Dev nD) : V m c main_v21 = (truncf (F := Ideal) .bf16 (extractStridedSlice S1024x384 ![0, 2822] (m ((c : Thread nD τ).loc main_arg2) : FVec Ideal S1024x4358 .f32) slices_S1024x4358_S1024x384_0_2822) bitsLt_bf16_f32 : FVec Ideal S1024x384 .bf16) := by
  simp only [V, hostOps0, hostOps0_1, hostOps0_2, List.flatten_cons, List.flatten_nil, List.append_nil, List.cons_append, List.nil_append]
  after_results

/-- The weights of `k`. -/
theorem blk9 (c : Dev nD) (t : Fin cfg0.N) (i : Fin 1024) (j : Fin 384) :
    iblk m c 9 t (ix2 i j) = m ((c : Thread nD τ).loc main_arg2) (ix2 i ⟨2822 + j.val, by omega⟩) := by
  have e : (win0_9.blk t).view.emb (ix2 i j) = ix2 i j := by blk_ext [idx t]
  refine (congrArg (V m c main_v21) e).trans ?_
  rw [V_v21]
  pointwise

/-- The weights of `v`: the operand the host builds. -/
theorem V_v22 (c : Dev nD) : V m c main_v22 = (truncf (F := Ideal) .bf16 (extractStridedSlice S1024x384 ![0, 3206] (m ((c : Thread nD τ).loc main_arg2) : FVec Ideal S1024x4358 .f32) slices_S1024x4358_S1024x384_0_3206) bitsLt_bf16_f32 : FVec Ideal S1024x384 .bf16) := by
  simp only [V, hostOps0, hostOps0_1, hostOps0_2, List.flatten_cons, List.flatten_nil, List.append_nil, List.cons_append, List.nil_append]
  after_results

/-- The weights of `v`. -/
theorem blk10 (c : Dev nD) (t : Fin cfg0.N) (i : Fin 1024) (j : Fin 384) :
    iblk m c 10 t (ix2 i j) = m ((c : Thread nD τ).loc main_arg2) (ix2 i ⟨3206 + j.val, by omega⟩) := by
  have e : (win0_10.blk t).view.emb (ix2 i j) = ix2 i j := by blk_ext [idx t]
  refine (congrArg (V m c main_v22) e).trans ?_
  rw [V_v22]
  pointwise

/-- The weights of `cf_a`: the operand the host builds. -/
theorem V_v23 (c : Dev nD) : V m c main_v23 = (truncf (F := Ideal) .bf16 (extractStridedSlice S1024x384 ![0, 3590] (m ((c : Thread nD τ).loc main_arg2) : FVec Ideal S1024x4358 .f32) slices_S1024x4358_S1024x384_0_3590) bitsLt_bf16_f32 : FVec Ideal S1024x384 .bf16) := by
  simp only [V, hostOps0, hostOps0_1, hostOps0_2, List.flatten_cons, List.flatten_nil, List.append_nil, List.cons_append, List.nil_append]
  after_results

/-- The weights of `cf_a`. -/
theorem blk11 (c : Dev nD) (t : Fin cfg0.N) (i : Fin 1024) (j : Fin 384) :
    iblk m c 11 t (ix2 i j) = m ((c : Thread nD τ).loc main_arg2) (ix2 i ⟨3590 + j.val, by omega⟩) := by
  have e : (win0_11.blk t).view.emb (ix2 i j) = ix2 i j := by blk_ext [idx t]
  refine (congrArg (V m c main_v23) e).trans ?_
  rw [V_v23]
  pointwise

/-- The weights of `cf_g`: the operand the host builds. -/
theorem V_v24 (c : Dev nD) : V m c main_v24 = (truncf (F := Ideal) .bf16 (extractStridedSlice S1024x384 ![0, 3974] (m ((c : Thread nD τ).loc main_arg2) : FVec Ideal S1024x4358 .f32) slices_S1024x4358_S1024x384_0_3974) bitsLt_bf16_f32 : FVec Ideal S1024x384 .bf16) := by
  simp only [V, hostOps0, hostOps0_1, hostOps0_2, List.flatten_cons, List.flatten_nil, List.append_nil, List.cons_append, List.nil_append]
  after_results

/-- The weights of `cf_g`. -/
theorem blk12 (c : Dev nD) (t : Fin cfg0.N) (i : Fin 1024) (j : Fin 384) :
    iblk m c 12 t (ix2 i j) = m ((c : Thread nD τ).loc main_arg2) (ix2 i ⟨3974 + j.val, by omega⟩) := by
  have e : (win0_12.blk t).view.emb (ix2 i j) = ix2 i j := by blk_ext [idx t]
  refine (congrArg (V m c main_v24) e).trans ?_
  rw [V_v24]
  pointwise

/-- The weights of `dt`, six columns and then zeros: the operand the host builds. -/
theorem V_v15 (c : Dev nD) : V m c main_v15 = (truncf (F := Ideal) .bf16 (pad S1024x128 ![0, 0] ![0, 122] ![0, 0] (extractStridedSlice S1024x6 ![0, 1280] (m ((c : Thread nD τ).loc main_arg2) : FVec Ideal S1024x4358 .f32) slices_S1024x4358_S1024x6_0_1280) (sitofp .f32 (constantI S_ 32 0#32)) pads_S1024x6_S1024x128_000_01220 h_S_) bitsLt_bf16_f32 : FVec Ideal S1024x128 .bf16) := by
  simp only [V, hostOps0, hostOps0_1, hostOps0_2, List.flatten_cons, List.flatten_nil, List.append_nil, List.cons_append, List.nil_append]
  after_results
  rfl

/-- The weights of `dt`, six columns and then zeros. -/
theorem blk3 (c : Dev nD) (t : Fin cfg0.N) (i : Fin 1024) (j : Fin 128) :
    iblk m c 3 t (ix2 i j) = (if h : j.val < 6 then (m ((c : Thread nD τ).loc main_arg2) (ix2 i ⟨1280 + j.val, by omega⟩) : EReal) else (0 : EReal)) := by
  have e : (win0_3.blk t).view.emb (ix2 i j) = ix2 i j := by blk_ext [idx t]
  refine (congrArg (V m c main_v15) e).trans ?_
  rw [V_v15]
  pointwise
  rw [sitofp_zero]

/-- The array of `xbc`, entry by entry. -/
def G13 (c : Dev nD) : Buf (Elt Ideal) ((c : Thread nD τ).loc main_v25_0) :=
  fun i => full (m ((c : Thread nD τ).loc main_arg0)) (m ((c : Thread nD τ).loc main_arg1)) (m ((c : Thread nD τ).loc main_arg2)) (i 0) ⟨384 + (i 1).val, by have : (i 1).val < 896 := (i 1).isLt; omega⟩

/-- The block of `xbc` grid point `t` writes. -/
theorem point13 (c : Dev nD) (t : Fin cfg0.N) (r : Fin 512) (j : Fin 896) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨384 + (j).val, by have : (j).val < 896 := (j).isLt; omega⟩ := by
  rw [out13_apply]
  simp only [blk0, blk1, blk2]
  have h1 : (512 * t.val + r.val) / 16384 = t.val / 32 := by omega
  have h2 : (512 * t.val + r.val) % 16384 = 512 * (t.val % 32) + r.val := by omega
  simp only [full, proj, h1, h2]

/-- The array of `xbc` after the run. -/
theorem final13 (c : Dev nD) : (dats m 0 c).arrAt 13 cfg0.N = G13 m c := by
  refine (dats m 0 c).arrAt_eq_of_covers 13 _ (by decide +kernel) fun t hf y => ?_
  blk_simp
  rw [after0_13]
  have := lt64 t
  obtain ⟨r, j, rfl⟩ : ∃ r j, y = ix2 r j := ⟨y 0, y 1, by blk_ext⟩
  rw [point13]
  unfold G13
  refine congrArg₂ (full _ _ _) (Fin.ext ?_) (Fin.ext ?_) <;> blk_simp [idx t] <;> simp <;> omega

/-- The array of `dt`, entry by entry. -/
def G14 (c : Dev nD) : Buf (Elt Ideal) ((c : Thread nD τ).loc main_v25_1) :=
  fun i => lane (m ((c : Thread nD τ).loc main_arg0)) (m ((c : Thread nD τ).loc main_arg1)) (m ((c : Thread nD τ).loc main_arg2)) (i 0) (i 1)

/-- The block of `dt` grid point `t` writes. -/
theorem point14 (c : Dev nD) (t : Fin cfg0.N) (r : Fin 512) (j : Fin 128) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = lane (m ((c : Thread nD τ).loc main_arg0)) (m ((c : Thread nD τ).loc main_arg1)) (m ((c : Thread nD τ).loc main_arg2)) ⟨512 * t.val + r.val, by have := lt64 t; omega⟩ j := by
  rw [out14_apply]
  simp only [blk0, blk1, blk3]
  have h1 : (512 * t.val + r.val) / 16384 = t.val / 32 := by omega
  have h2 : (512 * t.val + r.val) % 16384 = 512 * (t.val % 32) + r.val := by omega
  unfold lane
  split_ifs with h
  · simp only [full, proj, h1, h2, h, dif_pos]
  · simp only [proj, h, dif_neg, not_false_eq_true, mul_zero, Finset.sum_const_zero]

/-- The array of `dt` after the run. -/
theorem final14 (c : Dev nD) : (dats m 0 c).arrAt 14 cfg0.N = G14 m c := by
  refine (dats m 0 c).arrAt_eq_of_covers 14 _ (by decide +kernel) fun t hf y => ?_
  blk_simp
  rw [after0_14]
  have := lt64 t
  obtain ⟨r, j, rfl⟩ : ∃ r j, y = ix2 r j := ⟨y 0, y 1, by blk_ext⟩
  rw [point14]
  unfold G14
  refine congrArg₂ (lane _ _ _) (Fin.ext ?_) (Fin.ext ?_) <;> blk_simp [idx t] <;> simp <;> omega

/-- The array of `z`, entry by entry. -/
def G15 (c : Dev nD) : Buf (Elt Ideal) ((c : Thread nD τ).loc main_v25_2) :=
  fun i => full (m ((c : Thread nD τ).loc main_arg0)) (m ((c : Thread nD τ).loc main_arg1)) (m ((c : Thread nD τ).loc main_arg2)) (i 0) ⟨0 + (i 1).val, by have : (i 1).val < 384 := (i 1).isLt; omega⟩

/-- The block of `z` grid point `t` writes. -/
theorem point15 (c : Dev nD) (t : Fin cfg0.N) (r : Fin 512) (j : Fin 384) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨0 + (j).val, by have : (j).val < 384 := (j).isLt; omega⟩ := by
  rw [out15_apply]
  simp only [blk0, blk1, blk4]
  have h1 : (512 * t.val + r.val) / 16384 = t.val / 32 := by omega
  have h2 : (512 * t.val + r.val) % 16384 = 512 * (t.val % 32) + r.val := by omega
  simp only [full, proj, h1, h2]

/-- The array of `z` after the run. -/
theorem final15 (c : Dev nD) : (dats m 0 c).arrAt 15 cfg0.N = G15 m c := by
  refine (dats m 0 c).arrAt_eq_of_covers 15 _ (by decide +kernel) fun t hf y => ?_
  blk_simp
  rw [after0_15]
  have := lt64 t
  obtain ⟨r, j, rfl⟩ : ∃ r j, y = ix2 r j := ⟨y 0, y 1, by blk_ext⟩
  rw [point15]
  unfold G15
  refine congrArg₂ (full _ _ _) (Fin.ext ?_) (Fin.ext ?_) <;> blk_simp [idx t] <;> simp <;> omega

/-- The array of `sc_b`, entry by entry. -/
def G16 (c : Dev nD) : Buf (Elt Ideal) ((c : Thread nD τ).loc main_v25_3) :=
  fun i => full (m ((c : Thread nD τ).loc main_arg0)) (m ((c : Thread nD τ).loc main_arg1)) (m ((c : Thread nD τ).loc main_arg2)) (i 0) ⟨1286 + (i 1).val, by have : (i 1).val < 384 := (i 1).isLt; omega⟩

/-- The block of `sc_b` grid point `t` writes. -/
theorem point16 (c : Dev nD) (t : Fin cfg0.N) (r : Fin 512) (j : Fin 384) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨1286 + (j).val, by have : (j).val < 384 := (j).isLt; omega⟩ := by
  rw [out16_apply]
  simp only [blk0, blk1, blk5]
  have h1 : (512 * t.val + r.val) / 16384 = t.val / 32 := by omega
  have h2 : (512 * t.val + r.val) % 16384 = 512 * (t.val % 32) + r.val := by omega
  simp only [full, proj, h1, h2]

/-- The array of `sc_b` after the run. -/
theorem final16 (c : Dev nD) : (dats m 0 c).arrAt 16 cfg0.N = G16 m c := by
  refine (dats m 0 c).arrAt_eq_of_covers 16 _ (by decide +kernel) fun t hf y => ?_
  blk_simp
  rw [after0_16]
  have := lt64 t
  obtain ⟨r, j, rfl⟩ : ∃ r j, y = ix2 r j := ⟨y 0, y 1, by blk_ext⟩
  rw [point16]
  unfold G16
  refine congrArg₂ (full _ _ _) (Fin.ext ?_) (Fin.ext ?_) <;> blk_simp [idx t] <;> simp <;> omega

/-- The array of `sc_c`, entry by entry. -/
def G17 (c : Dev nD) : Buf (Elt Ideal) ((c : Thread nD τ).loc main_v25_4) :=
  fun i => full (m ((c : Thread nD τ).loc main_arg0)) (m ((c : Thread nD τ).loc main_arg1)) (m ((c : Thread nD τ).loc main_arg2)) (i 0) ⟨1670 + (i 1).val, by have : (i 1).val < 384 := (i 1).isLt; omega⟩

/-- The block of `sc_c` grid point `t` writes. -/
theorem point17 (c : Dev nD) (t : Fin cfg0.N) (r : Fin 512) (j : Fin 384) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨1670 + (j).val, by have : (j).val < 384 := (j).isLt; omega⟩ := by
  rw [out17_apply]
  simp only [blk0, blk1, blk6]
  have h1 : (512 * t.val + r.val) / 16384 = t.val / 32 := by omega
  have h2 : (512 * t.val + r.val) % 16384 = 512 * (t.val % 32) + r.val := by omega
  simp only [full, proj, h1, h2]

/-- The array of `sc_c` after the run. -/
theorem final17 (c : Dev nD) : (dats m 0 c).arrAt 17 cfg0.N = G17 m c := by
  refine (dats m 0 c).arrAt_eq_of_covers 17 _ (by decide +kernel) fun t hf y => ?_
  blk_simp
  rw [after0_17]
  have := lt64 t
  obtain ⟨r, j, rfl⟩ : ∃ r j, y = ix2 r j := ⟨y 0, y 1, by blk_ext⟩
  rw [point17]
  unfold G17
  refine congrArg₂ (full _ _ _) (Fin.ext ?_) (Fin.ext ?_) <;> blk_simp [idx t] <;> simp <;> omega

/-- The array of `sc_h`, entry by entry. -/
def G18 (c : Dev nD) : Buf (Elt Ideal) ((c : Thread nD τ).loc main_v25_5) :=
  fun i => full (m ((c : Thread nD τ).loc main_arg0)) (m ((c : Thread nD τ).loc main_arg1)) (m ((c : Thread nD τ).loc main_arg2)) (i 0) ⟨2054 + (i 1).val, by have : (i 1).val < 384 := (i 1).isLt; omega⟩

/-- The block of `sc_h` grid point `t` writes. -/
theorem point18 (c : Dev nD) (t : Fin cfg0.N) (r : Fin 512) (j : Fin 384) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨2054 + (j).val, by have : (j).val < 384 := (j).isLt; omega⟩ := by
  rw [out18_apply]
  simp only [blk0, blk1, blk7]
  have h1 : (512 * t.val + r.val) / 16384 = t.val / 32 := by omega
  have h2 : (512 * t.val + r.val) % 16384 = 512 * (t.val % 32) + r.val := by omega
  simp only [full, proj, h1, h2]

/-- The array of `sc_h` after the run. -/
theorem final18 (c : Dev nD) : (dats m 0 c).arrAt 18 cfg0.N = G18 m c := by
  refine (dats m 0 c).arrAt_eq_of_covers 18 _ (by decide +kernel) fun t hf y => ?_
  blk_simp
  rw [after0_18]
  have := lt64 t
  obtain ⟨r, j, rfl⟩ : ∃ r j, y = ix2 r j := ⟨y 0, y 1, by blk_ext⟩
  rw [point18]
  unfold G18
  refine congrArg₂ (full _ _ _) (Fin.ext ?_) (Fin.ext ?_) <;> blk_simp [idx t] <;> simp <;> omega

/-- The array of `q`, entry by entry. -/
def G19 (c : Dev nD) : Buf (Elt Ideal) ((c : Thread nD τ).loc main_v25_6) :=
  fun i => full (m ((c : Thread nD τ).loc main_arg0)) (m ((c : Thread nD τ).loc main_arg1)) (m ((c : Thread nD τ).loc main_arg2)) (i 0) ⟨2438 + (i 1).val, by have : (i 1).val < 384 := (i 1).isLt; omega⟩

/-- The block of `q` grid point `t` writes. -/
theorem point19 (c : Dev nD) (t : Fin cfg0.N) (r : Fin 512) (j : Fin 384) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨2438 + (j).val, by have : (j).val < 384 := (j).isLt; omega⟩ := by
  rw [out19_apply]
  simp only [blk0, blk1, blk8]
  have h1 : (512 * t.val + r.val) / 16384 = t.val / 32 := by omega
  have h2 : (512 * t.val + r.val) % 16384 = 512 * (t.val % 32) + r.val := by omega
  simp only [full, proj, h1, h2]

/-- The array of `q` after the run. -/
theorem final19 (c : Dev nD) : (dats m 0 c).arrAt 19 cfg0.N = G19 m c := by
  refine (dats m 0 c).arrAt_eq_of_covers 19 _ (by decide +kernel) fun t hf y => ?_
  blk_simp
  rw [after0_19]
  have := lt64 t
  obtain ⟨r, j, rfl⟩ : ∃ r j, y = ix2 r j := ⟨y 0, y 1, by blk_ext⟩
  rw [point19]
  unfold G19
  refine congrArg₂ (full _ _ _) (Fin.ext ?_) (Fin.ext ?_) <;> blk_simp [idx t] <;> simp <;> omega

/-- The array of `k`, entry by entry. -/
def G20 (c : Dev nD) : Buf (Elt Ideal) ((c : Thread nD τ).loc main_v25_7) :=
  fun i => full (m ((c : Thread nD τ).loc main_arg0)) (m ((c : Thread nD τ).loc main_arg1)) (m ((c : Thread nD τ).loc main_arg2)) (i 0) ⟨2822 + (i 1).val, by have : (i 1).val < 384 := (i 1).isLt; omega⟩

/-- The block of `k` grid point `t` writes. -/
theorem point20 (c : Dev nD) (t : Fin cfg0.N) (r : Fin 512) (j : Fin 384) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨2822 + (j).val, by have : (j).val < 384 := (j).isLt; omega⟩ := by
  rw [out20_apply]
  simp only [blk0, blk1, blk9]
  have h1 : (512 * t.val + r.val) / 16384 = t.val / 32 := by omega
  have h2 : (512 * t.val + r.val) % 16384 = 512 * (t.val % 32) + r.val := by omega
  simp only [full, proj, h1, h2]

/-- The array of `k` after the run. -/
theorem final20 (c : Dev nD) : (dats m 0 c).arrAt 20 cfg0.N = G20 m c := by
  refine (dats m 0 c).arrAt_eq_of_covers 20 _ (by decide +kernel) fun t hf y => ?_
  blk_simp
  rw [after0_20]
  have := lt64 t
  obtain ⟨r, j, rfl⟩ : ∃ r j, y = ix2 r j := ⟨y 0, y 1, by blk_ext⟩
  rw [point20]
  unfold G20
  refine congrArg₂ (full _ _ _) (Fin.ext ?_) (Fin.ext ?_) <;> blk_simp [idx t] <;> simp <;> omega

/-- The array of `v`, entry by entry. -/
def G21 (c : Dev nD) : Buf (Elt Ideal) ((c : Thread nD τ).loc main_v25_8) :=
  fun i => full (m ((c : Thread nD τ).loc main_arg0)) (m ((c : Thread nD τ).loc main_arg1)) (m ((c : Thread nD τ).loc main_arg2)) (i 0) ⟨3206 + (i 1).val, by have : (i 1).val < 384 := (i 1).isLt; omega⟩

/-- The block of `v` grid point `t` writes. -/
theorem point21 (c : Dev nD) (t : Fin cfg0.N) (r : Fin 512) (j : Fin 384) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨3206 + (j).val, by have : (j).val < 384 := (j).isLt; omega⟩ := by
  rw [out21_apply]
  simp only [blk0, blk1, blk10]
  have h1 : (512 * t.val + r.val) / 16384 = t.val / 32 := by omega
  have h2 : (512 * t.val + r.val) % 16384 = 512 * (t.val % 32) + r.val := by omega
  simp only [full, proj, h1, h2]

/-- The array of `v` after the run. -/
theorem final21 (c : Dev nD) : (dats m 0 c).arrAt 21 cfg0.N = G21 m c := by
  refine (dats m 0 c).arrAt_eq_of_covers 21 _ (by decide +kernel) fun t hf y => ?_
  blk_simp
  rw [after0_21]
  have := lt64 t
  obtain ⟨r, j, rfl⟩ : ∃ r j, y = ix2 r j := ⟨y 0, y 1, by blk_ext⟩
  rw [point21]
  unfold G21
  refine congrArg₂ (full _ _ _) (Fin.ext ?_) (Fin.ext ?_) <;> blk_simp [idx t] <;> simp <;> omega

/-- The array of `cf_a`, entry by entry. -/
def G22 (c : Dev nD) : Buf (Elt Ideal) ((c : Thread nD τ).loc main_v25_9) :=
  fun i => full (m ((c : Thread nD τ).loc main_arg0)) (m ((c : Thread nD τ).loc main_arg1)) (m ((c : Thread nD τ).loc main_arg2)) (i 0) ⟨3590 + (i 1).val, by have : (i 1).val < 384 := (i 1).isLt; omega⟩

/-- The block of `cf_a` grid point `t` writes. -/
theorem point22 (c : Dev nD) (t : Fin cfg0.N) (r : Fin 512) (j : Fin 384) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨3590 + (j).val, by have : (j).val < 384 := (j).isLt; omega⟩ := by
  rw [out22_apply]
  simp only [blk0, blk1, blk11]
  have h1 : (512 * t.val + r.val) / 16384 = t.val / 32 := by omega
  have h2 : (512 * t.val + r.val) % 16384 = 512 * (t.val % 32) + r.val := by omega
  simp only [full, proj, h1, h2]

/-- The array of `cf_a` after the run. -/
theorem final22 (c : Dev nD) : (dats m 0 c).arrAt 22 cfg0.N = G22 m c := by
  refine (dats m 0 c).arrAt_eq_of_covers 22 _ (by decide +kernel) fun t hf y => ?_
  blk_simp
  rw [after0_22]
  have := lt64 t
  obtain ⟨r, j, rfl⟩ : ∃ r j, y = ix2 r j := ⟨y 0, y 1, by blk_ext⟩
  rw [point22]
  unfold G22
  refine congrArg₂ (full _ _ _) (Fin.ext ?_) (Fin.ext ?_) <;> blk_simp [idx t] <;> simp <;> omega

/-- The array of `cf_g`, entry by entry. -/
def G23 (c : Dev nD) : Buf (Elt Ideal) ((c : Thread nD τ).loc main_v25_10) :=
  fun i => full (m ((c : Thread nD τ).loc main_arg0)) (m ((c : Thread nD τ).loc main_arg1)) (m ((c : Thread nD τ).loc main_arg2)) (i 0) ⟨3974 + (i 1).val, by have : (i 1).val < 384 := (i 1).isLt; omega⟩

/-- The block of `cf_g` grid point `t` writes. -/
theorem point23 (c : Dev nD) (t : Fin cfg0.N) (r : Fin 512) (j : Fin 384) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = full (m ((c : Thread nD τ).loc main_arg0)) (m ((c : Thread nD τ).loc main_arg1)) (m ((c : Thread nD τ).loc main_arg2)) ⟨512 * t.val + r.val, by have := lt64 t; omega⟩ ⟨3974 + (j).val, by have : (j).val < 384 := (j).isLt; omega⟩ := by
  rw [out23_apply]
  simp only [blk0, blk1, blk12]
  have h1 : (512 * t.val + r.val) / 16384 = t.val / 32 := by omega
  have h2 : (512 * t.val + r.val) % 16384 = 512 * (t.val % 32) + r.val := by omega
  simp only [full, proj, h1, h2]

/-- The array of `cf_g` after the run. -/
theorem final23 (c : Dev nD) : (dats m 0 c).arrAt 23 cfg0.N = G23 m c := by
  refine (dats m 0 c).arrAt_eq_of_covers 23 _ (by decide +kernel) fun t hf y => ?_
  blk_simp
  rw [after0_23]
  have := lt64 t
  obtain ⟨r, j, rfl⟩ : ∃ r j, y = ix2 r j := ⟨y 0, y 1, by blk_ext⟩
  rw [point23]
  unfold G23
  refine congrArg₂ (full _ _ _) (Fin.ext ?_) (Fin.ext ?_) <;> blk_simp [idx t] <;> simp <;> omega

/-- The run: each result array is its columns of the product, and the arguments end unchanged. -/
theorem run : θ_run defs (onTc (τ := τ) (main (F := Ideal))) ⟨m, fun _ => 0, ρ⟩ fun r => ∀ c : Dev nD,
      r.2.mem ((c : Thread nD τ).loc main_v25_0) = G13 m c
      ∧ r.2.mem ((c : Thread nD τ).loc main_v25_1) = G14 m c
      ∧ r.2.mem ((c : Thread nD τ).loc main_v25_2) = G15 m c
      ∧ r.2.mem ((c : Thread nD τ).loc main_v25_3) = G16 m c
      ∧ r.2.mem ((c : Thread nD τ).loc main_v25_4) = G17 m c
      ∧ r.2.mem ((c : Thread nD τ).loc main_v25_5) = G18 m c
      ∧ r.2.mem ((c : Thread nD τ).loc main_v25_6) = G19 m c
      ∧ r.2.mem ((c : Thread nD τ).loc main_v25_7) = G20 m c
      ∧ r.2.mem ((c : Thread nD τ).loc main_v25_8) = G21 m c
      ∧ r.2.mem ((c : Thread nD τ).loc main_v25_9) = G22 m c
      ∧ r.2.mem ((c : Thread nD τ).loc main_v25_10) = G23 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, h3, h4, h5, h6, h7, h8, h9, h10, ha⟩ := h c
    exact ⟨h0.trans (final13 m c), h1.trans (final14 m c), h2.trans (final15 m c), h3.trans (final16 m c), h4.trans (final17 m c), h5.trans (final18 m c), h6.trans (final19 m c), h7.trans (final20 m c), h8.trans (final21 m c), h9.trans (final22 m c), h10.trans (final23 m c), ha⟩) (Value.run_blocks m ρ)

end Cert.InProjIdeal.Block

end
-- ==== Proof.InProjRef.lean ====
/-
  THE INPUT PROJECTION CALL, ITS REFERENCE: the eleven results of the reference, read at a row and a column, are the
  columns of the same matrix product.
-/
module

public import proofs.«01_k».proof.Proof.Gen.InProjRefIdeal.Read
public import proofs.«01_k».proof.Proof.Gen.InProjRefIdeal.Run
public import proofs.«01_k».proof.Proof.InProjBlock

@[expose] public section

set_option maxRecDepth 16384

noncomputable section

open Idealize.ShloMosaic Idealize.ShloMosaic.TcCoe Idealize.SL.Sem

namespace Cert.InProjRefIdeal.Rows

open Cert.InProjRefIdeal Cert.InProjRefIdeal.Gen Cert.InProjRefIdeal.Read Cert.LayerMath

variable (x0 : (⟨S2x16384x1024, .f32⟩ : BufTy).Contents (Elt Ideal)) (x1 : (⟨S1024, .f32⟩ : BufTy).Contents (Elt Ideal))
  (x2 : (⟨S1024x4358, .f32⟩ : BufTy).Contents (Elt Ideal))

/-- The normalised stream. -/
theorem v12_apply (b : Fin 2) (t : Fin 16384) (j : Fin 1024) :
    val_main_v12 x0 x1 (ix3 b t j) = rms c1024 (fun j => x0 (ix3 b t j)) (fun j => x1 (ix1 j)) j := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The whole product. -/
theorem v13_apply (b : Fin 2) (t : Fin 16384) (l : Fin 4358) :
    val_main_v13 x0 x1 x2 (ix3 b t l) = proj (fun j => x0 (ix3 b t j)) (fun j => x1 (ix1 j)) (fun i l => x2 (ix2 i l)) l := by
  have h := v12_apply x0 x1 b t
  unfold val_main_v13
  generalize val_main_v12 x0 x1 = y at h ⊢
  pointwise [h]
  rfl

/-- The result `xbc`. -/
theorem v26_apply (n : Fin 32768) (j : Fin 896) :
    val_main_v26 x0 x1 x2 (ix2 n j) = proj (fun j => x0 (ix3 ⟨n.val / 16384, by omega⟩ ⟨n.val % 16384, by omega⟩ j)) (fun j => x1 (ix1 j)) (fun i l => x2 (ix2 i l)) ⟨384 + j.val, by omega⟩ := by
  refine Eq.trans ?_ (v13_apply x0 x1 x2 ⟨n.val / 16384, by omega⟩ ⟨n.val % 16384, by omega⟩ ⟨384 + j.val, by omega⟩)
  unfold val_main_v26 val_main_v15
  generalize val_main_v13 x0 x1 x2 = y
  pointwise

/-- The result `dt`: six columns, then zeros. -/
theorem v27_apply (n : Fin 32768) (j : Fin 128) :
    val_main_v27 x0 x1 x2 (ix2 n j) = if h : j.val < 6 then proj (fun j => x0 (ix3 ⟨n.val / 16384, by omega⟩ ⟨n.val % 16384, by omega⟩ j)) (fun j => x1 (ix1 j)) (fun i l => x2 (ix2 i l)) ⟨1280 + j.val, by omega⟩ else 0 := by
  have h13 := v13_apply x0 x1 x2 ⟨n.val / 16384, by omega⟩ ⟨n.val % 16384, by omega⟩
  unfold val_main_v27 val_main_v25 val_main_v16
  generalize val_main_v13 x0 x1 x2 = y at h13 ⊢
  pointwise [val_main_call0_v0, val_main_c]
  split_ifs with h1 h2 h2
  · exact h13 _
  · exact absurd h1.2.2 h2
  · exact absurd ⟨by omega, by omega, h2⟩ h1
  · exact sitofp_zero

/-- The result `z`. -/
theorem v28_apply (n : Fin 32768) (j : Fin 384) :
    val_main_v28 x0 x1 x2 (ix2 n j) = proj (fun j => x0 (ix3 ⟨n.val / 16384, by omega⟩ ⟨n.val % 16384, by omega⟩ j)) (fun j => x1 (ix1 j)) (fun i l => x2 (ix2 i l)) ⟨0 + j.val, by omega⟩ := by
  refine Eq.trans ?_ (v13_apply x0 x1 x2 ⟨n.val / 16384, by omega⟩ ⟨n.val % 16384, by omega⟩ ⟨0 + j.val, by omega⟩)
  unfold val_main_v28 val_main_v14
  generalize val_main_v13 x0 x1 x2 = y
  pointwise

/-- The result `sc_b`. -/
theorem v29_apply (n : Fin 32768) (j : Fin 384) :
    val_main_v29 x0 x1 x2 (ix2 n j) = proj (fun j => x0 (ix3 ⟨n.val / 16384, by omega⟩ ⟨n.val % 16384, by omega⟩ j)) (fun j => x1 (ix1 j)) (fun i l => x2 (ix2 i l)) ⟨1286 + j.val, by omega⟩ := by
  refine Eq.trans ?_ (v13_apply x0 x1 x2 ⟨n.val / 16384, by omega⟩ ⟨n.val % 16384, by omega⟩ ⟨1286 + j.val, by omega⟩)
  unfold val_main_v29 val_main_v17
  generalize val_main_v13 x0 x1 x2 = y
  pointwise

/-- The result `sc_c`. -/
theorem v30_apply (n : Fin 32768) (j : Fin 384) :
    val_main_v30 x0 x1 x2 (ix2 n j) = proj (fun j => x0 (ix3 ⟨n.val / 16384, by omega⟩ ⟨n.val % 16384, by omega⟩ j)) (fun j => x1 (ix1 j)) (fun i l => x2 (ix2 i l)) ⟨1670 + j.val, by omega⟩ := by
  refine Eq.trans ?_ (v13_apply x0 x1 x2 ⟨n.val / 16384, by omega⟩ ⟨n.val % 16384, by omega⟩ ⟨1670 + j.val, by omega⟩)
  unfold val_main_v30 val_main_v18
  generalize val_main_v13 x0 x1 x2 = y
  pointwise

/-- The result `sc_h`. -/
theorem v31_apply (n : Fin 32768) (j : Fin 384) :
    val_main_v31 x0 x1 x2 (ix2 n j) = proj (fun j => x0 (ix3 ⟨n.val / 16384, by omega⟩ ⟨n.val % 16384, by omega⟩ j)) (fun j => x1 (ix1 j)) (fun i l => x2 (ix2 i l)) ⟨2054 + j.val, by omega⟩ := by
  refine Eq.trans ?_ (v13_apply x0 x1 x2 ⟨n.val / 16384, by omega⟩ ⟨n.val % 16384, by omega⟩ ⟨2054 + j.val, by omega⟩)
  unfold val_main_v31 val_main_v19
  generalize val_main_v13 x0 x1 x2 = y
  pointwise

/-- The result `q`. -/
theorem v32_apply (n : Fin 32768) (j : Fin 384) :
    val_main_v32 x0 x1 x2 (ix2 n j) = proj (fun j => x0 (ix3 ⟨n.val / 16384, by omega⟩ ⟨n.val % 16384, by omega⟩ j)) (fun j => x1 (ix1 j)) (fun i l => x2 (ix2 i l)) ⟨2438 + j.val, by omega⟩ := by
  refine Eq.trans ?_ (v13_apply x0 x1 x2 ⟨n.val / 16384, by omega⟩ ⟨n.val % 16384, by omega⟩ ⟨2438 + j.val, by omega⟩)
  unfold val_main_v32 val_main_v20
  generalize val_main_v13 x0 x1 x2 = y
  pointwise

/-- The result `k`. -/
theorem v33_apply (n : Fin 32768) (j : Fin 384) :
    val_main_v33 x0 x1 x2 (ix2 n j) = proj (fun j => x0 (ix3 ⟨n.val / 16384, by omega⟩ ⟨n.val % 16384, by omega⟩ j)) (fun j => x1 (ix1 j)) (fun i l => x2 (ix2 i l)) ⟨2822 + j.val, by omega⟩ := by
  refine Eq.trans ?_ (v13_apply x0 x1 x2 ⟨n.val / 16384, by omega⟩ ⟨n.val % 16384, by omega⟩ ⟨2822 + j.val, by omega⟩)
  unfold val_main_v33 val_main_v21
  generalize val_main_v13 x0 x1 x2 = y
  pointwise

/-- The result `v`. -/
theorem v34_apply (n : Fin 32768) (j : Fin 384) :
    val_main_v34 x0 x1 x2 (ix2 n j) = proj (fun j => x0 (ix3 ⟨n.val / 16384, by omega⟩ ⟨n.val % 16384, by omega⟩ j)) (fun j => x1 (ix1 j)) (fun i l => x2 (ix2 i l)) ⟨3206 + j.val, by omega⟩ := by
  refine Eq.trans ?_ (v13_apply x0 x1 x2 ⟨n.val / 16384, by omega⟩ ⟨n.val % 16384, by omega⟩ ⟨3206 + j.val, by omega⟩)
  unfold val_main_v34 val_main_v22
  generalize val_main_v13 x0 x1 x2 = y
  pointwise

/-- The result `cf_a`. -/
theorem v35_apply (n : Fin 32768) (j : Fin 384) :
    val_main_v35 x0 x1 x2 (ix2 n j) = proj (fun j => x0 (ix3 ⟨n.val / 16384, by omega⟩ ⟨n.val % 16384, by omega⟩ j)) (fun j => x1 (ix1 j)) (fun i l => x2 (ix2 i l)) ⟨3590 + j.val, by omega⟩ := by
  refine Eq.trans ?_ (v13_apply x0 x1 x2 ⟨n.val / 16384, by omega⟩ ⟨n.val % 16384, by omega⟩ ⟨3590 + j.val, by omega⟩)
  unfold val_main_v35 val_main_v23
  generalize val_main_v13 x0 x1 x2 = y
  pointwise

/-- The result `cf_g`. -/
theorem v36_apply (n : Fin 32768) (j : Fin 384) :
    val_main_v36 x0 x1 x2 (ix2 n j) = proj (fun j => x0 (ix3 ⟨n.val / 16384, by omega⟩ ⟨n.val % 16384, by omega⟩ j)) (fun j => x1 (ix1 j)) (fun i l => x2 (ix2 i l)) ⟨3974 + j.val, by omega⟩ := by
  refine Eq.trans ?_ (v13_apply x0 x1 x2 ⟨n.val / 16384, by omega⟩ ⟨n.val % 16384, by omega⟩ ⟨3974 + j.val, by omega⟩)
  unfold val_main_v36 val_main_v24
  generalize val_main_v13 x0 x1 x2 = y
  pointwise

end Cert.InProjRefIdeal.Rows

end
-- ==== Proof.InProjEq.lean ====
/-
  THE INPUT PROJECTION CALL, THE CLAIM: the kernel's eleven result arrays are the reference's.
-/
module

public import proofs.«01_k».proof.Defs
public import proofs.«01_k».proof.Proof.InProjFinal
public import proofs.«01_k».proof.Proof.InProjRef
public import proofs.«01_k».proof.Proof.Gen.InProj.Frame
public import Idealize.ShloMosaic.Lib.Quiescent

@[expose] public section

set_option maxRecDepth 16384

noncomputable section

open Idealize.ShloMosaic Idealize.ShloMosaic.TcCoe Idealize.SL.Sem

namespace Cert.InProjEq

/-- Run and frame of the kernel as printed. -/
theorem frame_kernel : quiescent_InProj := fun m ρ _ => Cert.InProj.Gen.frame m ρ

/-- Run and frame of the kernel over the reals. -/
theorem frame_ideal : quiescent_InProjIdeal := fun m ρ _ => Cert.InProjIdeal.Gen.frame m ρ

open Cert.InProjRefIdeal Cert.InProjRefIdeal.Gen in
/-- Run and frame of the reference. -/
theorem frame_ref : quiescent_InProjRefIdeal := fun m ρ _ =>
  (θ_run defs _ _).mono (fun r h => ⟨fun c => (h c).2.2.2.2.2.2.2.2.2.2.2, sem_eq_zero_of_no_sems (by decide) r.2⟩) (Cert.InProjRefIdeal.Value.run (F := Ideal) m ρ)

variable (m : (ℓ : Loc InProjIdeal.nD InProjIdeal.τ InProjIdeal.sig) → Buf (Elt Ideal) ℓ) (c : Dev InProjIdeal.nD)

/-- The reference's `xbc` is the kernel's. -/
theorem res0 : Cert.InProjRefIdeal.Read.val_main_v26 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G13 m c := by
  funext i
  obtain ⟨n, j, rfl⟩ : ∃ (n : Fin 32768) (j : Fin 896), i = ix2 n j := ⟨i 0, i 1, by funext k; fin_cases k <;> rfl⟩
  exact Cert.InProjRefIdeal.Rows.v26_apply _ _ _ n j

/-- The reference's `dt` is the kernel's. -/
theorem res1 : Cert.InProjRefIdeal.Read.val_main_v27 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G14 m c := by
  funext i
  obtain ⟨n, j, rfl⟩ : ∃ (n : Fin 32768) (j : Fin 128), i = ix2 n j := ⟨i 0, i 1, by funext k; fin_cases k <;> rfl⟩
  exact Cert.InProjRefIdeal.Rows.v27_apply _ _ _ n j

/-- The reference's `z` is the kernel's. -/
theorem res2 : Cert.InProjRefIdeal.Read.val_main_v28 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G15 m c := by
  funext i
  obtain ⟨n, j, rfl⟩ : ∃ (n : Fin 32768) (j : Fin 384), i = ix2 n j := ⟨i 0, i 1, by funext k; fin_cases k <;> rfl⟩
  exact Cert.InProjRefIdeal.Rows.v28_apply _ _ _ n j

/-- The reference's `sc_b` is the kernel's. -/
theorem res3 : Cert.InProjRefIdeal.Read.val_main_v29 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G16 m c := by
  funext i
  obtain ⟨n, j, rfl⟩ : ∃ (n : Fin 32768) (j : Fin 384), i = ix2 n j := ⟨i 0, i 1, by funext k; fin_cases k <;> rfl⟩
  exact Cert.InProjRefIdeal.Rows.v29_apply _ _ _ n j

/-- The reference's `sc_c` is the kernel's. -/
theorem res4 : Cert.InProjRefIdeal.Read.val_main_v30 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G17 m c := by
  funext i
  obtain ⟨n, j, rfl⟩ : ∃ (n : Fin 32768) (j : Fin 384), i = ix2 n j := ⟨i 0, i 1, by funext k; fin_cases k <;> rfl⟩
  exact Cert.InProjRefIdeal.Rows.v30_apply _ _ _ n j

/-- The reference's `sc_h` is the kernel's. -/
theorem res5 : Cert.InProjRefIdeal.Read.val_main_v31 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G18 m c := by
  funext i
  obtain ⟨n, j, rfl⟩ : ∃ (n : Fin 32768) (j : Fin 384), i = ix2 n j := ⟨i 0, i 1, by funext k; fin_cases k <;> rfl⟩
  exact Cert.InProjRefIdeal.Rows.v31_apply _ _ _ n j

/-- The reference's `q` is the kernel's. -/
theorem res6 : Cert.InProjRefIdeal.Read.val_main_v32 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G19 m c := by
  funext i
  obtain ⟨n, j, rfl⟩ : ∃ (n : Fin 32768) (j : Fin 384), i = ix2 n j := ⟨i 0, i 1, by funext k; fin_cases k <;> rfl⟩
  exact Cert.InProjRefIdeal.Rows.v32_apply _ _ _ n j

/-- The reference's `k` is the kernel's. -/
theorem res7 : Cert.InProjRefIdeal.Read.val_main_v33 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G20 m c := by
  funext i
  obtain ⟨n, j, rfl⟩ : ∃ (n : Fin 32768) (j : Fin 384), i = ix2 n j := ⟨i 0, i 1, by funext k; fin_cases k <;> rfl⟩
  exact Cert.InProjRefIdeal.Rows.v33_apply _ _ _ n j

/-- The reference's `v` is the kernel's. -/
theorem res8 : Cert.InProjRefIdeal.Read.val_main_v34 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G21 m c := by
  funext i
  obtain ⟨n, j, rfl⟩ : ∃ (n : Fin 32768) (j : Fin 384), i = ix2 n j := ⟨i 0, i 1, by funext k; fin_cases k <;> rfl⟩
  exact Cert.InProjRefIdeal.Rows.v34_apply _ _ _ n j

/-- The reference's `cf_a` is the kernel's. -/
theorem res9 : Cert.InProjRefIdeal.Read.val_main_v35 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G22 m c := by
  funext i
  obtain ⟨n, j, rfl⟩ : ∃ (n : Fin 32768) (j : Fin 384), i = ix2 n j := ⟨i 0, i 1, by funext k; fin_cases k <;> rfl⟩
  exact Cert.InProjRefIdeal.Rows.v35_apply _ _ _ n j

/-- The reference's `cf_g` is the kernel's. -/
theorem res10 : Cert.InProjRefIdeal.Read.val_main_v36 (m ((c.tc : Thread InProjIdeal.nD InProjIdeal.τ).loc InProjIdeal.main_arg0)) (m ((c.tc : Thread InProjIdeal.nD InProjIdeal.τ).loc InProjIdeal.main_arg1)) (m ((c.tc : Thread InProjIdeal.nD InProjIdeal.τ).loc InProjIdeal.main_arg2)) = Cert.InProjIdeal.Block.G23 m c := by
  funext i
  obtain ⟨n, j, rfl⟩ : ∃ (n : Fin 32768) (j : Fin 384), i = ix2 n j := ⟨i 0, i 1, by funext k; fin_cases k <;> rfl⟩
  exact Cert.InProjRefIdeal.Rows.v36_apply _ _ _ n j

open Cert.InProjRefIdeal in
/-- The kernel's results are the reference's. -/
theorem algebraic : algebraic_InProjIdeal_InProjRefIdeal := fun m ρ m' ρ' _ hag =>
  ⟨fun c => Cert.InProjIdeal.Block.G13 m c, fun c => Cert.InProjIdeal.Block.G14 m c, fun c => Cert.InProjIdeal.Block.G15 m c, fun c => Cert.InProjIdeal.Block.G16 m c, fun c => Cert.InProjIdeal.Block.G17 m c, fun c => Cert.InProjIdeal.Block.G18 m c, fun c => Cert.InProjIdeal.Block.G19 m c, fun c => Cert.InProjIdeal.Block.G20 m c, fun c => Cert.InProjIdeal.Block.G21 m c, fun c => Cert.InProjIdeal.Block.G22 m c, fun c => Cert.InProjIdeal.Block.G23 m c, Cert.InProjIdeal.Block.run m ρ,
    (θ_run defs _ _).mono (fun _ h c => by
      obtain ⟨a0, a1, a2⟩ := hag c
      obtain ⟨h0, h1, h2, h3, h4, h5, h6, h7, h8, h9, h10, hk⟩ := h c
      refine ⟨h0.trans (?_ : _ = _), h1.trans (?_ : _ = _), h2.trans (?_ : _ = _), h3.trans (?_ : _ = _), h4.trans (?_ : _ = _), h5.trans (?_ : _ = _), h6.trans (?_ : _ = _), h7.trans (?_ : _ = _), h8.trans (?_ : _ = _), h9.trans (?_ : _ = _), h10.trans (?_ : _ = _), hk⟩
      · refine (Cert.InProjRefIdeal.Read.val_main_v26_eq _ _ _).trans ?_; rw [a0, a1, a2]; exact res0 m c
      · refine (Cert.InProjRefIdeal.Read.val_main_v27_eq _ _ _).trans ?_; rw [a0, a1, a2]; exact res1 m c
      · refine (Cert.InProjRefIdeal.Read.val_main_v28_eq _ _ _).trans ?_; rw [a0, a1, a2]; exact res2 m c
      · refine (Cert.InProjRefIdeal.Read.val_main_v29_eq _ _ _).trans ?_; rw [a0, a1, a2]; exact res3 m c
      · refine (Cert.InProjRefIdeal.Read.val_main_v30_eq _ _ _).trans ?_; rw [a0, a1, a2]; exact res4 m c
      · refine (Cert.InProjRefIdeal.Read.val_main_v31_eq _ _ _).trans ?_; rw [a0, a1, a2]; exact res5 m c
      · refine (Cert.InProjRefIdeal.Read.val_main_v32_eq _ _ _).trans ?_; rw [a0, a1, a2]; exact res6 m c
      · refine (Cert.InProjRefIdeal.Read.val_main_v33_eq _ _ _).trans ?_; rw [a0, a1, a2]; exact res7 m c
      · refine (Cert.InProjRefIdeal.Read.val_main_v34_eq _ _ _).trans ?_; rw [a0, a1, a2]; exact res8 m c
      · refine (Cert.InProjRefIdeal.Read.val_main_v35_eq _ _ _).trans ?_; rw [a0, a1, a2]; exact res9 m c
      · refine (Cert.InProjRefIdeal.Read.val_main_v36_eq _ _ _).trans ?_; rw [a0, a1, a2]; exact res10 m c) (Cert.InProjRefIdeal.Value.run (F := Ideal) m' ρ')⟩

end Cert.InProjEq

end
-- ==== Proof.ExpertsRun.lean ====
/-
  THE EXPERTS CALL, ITS RUN: at ANY table of expert numbers in range and any number of used blocks. At every
  grid point the body takes one of two paths, by the number of used blocks; the two paths of the body are joined
  here into one obligation, and the call runs to its end.
-/
module

public import proofs.«01_k».proof.Proof.Gen.Experts.Flash.Runs
public import proofs.«01_k».proof.Proof.Gen.Experts.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.Experts.Block

open Cert.Experts Cert.Experts.Gen

/-- The resources the proof is written over. -/
abbrev RM : Type := MT nD τ sig Unit (Elt Bits) ℕ (UR sig nD τ) ℕ

/-- The pipeline's own resources among them. -/
abbrev EP : Emb (UR sig nD τ) RM := emb₁

variable (m : (ℓ : Loc nD τ sig) → Buf (Elt Bits) ℓ) (ρ : Dev nD → PrngReg)

/-- The table of expert numbers in the memory. -/
def tab0 : S288.Idx → Elt Bits .i32 := m (((0 : Dev nD) : Thread nD τ).loc main_arg0)

/-- The number of used blocks in the memory. -/
def tab1 : S1.Idx → Elt Bits .i32 := m (((0 : Dev nD) : Thread nD τ).loc main_arg1)

/-- Both, as the call reads them at its start. -/
def tabs : pre0.Contents (Elt Bits) := fun | ⟨0, _⟩ => tab0 m | ⟨1, _⟩ => tab1 m | ⟨_ + 2, h⟩ => absurd h (by simp)

/-- Every expert number of the table is below 32. -/
def InRange : Prop := ∀ x, (BitVec.toNat (tab0 m x : BitVec 32)) < 32

/-- One entry of a block index in bounds, then the rest. -/
theorem inb_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  intro a
  cases a using Fin.cases with
  | zero => simpa using h0
  | succ a => simpa using hr a

/-- One expert's slab in bounds. -/
theorem one_inb {n : ℕ} (h : n < 32) : (n + 1) * 1 ≤ 32 := by omega

/-- With every expert number in range the weights' blocks lie inside their arrays. -/
theorem ok_of_range (h : InRange m) : ok0 (tabs m) := by
  refine ⟨fun i => ⟨?_, .inl rfl⟩, fun i => ⟨?_, .inl rfl⟩, fun i => ⟨?_, .inl rfl⟩⟩
  · exact inb_cons (one_inb (h ((Rect.unit (s := S288) ![(Scalar.indexCast (BitVec.ofNat 32 (i 0).val) : Index).toNat] S1.size (k0_off1_inb i)).emb (Shape.Idx.first (numel1_S1.symm ▸ Nat.one_pos)))))
      (inb_cons (by decide) (inb_cons (by decide) fun a => a.elim0))
  · exact inb_cons (one_inb (h ((Rect.unit (s := S288) ![(Scalar.indexCast (BitVec.ofNat 32 (i 0).val) : Index).toNat] S1.size (k0_off1_inb i)).emb (Shape.Idx.first (numel1_S1.symm ▸ Nat.one_pos)))))
      (inb_cons (by decide) (inb_cons (by decide) fun a => a.elim0))
  · exact inb_cons (one_inb (h ((Rect.unit (s := S288) ![(Scalar.indexCast (BitVec.ofNat 32 (i 0).val) : Index).toNat] S1.size (k0_off1_inb i)).emb (Shape.Idx.first (numel1_S1.symm ▸ Nat.one_pos)))))
      (inb_cons (by decide) (inb_cons (by decide) fun a => a.elim0))

/-- The two conditions of the body: exactly one holds. -/
theorem cond2_iff (i : grid0.Coords) (w : BitVec 32) : k0_cond2 i w = 1#1 ↔ ¬ k0_cond1 i w = 1#1 := by
  unfold k0_cond1 k0_cond2
  dsimp only
  generalize Scalar.cmpi .slt (BitVec.ofNat 32 (i 0).val) w = b
  revert b
  decide

/-- No grid point leaves the result's block unwritten. -/
theorem not_idle (i : grid0.Coords) (w : BitVec 32) : (!(k0_cond1 i w == 1#1) && !(k0_cond2 i w == 1#1)) = false := by
  by_cases h : k0_cond1 i w = 1#1
  · simp [h]
  · simp [(cond2_iff i w).2 h]

variable (hok : ok0 (tabs m))

/-- The tables as the pipeline takes them. -/
def adm : (pcfg0 (F := Bits)).Adm := ⟨tabs m, hok⟩

/-- The pipeline at these tables. -/
abbrev cfgA : Pipeline.Cfg sig Λ₀ := cfg0 (F := Bits) (adm m hok)

/-- The program's only pipeline. -/
abbrev pcs : Fin 1 → Pipeline.Cfg sig Λ₀ := Pipeline.pin (pcfgs (F := Bits)) fun _ => adm m hok

/-- The launch state. -/
abbrev s₀ : MemSt nD τ sig (Elt Bits) := ⟨m, fun _ => 0, ρ⟩

/-- The coordinates of a grid point. -/
abbrev crd (t : Fin (cfgA m hok).N) : (cfgA m hok).grid.Coords := (cfgA m hok).grid.coords t
/-- Window 0's buffer at a grid point, a whole buffer. -/
abbrev stg0 (t : Fin (cfgA m hok).N) : Memref sig .tc .vmem S256x1024 .f32 := spec0_0.stage ((cfgA m hok).slots t (0 : Fin 5))
theorem whole0 (t : Fin (cfgA m hok).N) : (stg0 m hok t).IsWhole := hstage0_0 (((cfgA m hok).slots t (0 : Fin 5)).cast nbuf0_0)
/-- Window 1's buffer at a grid point, a whole buffer. -/
abbrev stg1 (t : Fin (cfgA m hok).N) : Memref sig .tc .vmem S1x1024x512 .f32 := spec0_1.stage ((cfgA m hok).slots t (1 : Fin 5))
theorem whole1 (t : Fin (cfgA m hok).N) : (stg1 m hok t).IsWhole := hstage0_1 (((cfgA m hok).slots t (1 : Fin 5)).cast nbuf0_1)
/-- Window 2's buffer at a grid point, a whole buffer. -/
abbrev stg2 (t : Fin (cfgA m hok).N) : Memref sig .tc .vmem S1x1024x512 .f32 := spec0_2.stage ((cfgA m hok).slots t (2 : Fin 5))
theorem whole2 (t : Fin (cfgA m hok).N) : (stg2 m hok t).IsWhole := hstage0_2 (((cfgA m hok).slots t (2 : Fin 5)).cast nbuf0_2)
/-- Window 3's buffer at a grid point, a whole buffer. -/
abbrev stg3 (t : Fin (cfgA m hok).N) : Memref sig .tc .vmem S1x512x1024 .f32 := spec0_3.stage ((cfgA m hok).slots t (3 : Fin 5))
theorem whole3 (t : Fin (cfgA m hok).N) : (stg3 m hok t).IsWhole := hstage0_3 (((cfgA m hok).slots t (3 : Fin 5)).cast nbuf0_3)
/-- Window 4's buffer at a grid point, a whole buffer. -/
abbrev stg4 (t : Fin (cfgA m hok).N) : Memref sig .tc .vmem S256x1024 .f32 := spec0_4.stage ((cfgA m hok).slots t (4 : Fin 5))
theorem whole4 (t : Fin (cfgA m hok).N) : (stg4 m hok t).IsWhole := hstage0_4 (((cfgA m hok).slots t (4 : Fin 5)).cast nbuf0_4)

/-- The block a window reads at a grid point. -/
def iblk (c : Dev nD) (w : Fin (cfgA m hok).W) (t : Fin (cfgA m hok).N) : (((cfgA m hok).win w).xblock (crd m hok t)).Idx → Elt Bits ((cfgA m hok).win w).elt :=
  (((cfgA m hok).win w).blk t).view.read (Elt Bits) (m (((cfgA m hok).win w).arr.view.loc (c : Thread nD τ)))

/-- The number of used blocks, as the body reads it. -/
abbrev word : BitVec 32 :=
  View.readAt (Elt Bits) (tbM0_1).view (Rect.unit (s := S1) ![0] S1.size inb_S1_S1_0).toLoadRect (tab1 m) (Shape.Idx.first (numel1_S1.symm ▸ Nat.one_pos))

/-- What a used block's point leaves. -/
abbrev outUsed (c : Dev nD) (t : Fin (cfgA m hok).N) (h : k0_cond1 (crd m hok t) (word m) = 1#1) : S256x1024.Idx → Elt Bits .f32 :=
  out0_A_4 c (crd m hok t) (stg0 m hok t) (whole0 m hok t) (stg1 m hok t) (whole1 m hok t) (stg2 m hok t) (whole2 m hok t) (stg3 m hok t) (whole3 m hok t) (stg4 m hok t) (whole4 m hok t) (tab0 m) (tab1 m)
    (iblk m hok c (0 : Fin 5) t) (iblk m hok c (1 : Fin 5) t) (iblk m hok c (2 : Fin 5) t) (iblk m hok c (3 : Fin 5) t) h
    (fun h2 => (cond2_iff _ _).1 h2 h)

/-- What an unused block's point leaves. -/
abbrev outUnused (c : Dev nD) (t : Fin (cfgA m hok).N) (h : ¬ k0_cond1 (crd m hok t) (word m) = 1#1) : S256x1024.Idx → Elt Bits .f32 :=
  out0_B_4 c (crd m hok t) (stg0 m hok t) (whole0 m hok t) (stg1 m hok t) (whole1 m hok t) (stg2 m hok t) (whole2 m hok t) (stg3 m hok t) (whole3 m hok t) (stg4 m hok t) (whole4 m hok t) (tab0 m) (tab1 m)
    (iblk m hok c (0 : Fin 5) t) (iblk m hok c (1 : Fin 5) t) (iblk m hok c (2 : Fin 5) t) (iblk m hok c (3 : Fin 5) t) h
    ((cond2_iff _ _).2 h)

/-- What a grid point leaves in the result's buffer. -/
def outAt (c : Dev nD) (t : Fin (cfgA m hok).N) : S256x1024.Idx → Elt Bits .f32 :=
  if h : k0_cond1 (crd m hok t) (word m) = 1#1 then outUsed m hok c t h else outUnused m hok c t h

theorem outAt_used (c : Dev nD) (t : Fin (cfgA m hok).N) (h : k0_cond1 (crd m hok t) (word m) = 1#1) : outAt m hok c t = outUsed m hok c t h := dif_pos h
theorem outAt_unused (c : Dev nD) (t : Fin (cfgA m hok).N) (h : ¬ k0_cond1 (crd m hok t) (word m) = 1#1) : outAt m hok c t = outUnused m hok c t h := dif_neg h

/-- What holds between the points: the body's shares of the two tables. -/
def Phi (c : Dev nD) : sProp RM :=
  iprop((tbM0_0.view.loc (c : Thread nD τ) ↦{fullShare.right} tab0 m) ∗ (tbM0_1.view.loc (c : Thread nD τ) ↦{fullShare.right} tab1 m))

/-- What each window's buffer holds after each point, and what the arrays hold at the start. -/
def dats (_ : Fin 1) (c : Dev nD) : Dat τ (Elt Bits) Unit ℕ (UR sig nD τ) ℕ (cfgA m hok) c where
  A w := m (((cfgA m hok).win w).arr.view.loc (c : Thread nD τ))
  after w t := match w with
    | ⟨0, _⟩ => iblk m hok c (0 : Fin 5) t
    | ⟨1, _⟩ => iblk m hok c (1 : Fin 5) t
    | ⟨2, _⟩ => iblk m hok c (2 : Fin 5) t
    | ⟨3, _⟩ => iblk m hok c (3 : Fin 5) t
    | ⟨4, _⟩ => outAt m hok c t
  Φ _ := Phi m c
  q _ := fullShare
  owed _ := 0

theorem after0 (c : Dev nD) (t : Fin (cfgA m hok).N) : (dats m hok 0 c).after (0 : Fin 5) t = iblk m hok c (0 : Fin 5) t := rfl
theorem after1 (c : Dev nD) (t : Fin (cfgA m hok).N) : (dats m hok 0 c).after (1 : Fin 5) t = iblk m hok c (1 : Fin 5) t := rfl
theorem after2 (c : Dev nD) (t : Fin (cfgA m hok).N) : (dats m hok 0 c).after (2 : Fin 5) t = iblk m hok c (2 : Fin 5) t := rfl
theorem after3 (c : Dev nD) (t : Fin (cfgA m hok).N) : (dats m hok 0 c).after (3 : Fin 5) t = iblk m hok c (3 : Fin 5) t := rfl
theorem after4 (c : Dev nD) (t : Fin (cfgA m hok).N) : (dats m hok 0 c).after (4 : Fin 5) t = outAt m hok c t := rfl

/-- Window 0's buffer holds its block when the body runs. -/
theorem before0 (c : Dev nD) (t : Fin (cfgA m hok).N) (d) : (dats m hok 0 c).before (0 : Fin 5) t d = iblk m hok c (0 : Fin 5) t :=
  ((dats m hok 0 c).before_in_eq_fetched (0 : Fin 5) rfl (fun _ => rfl) (fun _ _ _ => rfl) (fun t => by rw [after0]; unfold Dat.blockOf iblk; rfl) t d).trans
    (by unfold Dat.fetched Dat.blockOf iblk; rfl)

/-- Window 1's buffer holds its block when the body runs. -/
theorem before1 (c : Dev nD) (t : Fin (cfgA m hok).N) (d) : (dats m hok 0 c).before (1 : Fin 5) t d = iblk m hok c (1 : Fin 5) t :=
  ((dats m hok 0 c).before_in_eq_fetched (1 : Fin 5) rfl (fun _ => rfl) (fun _ _ _ => rfl) (fun t => by rw [after1]; unfold Dat.blockOf iblk; rfl) t d).trans
    (by unfold Dat.fetched Dat.blockOf iblk; rfl)

/-- Window 2's buffer holds its block when the body runs. -/
theorem before2 (c : Dev nD) (t : Fin (cfgA m hok).N) (d) : (dats m hok 0 c).before (2 : Fin 5) t d = iblk m hok c (2 : Fin 5) t :=
  ((dats m hok 0 c).before_in_eq_fetched (2 : Fin 5) rfl (fun _ => rfl) (fun _ _ _ => rfl) (fun t => by rw [after2]; unfold Dat.blockOf iblk; rfl) t d).trans
    (by unfold Dat.fetched Dat.blockOf iblk; rfl)

/-- Window 3's buffer holds its block when the body runs. -/
theorem before3 (c : Dev nD) (t : Fin (cfgA m hok).N) (d) : (dats m hok 0 c).before (3 : Fin 5) t d = iblk m hok c (3 : Fin 5) t :=
  ((dats m hok 0 c).before_in_eq_fetched (3 : Fin 5) rfl (fun _ => rfl) (fun _ _ _ => rfl) (fun t => by rw [after3]; unfold Dat.blockOf iblk; rfl) t d).trans
    (by unfold Dat.fetched Dat.blockOf iblk; rfl)

set_option maxHeartbeats 4000000 in
/-- One point of the grid: from the blocks in the buffers and the tables, the body leaves the result's block. -/
theorem sound_point (c : Dev nD) (t : Fin (cfgA m hok).N) :
    iprop((dats m hok 0 c).Φ t.castSucc ∗ (dats m hok 0 c).owesAt () t.castSucc
        ∗ (∃ d, owns (c : Thread nD τ) (stg0 m hok t) fullShare ((dats m hok 0 c).before (0 : Fin 5) t d))
        ∗ (∃ d, owns (c : Thread nD τ) (stg1 m hok t) fullShare ((dats m hok 0 c).before (1 : Fin 5) t d))
        ∗ (∃ d, owns (c : Thread nD τ) (stg2 m hok t) fullShare ((dats m hok 0 c).before (2 : Fin 5) t d))
        ∗ (∃ d, owns (c : Thread nD τ) (stg3 m hok t) fullShare ((dats m hok 0 c).before (3 : Fin 5) t d))
        ∗ (∃ d, owns (c : Thread nD τ) (stg4 m hok t) fullShare ((dats m hok 0 c).before (4 : Fin 5) t d)))
      ⊢ wp frame (wpE (defs₀ (F := Bits)) Variants.none c none) Set.univ
          (cc0_moe_experts (crd m hok t) (Memref.whole main_arg0) (Memref.isWhole_whole _) (Memref.whole main_arg1) (Memref.isWhole_whole _) (stg0 m hok t) (whole0 m hok t) (stg1 m hok t) (whole1 m hok t) (stg2 m hok t) (whole2 m hok t) (stg3 m hok t) (whole3 m hok t) (stg4 m hok t) (whole4 m hok t)) fun _ =>
          iprop((dats m hok 0 c).Φ t.succ ∗ (dats m hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok 0 c).before w t d))
                  | true => owns (c : Thread nD τ) (((cfgA m hok).win w).stage ((cfgA m hok).slots t w)) fullShare ((dats m hok 0 c).after w t)
                | false => owns (c : Thread nD τ) (((cfgA m hok).win w).stage ((cfgA m hok).slots t w)) fullShare ((dats m hok 0 c).after w t)) := by
  rw [bigSep_W0]
  have i4 : (cfgA m hok).idle (4 : Fin 5) ((cfgA m hok).grid.coords t) = false := not_idle _ _
  rewrite [i4]
  simp only [before0, before1, before2, before3, after0, after1, after2, after3, after4]
  rewrite [show (dats m hok 0 c).Φ t.succ = Phi m c from rfl, show (dats m hok 0 c).Φ t.castSucc = Phi m c from rfl,
    show (dats m hok 0 c).owesAt () t.succ = (dats m hok 0 c).owesAt () t.castSucc from rfl]
  by_cases h1 : k0_cond1 (crd m hok t) (word m) = 1#1
  · rewrite [outAt_used m hok c t h1]
    unfold Phi
    iintro ⟨⟨HT0, HT1⟩, Ho, ⟨%d0, H0⟩, ⟨%d1, H1⟩, ⟨%d2, H2⟩, ⟨%d3, H3⟩, ⟨%d4, H4⟩⟩
    iapply ((kernelRun0_A c (crd m hok t) (stg0 m hok t) (whole0 m hok t) (stg1 m hok t) (whole1 m hok t) (stg2 m hok t) (whole2 m hok t) (stg3 m hok t) (whole3 m hok t) (stg4 m hok t) (whole4 m hok t) (tab0 m) (tab1 m) (iblk m hok c (0 : Fin 5) t) (iblk m hok c (1 : Fin 5) t) (iblk m hok c (2 : Fin 5) t) (iblk m hok c (3 : Fin 5) t) h1 (fun h2 => (cond2_iff _ _).1 h2 h1)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rewrite [outAt_unused m hok c t h1]
    unfold Phi
    iintro ⟨⟨HT0, HT1⟩, Ho, ⟨%d0, H0⟩, ⟨%d1, H1⟩, ⟨%d2, H2⟩, ⟨%d3, H3⟩, ⟨%d4, H4⟩⟩
    iapply ((kernelRun0_B c (crd m hok t) (stg0 m hok t) (whole0 m hok t) (stg1 m hok t) (whole1 m hok t) (stg2 m hok t) (whole2 m hok t) (stg3 m hok t) (whole3 m hok t) (stg4 m hok t) (whole4 m hok t) (tab0 m) (tab1 m) (iblk m hok c (0 : Fin 5) t) (iblk m hok c (1 : Fin 5) t) (iblk m hok c (2 : Fin 5) t) (iblk m hok c (3 : Fin 5) t) h1 ((cond2_iff _ _).2 h1)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The same, as the pipeline asks it of every point. -/
theorem body_obligation (c : Dev nD) : BodyObligation (dats m hok 0 c) (defs₀ (F := Bits)) Variants.none () Set.univ := fun t => by
  rw [bigSep_W0]
  exact sound_point m hok c t

/-- What the launch starts from. -/
def u₀ : UR sig nD τ :=
  initOf (Pipeline.cells (pcs m hok) ((launch0 (F := Bits)).cellOf_inj fun _ => adm m hok))
    (Pipeline.launchToks (pcs m hok) ((launch0 (F := Bits)).cellOf_inj fun _ => adm m hok))

/-- Every array is owned whole. -/
theorem share_eq (c : Dev nD) (w : Fin (cfgA m hok).W) : (dats m hok 0 c).share w = fullShare := by unfold Dat.share; split <;> rfl

/-- The tables as the launch hands them over, one by one. -/
theorem held_eq (c : Dev nD) (q : Fin 2 → PosShare TreeShare) (v : pre0.Contents (Elt Bits)) :
    (Pipeline.prefHeld (Ix := Unit) (Name := ℕ) (U := UR sig nD τ) (Lvl := ℕ) pre0 c q v : sProp RM)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The tables' shares before the first point. -/
theorem phi_first (c : Dev nD) :
    iprop(BI.emp ∗ Pipeline.prefHeld pre0 c (fun _ => fullShare.right) (adm m hok).1 ∗ Pipeline.scopedRest spec0 c) ⊢ (dats m hok 0 c).Φ 0 := by
  rw [held_eq, scopedRest0_eq, show (dats m hok 0 c).Φ 0 = Phi m c from rfl]
  unfold Phi
  iintro ⟨-, ⟨HT0, HT1⟩, -⟩
  isplitl [HT0]
  · iexact HT0
  iexact HT1

/-- After the last point nothing more is asked. -/
theorem phi_last (c : Dev nD) : (dats m hok 0 c).Φ (Fin.last (cfgA m hok).N) ⊢ iprop(BI.emp ∗ Pipeline.scopedRest spec0 c) := by
  rw [scopedRest0_eq, show (dats m hok 0 c).Φ (Fin.last (cfgA m hok).N) = Phi m c from rfl]
  unfold Phi
  iintro ⟨-, -⟩
  isplitr; · iempintro
  iempintro

/-- The tables in the memory are the ones the pipeline runs at. -/
theorem tabs_eq (c : Dev nD) (j : Fin 2) : m ((c : Thread nD τ).loc (pre0.ref j)) = (adm m hok).1 j := by
  obtain rfl : c = (0 : Dev nD) := Subsingleton.elim _ _
  fin_cases j <;> rfl

set_option backward.isDefEq.respectTransparency.types false in
set_option maxHeartbeats 4000000 in
/-- The run: every execution ends, with every array at what the points wrote, the tables unchanged and no counter left set. -/
theorem run_arrays : θ_run (defs (F := Bits)) (onTc (τ := τ) (main (F := Bits))) (s₀ m ρ) (fun r =>
    (∀ c : Dev nD, (∀ w : Fin (cfgA m hok).W, r.2.mem (((cfgA m hok).win w).arr.view.loc (c : Thread nD τ)) = (dats m hok 0 c).arrAt w (cfgA m hok).N)
      ∧ ∀ j, r.2.mem ((c : Thread nD τ).loc (pre0.ref j)) = (adm m hok).1 j) ∧ r.2.sem = fun _ => 0) :=
  Pipeline.θ_run_region_noSem_pf_quiescent pcfgs (fun _ => adm m hok) (dats m hok) () ((launch0 (F := Bits)).cellOf_inj fun _ => adm m hok) (0 : Fin 1)
    (launch0 (F := Bits)).win.to₀ (launch0 (F := Bits)).pre EP defs₀ Variants.none m ρ main
    (hbody := fun c => (body_obligation m hok c).loose) (hne := (launch0 (F := Bits)).block_pos)
    (harr := (launch0 (F := Bits)).arr_whole) (hstage := (launch0 (F := Bits)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok) 0 (launch0 (F := Bits)).win.arr_inj c (launch0 (F := Bits)).arr_whole
      (share_eq m hok c) _ _ fun _ => rfl)
    (hpf := tabs_eq m hok)
    (X := fun _ => iprop(emp)) (Y := fun _ => iprop(emp)) (Z := fun _ => iprop(emp))
    (hX := fun c => by rw [unscopedRestP0_eq]; iintro -; isplitr <;> iempintro)
    (hin := phi_first m hok)
    (hout := phi_last m hok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run: the result's array is what the points wrote, the arguments end unchanged, no counter is left set. -/
theorem run : θ_run (defs (F := Bits)) (onTc (τ := τ) (main (F := Bits))) ⟨m, fun _ => 0, ρ⟩ (fun r => (∀ c : Dev nD,
      r.2.mem ((c : Thread nD τ).loc main_v0) = (dats m hok 0 c).arrAt (4 : Fin 5) (cfgA m hok).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun _ h => ⟨fun c => ⟨(h.1 c).1 (4 : Fin 5), ((h.1 c).2 0).trans (tabs_eq m hok c 0).symm,
    ((h.1 c).2 1).trans (tabs_eq m hok c 1).symm,
    ((h.1 c).1 (0 : Fin 5)).trans ((dats m hok 0 c).arrAt_in (0 : Fin 5) rfl _), ((h.1 c).1 (1 : Fin 5)).trans ((dats m hok 0 c).arrAt_in (1 : Fin 5) rfl _),
    ((h.1 c).1 (2 : Fin 5)).trans ((dats m hok 0 c).arrAt_in (2 : Fin 5) rfl _), ((h.1 c).1 (3 : Fin 5)).trans ((dats m hok 0 c).arrAt_in (3 : Fin 5) rfl _)⟩, h.2⟩)
    (run_arrays m ρ hok)

end Cert.Experts.Block

end
-- ==== Proof.ExpertsIdealRun.lean ====
/-
  THE EXPERTS CALL, idealized, ITS RUN: at ANY table of expert numbers in range and any number of used blocks. At every
  grid point the body takes one of two paths, by the number of used blocks; the two paths of the body are joined
  here into one obligation, and the call runs to its end.
-/
module

public import proofs.«01_k».proof.Proof.Gen.ExpertsIdeal.Flash.Runs
public import proofs.«01_k».proof.Proof.Gen.ExpertsIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.ExpertsIdeal.Block

open Cert.ExpertsIdeal Cert.ExpertsIdeal.Gen

/-- The resources the proof is written over. -/
abbrev RM : Type := MT nD τ sig Unit (Elt Ideal) ℕ (UR sig nD τ) ℕ

/-- The pipeline's own resources among them. -/
abbrev EP : Emb (UR sig nD τ) RM := emb₁

variable (m : (ℓ : Loc nD τ sig) → Buf (Elt Ideal) ℓ) (ρ : Dev nD → PrngReg)

/-- The table of expert numbers in the memory. -/
def tab0 : S288.Idx → Elt Ideal .i32 := m (((0 : Dev nD) : Thread nD τ).loc main_arg0)

/-- The number of used blocks in the memory. -/
def tab1 : S1.Idx → Elt Ideal .i32 := m (((0 : Dev nD) : Thread nD τ).loc main_arg1)

/-- Both, as the call reads them at its start. -/
def tabs : pre0.Contents (Elt Ideal) := fun | ⟨0, _⟩ => tab0 m | ⟨1, _⟩ => tab1 m | ⟨_ + 2, h⟩ => absurd h (by simp)

/-- Every expert number of the table is below 32. -/
def InRange : Prop := ∀ x, (BitVec.toNat (tab0 m x : BitVec 32)) < 32

/-- One entry of a block index in bounds, then the rest. -/
theorem inb_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  intro a
  cases a using Fin.cases with
  | zero => simpa using h0
  | succ a => simpa using hr a

/-- One expert's slab in bounds. -/
theorem one_inb {n : ℕ} (h : n < 32) : (n + 1) * 1 ≤ 32 := by omega

/-- With every expert number in range the weights' blocks lie inside their arrays. -/
theorem ok_of_range (h : InRange m) : ok0 (tabs m) := by
  refine ⟨fun i => ⟨?_, .inl rfl⟩, fun i => ⟨?_, .inl rfl⟩, fun i => ⟨?_, .inl rfl⟩⟩
  · exact inb_cons (one_inb (h ((Rect.unit (s := S288) ![(Scalar.indexCast (BitVec.ofNat 32 (i 0).val) : Index).toNat] S1.size (k0_off1_inb i)).emb (Shape.Idx.first (numel1_S1.symm ▸ Nat.one_pos)))))
      (inb_cons (by decide) (inb_cons (by decide) fun a => a.elim0))
  · exact inb_cons (one_inb (h ((Rect.unit (s := S288) ![(Scalar.indexCast (BitVec.ofNat 32 (i 0).val) : Index).toNat] S1.size (k0_off1_inb i)).emb (Shape.Idx.first (numel1_S1.symm ▸ Nat.one_pos)))))
      (inb_cons (by decide) (inb_cons (by decide) fun a => a.elim0))
  · exact inb_cons (one_inb (h ((Rect.unit (s := S288) ![(Scalar.indexCast (BitVec.ofNat 32 (i 0).val) : Index).toNat] S1.size (k0_off1_inb i)).emb (Shape.Idx.first (numel1_S1.symm ▸ Nat.one_pos)))))
      (inb_cons (by decide) (inb_cons (by decide) fun a => a.elim0))

/-- The two conditions of the body: exactly one holds. -/
theorem cond2_iff (i : grid0.Coords) (w : BitVec 32) : k0_cond2 i w = 1#1 ↔ ¬ k0_cond1 i w = 1#1 := by
  unfold k0_cond1 k0_cond2
  dsimp only
  generalize Scalar.cmpi .slt (BitVec.ofNat 32 (i 0).val) w = b
  revert b
  decide

/-- No grid point leaves the result's block unwritten. -/
theorem not_idle (i : grid0.Coords) (w : BitVec 32) : (!(k0_cond1 i w == 1#1) && !(k0_cond2 i w == 1#1)) = false := by
  by_cases h : k0_cond1 i w = 1#1
  · simp [h]
  · simp [(cond2_iff i w).2 h]

variable (hok : ok0 (tabs m))

/-- The tables as the pipeline takes them. -/
def adm : (pcfg0 (F := Ideal)).Adm := ⟨tabs m, hok⟩

/-- The pipeline at these tables. -/
abbrev cfgA : Pipeline.Cfg sig Λ₀ := cfg0 (F := Ideal) (adm m hok)

/-- The program's only pipeline. -/
abbrev pcs : Fin 1 → Pipeline.Cfg sig Λ₀ := Pipeline.pin (pcfgs (F := Ideal)) fun _ => adm m hok

/-- The launch state. -/
abbrev s₀ : MemSt nD τ sig (Elt Ideal) := ⟨m, fun _ => 0, ρ⟩

/-- The coordinates of a grid point. -/
abbrev crd (t : Fin (cfgA m hok).N) : (cfgA m hok).grid.Coords := (cfgA m hok).grid.coords t
/-- Window 0's buffer at a grid point, a whole buffer. -/
abbrev stg0 (t : Fin (cfgA m hok).N) : Memref sig .tc .vmem S256x1024 .f32 := spec0_0.stage ((cfgA m hok).slots t (0 : Fin 5))
theorem whole0 (t : Fin (cfgA m hok).N) : (stg0 m hok t).IsWhole := hstage0_0 (((cfgA m hok).slots t (0 : Fin 5)).cast nbuf0_0)
/-- Window 1's buffer at a grid point, a whole buffer. -/
abbrev stg1 (t : Fin (cfgA m hok).N) : Memref sig .tc .vmem S1x1024x512 .f32 := spec0_1.stage ((cfgA m hok).slots t (1 : Fin 5))
theorem whole1 (t : Fin (cfgA m hok).N) : (stg1 m hok t).IsWhole := hstage0_1 (((cfgA m hok).slots t (1 : Fin 5)).cast nbuf0_1)
/-- Window 2's buffer at a grid point, a whole buffer. -/
abbrev stg2 (t : Fin (cfgA m hok).N) : Memref sig .tc .vmem S1x1024x512 .f32 := spec0_2.stage ((cfgA m hok).slots t (2 : Fin 5))
theorem whole2 (t : Fin (cfgA m hok).N) : (stg2 m hok t).IsWhole := hstage0_2 (((cfgA m hok).slots t (2 : Fin 5)).cast nbuf0_2)
/-- Window 3's buffer at a grid point, a whole buffer. -/
abbrev stg3 (t : Fin (cfgA m hok).N) : Memref sig .tc .vmem S1x512x1024 .f32 := spec0_3.stage ((cfgA m hok).slots t (3 : Fin 5))
theorem whole3 (t : Fin (cfgA m hok).N) : (stg3 m hok t).IsWhole := hstage0_3 (((cfgA m hok).slots t (3 : Fin 5)).cast nbuf0_3)
/-- Window 4's buffer at a grid point, a whole buffer. -/
abbrev stg4 (t : Fin (cfgA m hok).N) : Memref sig .tc .vmem S256x1024 .f32 := spec0_4.stage ((cfgA m hok).slots t (4 : Fin 5))
theorem whole4 (t : Fin (cfgA m hok).N) : (stg4 m hok t).IsWhole := hstage0_4 (((cfgA m hok).slots t (4 : Fin 5)).cast nbuf0_4)

/-- The block a window reads at a grid point. -/
def iblk (c : Dev nD) (w : Fin (cfgA m hok).W) (t : Fin (cfgA m hok).N) : (((cfgA m hok).win w).xblock (crd m hok t)).Idx → Elt Ideal ((cfgA m hok).win w).elt :=
  (((cfgA m hok).win w).blk t).view.read (Elt Ideal) (m (((cfgA m hok).win w).arr.view.loc (c : Thread nD τ)))

/-- The number of used blocks, as the body reads it. -/
abbrev word : BitVec 32 :=
  View.readAt (Elt Ideal) (tbM0_1).view (Rect.unit (s := S1) ![0] S1.size inb_S1_S1_0).toLoadRect (tab1 m) (Shape.Idx.first (numel1_S1.symm ▸ Nat.one_pos))

/-- What a used block's point leaves. -/
abbrev outUsed (c : Dev nD) (t : Fin (cfgA m hok).N) (h : k0_cond1 (crd m hok t) (word m) = 1#1) : S256x1024.Idx → Elt Ideal .f32 :=
  out0_A_4 c (crd m hok t) (stg0 m hok t) (whole0 m hok t) (stg1 m hok t) (whole1 m hok t) (stg2 m hok t) (whole2 m hok t) (stg3 m hok t) (whole3 m hok t) (stg4 m hok t) (whole4 m hok t) (tab0 m) (tab1 m)
    (iblk m hok c (0 : Fin 5) t) (iblk m hok c (1 : Fin 5) t) (iblk m hok c (2 : Fin 5) t) (iblk m hok c (3 : Fin 5) t) h
    (fun h2 => (cond2_iff _ _).1 h2 h)

/-- What an unused block's point leaves. -/
abbrev outUnused (c : Dev nD) (t : Fin (cfgA m hok).N) (h : ¬ k0_cond1 (crd m hok t) (word m) = 1#1) : S256x1024.Idx → Elt Ideal .f32 :=
  out0_B_4 c (crd m hok t) (stg0 m hok t) (whole0 m hok t) (stg1 m hok t) (whole1 m hok t) (stg2 m hok t) (whole2 m hok t) (stg3 m hok t) (whole3 m hok t) (stg4 m hok t) (whole4 m hok t) (tab0 m) (tab1 m)
    (iblk m hok c (0 : Fin 5) t) (iblk m hok c (1 : Fin 5) t) (iblk m hok c (2 : Fin 5) t) (iblk m hok c (3 : Fin 5) t) h
    ((cond2_iff _ _).2 h)

/-- What a grid point leaves in the result's buffer. -/
def outAt (c : Dev nD) (t : Fin (cfgA m hok).N) : S256x1024.Idx → Elt Ideal .f32 :=
  if h : k0_cond1 (crd m hok t) (word m) = 1#1 then outUsed m hok c t h else outUnused m hok c t h

theorem outAt_used (c : Dev nD) (t : Fin (cfgA m hok).N) (h : k0_cond1 (crd m hok t) (word m) = 1#1) : outAt m hok c t = outUsed m hok c t h := dif_pos h
theorem outAt_unused (c : Dev nD) (t : Fin (cfgA m hok).N) (h : ¬ k0_cond1 (crd m hok t) (word m) = 1#1) : outAt m hok c t = outUnused m hok c t h := dif_neg h

/-- What holds between the points: the body's shares of the two tables. -/
def Phi (c : Dev nD) : sProp RM :=
  iprop((tbM0_0.view.loc (c : Thread nD τ) ↦{fullShare.right} tab0 m) ∗ (tbM0_1.view.loc (c : Thread nD τ) ↦{fullShare.right} tab1 m))

/-- What each window's buffer holds after each point, and what the arrays hold at the start. -/
def dats (_ : Fin 1) (c : Dev nD) : Dat τ (Elt Ideal) Unit ℕ (UR sig nD τ) ℕ (cfgA m hok) c where
  A w := m (((cfgA m hok).win w).arr.view.loc (c : Thread nD τ))
  after w t := match w with
    | ⟨0, _⟩ => iblk m hok c (0 : Fin 5) t
    | ⟨1, _⟩ => iblk m hok c (1 : Fin 5) t
    | ⟨2, _⟩ => iblk m hok c (2 : Fin 5) t
    | ⟨3, _⟩ => iblk m hok c (3 : Fin 5) t
    | ⟨4, _⟩ => outAt m hok c t
  Φ _ := Phi m c
  q _ := fullShare
  owed _ := 0

theorem after0 (c : Dev nD) (t : Fin (cfgA m hok).N) : (dats m hok 0 c).after (0 : Fin 5) t = iblk m hok c (0 : Fin 5) t := rfl
theorem after1 (c : Dev nD) (t : Fin (cfgA m hok).N) : (dats m hok 0 c).after (1 : Fin 5) t = iblk m hok c (1 : Fin 5) t := rfl
theorem after2 (c : Dev nD) (t : Fin (cfgA m hok).N) : (dats m hok 0 c).after (2 : Fin 5) t = iblk m hok c (2 : Fin 5) t := rfl
theorem after3 (c : Dev nD) (t : Fin (cfgA m hok).N) : (dats m hok 0 c).after (3 : Fin 5) t = iblk m hok c (3 : Fin 5) t := rfl
theorem after4 (c : Dev nD) (t : Fin (cfgA m hok).N) : (dats m hok 0 c).after (4 : Fin 5) t = outAt m hok c t := rfl

/-- Window 0's buffer holds its block when the body runs. -/
theorem before0 (c : Dev nD) (t : Fin (cfgA m hok).N) (d) : (dats m hok 0 c).before (0 : Fin 5) t d = iblk m hok c (0 : Fin 5) t :=
  ((dats m hok 0 c).before_in_eq_fetched (0 : Fin 5) rfl (fun _ => rfl) (fun _ _ _ => rfl) (fun t => by rw [after0]; unfold Dat.blockOf iblk; rfl) t d).trans
    (by unfold Dat.fetched Dat.blockOf iblk; rfl)

/-- Window 1's buffer holds its block when the body runs. -/
theorem before1 (c : Dev nD) (t : Fin (cfgA m hok).N) (d) : (dats m hok 0 c).before (1 : Fin 5) t d = iblk m hok c (1 : Fin 5) t :=
  ((dats m hok 0 c).before_in_eq_fetched (1 : Fin 5) rfl (fun _ => rfl) (fun _ _ _ => rfl) (fun t => by rw [after1]; unfold Dat.blockOf iblk; rfl) t d).trans
    (by unfold Dat.fetched Dat.blockOf iblk; rfl)

/-- Window 2's buffer holds its block when the body runs. -/
theorem before2 (c : Dev nD) (t : Fin (cfgA m hok).N) (d) : (dats m hok 0 c).before (2 : Fin 5) t d = iblk m hok c (2 : Fin 5) t :=
  ((dats m hok 0 c).before_in_eq_fetched (2 : Fin 5) rfl (fun _ => rfl) (fun _ _ _ => rfl) (fun t => by rw [after2]; unfold Dat.blockOf iblk; rfl) t d).trans
    (by unfold Dat.fetched Dat.blockOf iblk; rfl)

/-- Window 3's buffer holds its block when the body runs. -/
theorem before3 (c : Dev nD) (t : Fin (cfgA m hok).N) (d) : (dats m hok 0 c).before (3 : Fin 5) t d = iblk m hok c (3 : Fin 5) t :=
  ((dats m hok 0 c).before_in_eq_fetched (3 : Fin 5) rfl (fun _ => rfl) (fun _ _ _ => rfl) (fun t => by rw [after3]; unfold Dat.blockOf iblk; rfl) t d).trans
    (by unfold Dat.fetched Dat.blockOf iblk; rfl)

set_option maxHeartbeats 4000000 in
/-- One point of the grid: from the blocks in the buffers and the tables, the body leaves the result's block. -/
theorem sound_point (c : Dev nD) (t : Fin (cfgA m hok).N) :
    iprop((dats m hok 0 c).Φ t.castSucc ∗ (dats m hok 0 c).owesAt () t.castSucc
        ∗ (∃ d, owns (c : Thread nD τ) (stg0 m hok t) fullShare ((dats m hok 0 c).before (0 : Fin 5) t d))
        ∗ (∃ d, owns (c : Thread nD τ) (stg1 m hok t) fullShare ((dats m hok 0 c).before (1 : Fin 5) t d))
        ∗ (∃ d, owns (c : Thread nD τ) (stg2 m hok t) fullShare ((dats m hok 0 c).before (2 : Fin 5) t d))
        ∗ (∃ d, owns (c : Thread nD τ) (stg3 m hok t) fullShare ((dats m hok 0 c).before (3 : Fin 5) t d))
        ∗ (∃ d, owns (c : Thread nD τ) (stg4 m hok t) fullShare ((dats m hok 0 c).before (4 : Fin 5) t d)))
      ⊢ wp frame (wpE (defs₀ (F := Ideal)) Variants.none c none) Set.univ
          (cc0_moe_experts (crd m hok t) (Memref.whole main_arg0) (Memref.isWhole_whole _) (Memref.whole main_arg1) (Memref.isWhole_whole _) (stg0 m hok t) (whole0 m hok t) (stg1 m hok t) (whole1 m hok t) (stg2 m hok t) (whole2 m hok t) (stg3 m hok t) (whole3 m hok t) (stg4 m hok t) (whole4 m hok t)) fun _ =>
          iprop((dats m hok 0 c).Φ t.succ ∗ (dats m hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok 0 c).before w t d))
                  | true => owns (c : Thread nD τ) (((cfgA m hok).win w).stage ((cfgA m hok).slots t w)) fullShare ((dats m hok 0 c).after w t)
                | false => owns (c : Thread nD τ) (((cfgA m hok).win w).stage ((cfgA m hok).slots t w)) fullShare ((dats m hok 0 c).after w t)) := by
  rw [bigSep_W0]
  have i4 : (cfgA m hok).idle (4 : Fin 5) ((cfgA m hok).grid.coords t) = false := not_idle _ _
  rewrite [i4]
  simp only [before0, before1, before2, before3, after0, after1, after2, after3, after4]
  rewrite [show (dats m hok 0 c).Φ t.succ = Phi m c from rfl, show (dats m hok 0 c).Φ t.castSucc = Phi m c from rfl,
    show (dats m hok 0 c).owesAt () t.succ = (dats m hok 0 c).owesAt () t.castSucc from rfl]
  by_cases h1 : k0_cond1 (crd m hok t) (word m) = 1#1
  · rewrite [outAt_used m hok c t h1]
    unfold Phi
    iintro ⟨⟨HT0, HT1⟩, Ho, ⟨%d0, H0⟩, ⟨%d1, H1⟩, ⟨%d2, H2⟩, ⟨%d3, H3⟩, ⟨%d4, H4⟩⟩
    iapply ((kernelRun0_A c (crd m hok t) (stg0 m hok t) (whole0 m hok t) (stg1 m hok t) (whole1 m hok t) (stg2 m hok t) (whole2 m hok t) (stg3 m hok t) (whole3 m hok t) (stg4 m hok t) (whole4 m hok t) (tab0 m) (tab1 m) (iblk m hok c (0 : Fin 5) t) (iblk m hok c (1 : Fin 5) t) (iblk m hok c (2 : Fin 5) t) (iblk m hok c (3 : Fin 5) t) h1 (fun h2 => (cond2_iff _ _).1 h2 h1)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rewrite [outAt_unused m hok c t h1]
    unfold Phi
    iintro ⟨⟨HT0, HT1⟩, Ho, ⟨%d0, H0⟩, ⟨%d1, H1⟩, ⟨%d2, H2⟩, ⟨%d3, H3⟩, ⟨%d4, H4⟩⟩
    iapply ((kernelRun0_B c (crd m hok t) (stg0 m hok t) (whole0 m hok t) (stg1 m hok t) (whole1 m hok t) (stg2 m hok t) (whole2 m hok t) (stg3 m hok t) (whole3 m hok t) (stg4 m hok t) (whole4 m hok t) (tab0 m) (tab1 m) (iblk m hok c (0 : Fin 5) t) (iblk m hok c (1 : Fin 5) t) (iblk m hok c (2 : Fin 5) t) (iblk m hok c (3 : Fin 5) t) h1 ((cond2_iff _ _).2 h1)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The same, as the pipeline asks it of every point. -/
theorem body_obligation (c : Dev nD) : BodyObligation (dats m hok 0 c) (defs₀ (F := Ideal)) Variants.none () Set.univ := fun t => by
  rw [bigSep_W0]
  exact sound_point m hok c t

/-- What the launch starts from. -/
def u₀ : UR sig nD τ :=
  initOf (Pipeline.cells (pcs m hok) ((launch0 (F := Ideal)).cellOf_inj fun _ => adm m hok))
    (Pipeline.launchToks (pcs m hok) ((launch0 (F := Ideal)).cellOf_inj fun _ => adm m hok))

/-- Every array is owned whole. -/
theorem share_eq (c : Dev nD) (w : Fin (cfgA m hok).W) : (dats m hok 0 c).share w = fullShare := by unfold Dat.share; split <;> rfl

/-- The tables as the launch hands them over, one by one. -/
theorem held_eq (c : Dev nD) (q : Fin 2 → PosShare TreeShare) (v : pre0.Contents (Elt Ideal)) :
    (Pipeline.prefHeld (Ix := Unit) (Name := ℕ) (U := UR sig nD τ) (Lvl := ℕ) pre0 c q v : sProp RM)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The tables' shares before the first point. -/
theorem phi_first (c : Dev nD) :
    iprop(BI.emp ∗ Pipeline.prefHeld pre0 c (fun _ => fullShare.right) (adm m hok).1 ∗ Pipeline.scopedRest spec0 c) ⊢ (dats m hok 0 c).Φ 0 := by
  rw [held_eq, scopedRest0_eq, show (dats m hok 0 c).Φ 0 = Phi m c from rfl]
  unfold Phi
  iintro ⟨-, ⟨HT0, HT1⟩, -⟩
  isplitl [HT0]
  · iexact HT0
  iexact HT1

/-- After the last point nothing more is asked. -/
theorem phi_last (c : Dev nD) : (dats m hok 0 c).Φ (Fin.last (cfgA m hok).N) ⊢ iprop(BI.emp ∗ Pipeline.scopedRest spec0 c) := by
  rw [scopedRest0_eq, show (dats m hok 0 c).Φ (Fin.last (cfgA m hok).N) = Phi m c from rfl]
  unfold Phi
  iintro ⟨-, -⟩
  isplitr; · iempintro
  iempintro

/-- The tables in the memory are the ones the pipeline runs at. -/
theorem tabs_eq (c : Dev nD) (j : Fin 2) : m ((c : Thread nD τ).loc (pre0.ref j)) = (adm m hok).1 j := by
  obtain rfl : c = (0 : Dev nD) := Subsingleton.elim _ _
  fin_cases j <;> rfl

set_option backward.isDefEq.respectTransparency.types false in
set_option maxHeartbeats 4000000 in
/-- The run: every execution ends, with every array at what the points wrote, the tables unchanged and no counter left set. -/
theorem run_arrays : θ_run (defs (F := Ideal)) (onTc (τ := τ) (main (F := Ideal))) (s₀ m ρ) (fun r =>
    (∀ c : Dev nD, (∀ w : Fin (cfgA m hok).W, r.2.mem (((cfgA m hok).win w).arr.view.loc (c : Thread nD τ)) = (dats m hok 0 c).arrAt w (cfgA m hok).N)
      ∧ ∀ j, r.2.mem ((c : Thread nD τ).loc (pre0.ref j)) = (adm m hok).1 j) ∧ r.2.sem = fun _ => 0) :=
  Pipeline.θ_run_region_noSem_pf_quiescent pcfgs (fun _ => adm m hok) (dats m hok) () ((launch0 (F := Ideal)).cellOf_inj fun _ => adm m hok) (0 : Fin 1)
    (launch0 (F := Ideal)).win.to₀ (launch0 (F := Ideal)).pre EP defs₀ Variants.none m ρ main
    (hbody := fun c => (body_obligation m hok c).loose) (hne := (launch0 (F := Ideal)).block_pos)
    (harr := (launch0 (F := Ideal)).arr_whole) (hstage := (launch0 (F := Ideal)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok) 0 (launch0 (F := Ideal)).win.arr_inj c (launch0 (F := Ideal)).arr_whole
      (share_eq m hok c) _ _ fun _ => rfl)
    (hpf := tabs_eq m hok)
    (X := fun _ => iprop(emp)) (Y := fun _ => iprop(emp)) (Z := fun _ => iprop(emp))
    (hX := fun c => by rw [unscopedRestP0_eq]; iintro -; isplitr <;> iempintro)
    (hin := phi_first m hok)
    (hout := phi_last m hok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run: the result's array is what the points wrote, the arguments end unchanged, no counter is left set. -/
theorem run : θ_run (defs (F := Ideal)) (onTc (τ := τ) (main (F := Ideal))) ⟨m, fun _ => 0, ρ⟩ (fun r => (∀ c : Dev nD,
      r.2.mem ((c : Thread nD τ).loc main_v0) = (dats m hok 0 c).arrAt (4 : Fin 5) (cfgA m hok).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun _ h => ⟨fun c => ⟨(h.1 c).1 (4 : Fin 5), ((h.1 c).2 0).trans (tabs_eq m hok c 0).symm,
    ((h.1 c).2 1).trans (tabs_eq m hok c 1).symm,
    ((h.1 c).1 (0 : Fin 5)).trans ((dats m hok 0 c).arrAt_in (0 : Fin 5) rfl _), ((h.1 c).1 (1 : Fin 5)).trans ((dats m hok 0 c).arrAt_in (1 : Fin 5) rfl _),
    ((h.1 c).1 (2 : Fin 5)).trans ((dats m hok 0 c).arrAt_in (2 : Fin 5) rfl _), ((h.1 c).1 (3 : Fin 5)).trans ((dats m hok 0 c).arrAt_in (3 : Fin 5) rfl _)⟩, h.2⟩)
    (run_arrays m ρ hok)

end Cert.ExpertsIdeal.Block

end
-- ==== Proof.ExpertsMath.lean ====
/-
  THE EXPERTS CALL, ITS MATHEMATICS: one row through one expert, and what a row of zeros becomes.
-/
module

public import proofs.«01_k».proof.Proof.LayerMath

@[expose] public section

noncomputable section

open Idealize.ShloMosaic
open scoped BigOperators

namespace Cert.LayerMath

/-- The gate's activation: x times the logistic function of x. -/
def silu (x : EReal) : EReal := x * Ideal.div 1 (1 + Ideal.exp (-x))

/-- One row `x` through one expert: the gate `g` and the up projection `u`, their product, the down projection `d`. -/
def expertRow (x : Fin 1024 → EReal) (g u : Fin 1024 → Fin 512 → EReal) (d : Fin 512 → Fin 1024 → EReal) (j : Fin 1024) : EReal :=
  ∑ l, (silu (∑ k, x k * g k l) * ∑ k, x k * u k l) * d l j

/-- A row of zeros stays zero, whatever the weights. -/
theorem expertRow_zero (x : Fin 1024 → EReal) (hx : ∀ k, x k = 0) (g u : Fin 1024 → Fin 512 → EReal) (d : Fin 512 → Fin 1024 → EReal) (j : Fin 1024) :
    expertRow x g u d j = 0 := by
  unfold expertRow
  simp only [hx, zero_mul, Finset.sum_const_zero, mul_zero]

/-- The difference from zero is the negative. -/
theorem zero_sub_eq (x : EReal) : 0 - x = -x := by rw [sub_eq_add_neg, zero_add]

end Cert.LayerMath

end
-- ==== Proof.ExpertsBlock.lean ====
/-
  THE EXPERTS CALL, ONE BLOCK: what a used block's point stores, row by row, and what an unused block's point stores.
-/
module

public import proofs.«01_k».proof.Proof.ExpertsIdealRun
public import proofs.«01_k».proof.Proof.ExpertsMath
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.ExpertsIdeal.Block

open Cert.ExpertsIdeal Cert.ExpertsIdeal.Gen Cert.LayerMath

/-- The kernel's block of rows through one expert. -/
theorem pay1_apply (v7 : Vec Ideal S256x1024 .f32) (v9 v13 : Vec Ideal S1x1024x512 .f32) (v27 : Vec Ideal S1x512x1024 .f32) (r : Fin 256) (j : Fin 1024) :
    k0_pay1 v7 v9 v13 v27 (ix2 r j)
      = expertRow (fun k => v7 (ix2 r k)) (fun k l => v9 (ix3 0 k l)) (fun k l => v13 (ix3 0 k l)) (fun l j => v27 (ix3 0 l j)) j := by
  unfold expertRow silu
  simp only [← zero_sub_eq]
  pointwise [k0_pay1]

/-- The kernel's block of zeros. -/
theorem pay2_apply (r : Fin 256) (j : Fin 1024) : k0_pay2 (F := Ideal) (ix2 r j) = (0 : EReal) := by
  pointwise [k0_pay2]

/-- Two zeros are the zero offset. -/
theorem hz2 : (![0, 0] : Fin 2 → Nat) = fun _ => 0 := funext fun a => by fin_cases a <;> rfl

/-- A whole load of a block is the block. -/
theorem load_whole {sg : RefSig} {κ : Kind} {sp : Space} {s : Shape} {e : EltTy} (v : View sg κ sp s e) (x : s.Idx → Elt Ideal e) {off : Fin s.rank → ℕ}
    (inb : ∀ a, off a + s.size a ≤ s.size a) : v.readAt (Elt Ideal) (Rect.unit off s.size inb).toLoadRect (v.rep x) = x :=
  View.readAt_rep_full v x inb

section
variable (c : Dev nD) (i : grid0.Coords) (arg3 : Memref sig .tc .vmem S256x1024 .f32) (harg3 : arg3.IsWhole)
  (arg4 : Memref sig .tc .vmem S1x1024x512 .f32) (harg4 : arg4.IsWhole) (arg5 : Memref sig .tc .vmem S1x1024x512 .f32) (harg5 : arg5.IsWhole)
  (arg6 : Memref sig .tc .vmem S1x512x1024 .f32) (harg6 : arg6.IsWhole) (arg7 : Memref sig .tc .vmem S256x1024 .f32) (harg7 : arg7.IsWhole)
  (T0 : S288.Idx → Elt Ideal .i32) (T1 : S1.Idx → Elt Ideal .i32)
  (x0 : S256x1024.Idx → Elt Ideal .f32) (x1 x2 : S1x1024x512.Idx → Elt Ideal .f32) (x3 : S1x512x1024.Idx → Elt Ideal .f32)

/-- What the body stores for a used block. -/
theorem outA_eq (h1) (h2) :
    out0_A_4 c i arg3 harg3 arg4 harg4 arg5 harg5 arg6 harg6 arg7 harg7 T0 T1 x0 x1 x2 x3 h1 h2 = k0_pay1 x0 x1 x2 x3 := by
  unfold out0_A_4
  rw [View.read_writes_eq_canon _ _ _ (cover0_A_4 c _ _ _ _ _ _ _ _ _ _ _ _ _ _ _ _ _ _ _)]
  unfold kernelRun0_A
  dsimp only
  unfold kernelRun0_A.sl.HO4_1
  refine (View.canon_unit_zero hz2 _ _).trans ?_
  rw [load_whole, load_whole, load_whole, load_whole]

/-- What the body stores for an unused block. -/
theorem outB_eq (h1) (h2) :
    out0_B_4 c i arg3 harg3 arg4 harg4 arg5 harg5 arg6 harg6 arg7 harg7 T0 T1 x0 x1 x2 x3 h1 h2 = k0_pay2 (F := Ideal) := by
  unfold out0_B_4
  rw [View.read_writes_eq_canon _ _ _ (cover0_B_4 c _ _ _ _ _ _ _ _ _ _ _ _ _ _ _ _ _ _ _)]
  unfold kernelRun0_B
  dsimp only
  unfold kernelRun0_B.sl.HO4_1
  exact View.canon_unit_zero hz2 _ _

end

end Cert.ExpertsIdeal.Block

end
-- ==== Proof.ExpertsFinal.lean ====
/-
  THE EXPERTS CALL, ITS RESULT ARRAY: block by block, the used blocks through their experts, the unused ones zero.
-/
module

public import proofs.«01_k».proof.Proof.ExpertsBlock

@[expose] public section

set_option maxRecDepth 16384

noncomputable section

open Idealize.ShloMosaic Idealize.ShloMosaic.TcCoe Idealize.SL.Sem
open Idealize.ShloMosaic.Pipeline (Dat)

namespace Cert.ExpertsIdeal.Block

open Cert.ExpertsIdeal Cert.ExpertsIdeal.Gen Cert.LayerMath

variable (m : (ℓ : Loc nD τ sig) → Buf (Elt Ideal) ℓ) (hok : ok0 (tabs m))

/-- The coordinate of a grid point is its number. -/
theorem coord_eq : ∀ t : Fin grid0.N, ((grid0.coords t) 0).val = t.val := by decide +kernel

/-- The rows' blocks are taken in order. -/
theorem tr4_eq : ∀ t : Fin grid0.N, cc0_transform_4 (grid0.coords t) = ![t.val, 0] := by decide +kernel

/-- The same of the input. -/
theorem tr0_eq : ∀ t : Fin grid0.N, cc0_transform_0 (grid0.coords t) = ![t.val, 0] := by decide +kernel

/-- A grid point's number is below 288. -/
theorem lt288 (t : Fin grid0.N) : t.val < 288 := t.isLt

/-- A grid point reads its own entry of the table. -/
theorem entry_eq (t : Fin grid0.N) :
    (Rect.unit (s := S288) ![(Scalar.indexCast (BitVec.ofNat 32 ((grid0.coords t) 0).val) : Index).toNat] S1.size (k0_off1_inb (grid0.coords t))).emb
      (Shape.Idx.first (numel1_S1.symm ▸ Nat.one_pos)) = ix1 ⟨t.val, lt288 t⟩ := by
  funext a
  obtain rfl : a = 0 := Subsingleton.elim _ _
  refine Fin.ext ?_
  have h := lt288 t
  show (BitVec.ofNat 32 ((grid0.coords t) 0).val).toNat + 1 * 0 = t.val
  rw [coord_eq, BitVec.toNat_ofNat]
  omega

/-- The expert of a grid point. -/
abbrev num (t : Fin grid0.N) : Nat := BitVec.toNat (tab0 m (ix1 ⟨t.val, lt288 t⟩) : BitVec 32)

/-- The index of the result's block. -/
theorem index4 (t : Fin (cfgA m hok).N) : ((cfgA m hok).win (4 : Fin 5)).index t = ![t.val, 0] := tr4_eq t

/-- The index of the rows' block. -/
theorem index0 (t : Fin (cfgA m hok).N) : ((cfgA m hok).win (0 : Fin 5)).index t = ![t.val, 0] := tr0_eq t

/-- The index of the gate's block. -/
theorem index1 (t : Fin (cfgA m hok).N) : ((cfgA m hok).win (1 : Fin 5)).index t = ![num m t, 0, 0] :=
  congrArg (fun e => (![BitVec.toNat (tab0 m e : BitVec 32), 0, 0] : Fin 3 → Nat)) (entry_eq t)

/-- The index of the up projection's block. -/
theorem index2 (t : Fin (cfgA m hok).N) : ((cfgA m hok).win (2 : Fin 5)).index t = ![num m t, 0, 0] :=
  congrArg (fun e => (![BitVec.toNat (tab0 m e : BitVec 32), 0, 0] : Fin 3 → Nat)) (entry_eq t)

/-- The index of the down projection's block. -/
theorem index3 (t : Fin (cfgA m hok).N) : ((cfgA m hok).win (3 : Fin 5)).index t = ![num m t, 0, 0] :=
  congrArg (fun e => (![BitVec.toNat (tab0 m e : BitVec 32), 0, 0] : Fin 3 → Nat)) (entry_eq t)

/-- The rows of a block. -/
theorem blk0 (c : Dev nD) (t : Fin (cfgA m hok).N) (r : Fin 256) (k : Fin 1024) :
    iblk m hok c (0 : Fin 5) t (ix2 r k) = m ((c : Thread nD τ).loc main_arg2) (ix2 ⟨t.val * 256 + r.val, by have := lt288 t; omega⟩ k) := by
  have := lt288 t
  blk_ext! [iblk, index0 m hok t]

/-- The gate's weights of a block's expert. -/
theorem blk1 (hr : InRange m) (c : Dev nD) (t : Fin (cfgA m hok).N) (k : Fin 1024) (l : Fin 512) :
    iblk m hok c (1 : Fin 5) t (ix3 0 k l) = m ((c : Thread nD τ).loc main_arg3) (ix3 ⟨num m t, hr _⟩ k l) := by
  have := hr (ix1 ⟨t.val, lt288 t⟩)
  blk_ext! [iblk, index1 m hok t]

/-- The up projection's weights of a block's expert. -/
theorem blk2 (hr : InRange m) (c : Dev nD) (t : Fin (cfgA m hok).N) (k : Fin 1024) (l : Fin 512) :
    iblk m hok c (2 : Fin 5) t (ix3 0 k l) = m ((c : Thread nD τ).loc main_arg4) (ix3 ⟨num m t, hr _⟩ k l) := by
  have := hr (ix1 ⟨t.val, lt288 t⟩)
  blk_ext! [iblk, index2 m hok t]

/-- The down projection's weights of a block's expert. -/
theorem blk3 (hr : InRange m) (c : Dev nD) (t : Fin (cfgA m hok).N) (l : Fin 512) (j : Fin 1024) :
    iblk m hok c (3 : Fin 5) t (ix3 0 l j) = m ((c : Thread nD τ).loc main_arg5) (ix3 ⟨num m t, hr _⟩ l j) := by
  have := hr (ix1 ⟨t.val, lt288 t⟩)
  blk_ext! [iblk, index3 m hok t]

/-- A point takes its expert's path exactly when its number is below the number of used blocks. -/
theorem cond1_iff (i : grid0.Coords) (w : BitVec 32) : k0_cond1 i w = 1#1 ↔ IntOp.cmpi .slt (BitVec.ofNat 32 (i 0).val) w = 1#1 := by
  unfold k0_cond1
  dsimp only
  show Scalar.cmpi .ne (Scalar.extui (IntOp.cmpi .slt (BitVec.ofNat 32 (i 0).val) w)) 0#32 = 1#1 ↔ _
  generalize IntOp.cmpi .slt (BitVec.ofNat 32 (i 0).val) w = b
  revert b
  decide

/-- The number of used blocks is the table's only word. -/
theorem word_eq : word m = tab1 m (ix1 0) := by
  refine congrArg (tab1 m) (funext fun a : Fin 1 => ?_)
  obtain rfl : a = 0 := Subsingleton.elim _ _
  exact Subsingleton.elim (α := Fin 1) _ _

/-- Entry `j` of row `r` of block `b` of the result. -/
def entry (hr : InRange m) (c : Dev nD) (b : Fin 288) (r : Fin 256) (j : Fin 1024) : EReal :=
  open Classical in
  if IntOp.cmpi .slt (BitVec.ofNat 32 b.val) (tab1 m (ix1 0)) = 1#1 then
    expertRow (fun k => m ((c : Thread nD τ).loc main_arg2) (ix2 ⟨b.val * 256 + r.val, by omega⟩ k))
      (fun k l => m ((c : Thread nD τ).loc main_arg3) (ix3 ⟨BitVec.toNat (tab0 m (ix1 b) : BitVec 32), hr _⟩ k l))
      (fun k l => m ((c : Thread nD τ).loc main_arg4) (ix3 ⟨BitVec.toNat (tab0 m (ix1 b) : BitVec 32), hr _⟩ k l))
      (fun l j => m ((c : Thread nD τ).loc main_arg5) (ix3 ⟨BitVec.toNat (tab0 m (ix1 b) : BitVec 32), hr _⟩ l j)) j
  else (0 : EReal)

/-- The block a grid point writes. -/
theorem point (hr : InRange m) (c : Dev nD) (t : Fin (cfgA m hok).N) (r : Fin 256) (j : Fin 1024) :
    outAt m hok c t (ix2 r j) = entry m hr c ⟨t.val, lt288 t⟩ r j := by
  have hc : k0_cond1 (crd m hok t) (word m) = 1#1 ↔ IntOp.cmpi .slt (BitVec.ofNat 32 t.val) (tab1 m (ix1 0)) = 1#1 := by
    rw [cond1_iff, word_eq]
    show IntOp.cmpi .slt (BitVec.ofNat 32 ((grid0.coords t) 0).val) _ = _ ↔ _
    rw [coord_eq]
  unfold entry
  by_cases h : k0_cond1 (crd m hok t) (word m) = 1#1
  · rw [if_pos (hc.1 h), outAt_used m hok c t h]
    refine (congrFun (outA_eq _ _ _ _ _ _ _ _ _ _ _ _ _ _ _ _ _ _ _ _) _).trans ?_
    rw [pay1_apply]
    simp only [blk0, blk1 m hok hr, blk2 m hok hr, blk3 m hok hr]
  · rw [if_neg (fun h' => h (hc.2 h')), outAt_unused m hok c t h]
    refine (congrFun (outB_eq _ _ _ _ _ _ _ _ _ _ _ _ _ _ _ _ _ _ _ _) _).trans ?_
    exact pay2_apply r j

/-- The result array. -/
def G4 (hr : InRange m) (c : Dev nD) : Buf (Elt Ideal) ((c : Thread nD τ).loc main_v0) :=
  fun i => entry m hr c ⟨(i 0).val / 256, by have h : (i 0).val < 73728 := (i 0).isLt; omega⟩ ⟨(i 0).val % 256, by omega⟩ (i 1)

/-- Every point writes its block back. -/
theorem flush4 : ∀ t : Fin grid0.N, Pipeline.Window.flushOf grid0 true cc0_transform_4 t = true := by decide +kernel

/-- The blocks cover the result. -/
theorem covers4 : ((cfgA m hok).win (4 : Fin 5)).Covers := by
  have h0 : ∀ β : (a : Fin 2) → Fin (((cfgA m hok).win (4 : Fin 5)).nblk a), (β 0).val < 288 := fun β => (β 0).isLt.trans_le (by show (73728 + 256 - 1) / 256 ≤ 288; decide)
  have h1 : ∀ β : (a : Fin 2) → Fin (((cfgA m hok).win (4 : Fin 5)).nblk a), (β 1).val < 1 := fun β => (β 1).isLt.trans_le (by show (1024 + 1024 - 1) / 1024 ≤ 1; decide)
  refine ⟨fun a => ?_, fun β => ⟨⟨(β 0).val, h0 β⟩, flush4 _, fun a => ⟨?_, Or.inl rfl⟩⟩⟩
  · exact (by decide : ∀ a : Fin 2, 0 < S256x1024.size a) a
  · rw [index4]
    match a with
    | ⟨0, _⟩ => rfl
    | ⟨1, _⟩ => exact (Nat.lt_one_iff.1 (h1 β)).symm

/-- The result array after the run. -/
theorem final (hr : InRange m) (c : Dev nD) : (dats m hok 0 c).arrAt (4 : Fin 5) (cfgA m hok).N = G4 m hr c := by
  refine (dats m hok 0 c).arrAt_eq_of_covers (4 : Fin 5) _ (covers4 m hok) fun t hf y => ?_
  blk_simp
  rw [after4]
  have := lt288 t
  obtain ⟨r, j, rfl⟩ : ∃ (r : Fin 256) (j : Fin 1024), y = ix2 r j := ⟨y 0, y 1, by blk_ext⟩
  rw [point]
  unfold G4
  have e3 : ∀ {a a' : Fin 288} {b b' : Fin 256} {d d' : Fin 1024}, a = a' → b = b' → d = d' → entry m hr c a b d = entry m hr c a' b' d' := by
    rintro _ _ _ _ _ _ rfl rfl rfl; rfl
  refine e3 (Fin.ext ?_) (Fin.ext ?_) (Fin.ext ?_) <;> blk_simp [index4 m hok t] <;> simp <;> omega

end Cert.ExpertsIdeal.Block

end
-- ==== Proof.ExpertsRef.lean ====
/-
  THE EXPERTS CALL, ITS REFERENCE: the gathered weights of every block's expert, read entry by entry, and the layer's
  lines over them.
-/
module

public import proofs.«01_k».proof.Proof.Gen.ExpertsRefIdeal.Read
public import proofs.«01_k».proof.Proof.ExpertsMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ExpertsRefIdeal.Rows

open Cert.ExpertsRefIdeal Cert.ExpertsRefIdeal.Gen Cert.ExpertsRefIdeal.Read Cert.LayerMath

/-- Gathering whole slabs: `P` slabs out of `N`, each start a triple of numbers. -/
abbrev slabDims (N A B P : Nat)
    (wf : GatherDims.WF ⟨3, ![N, A, B]⟩ ⟨2, ![P, 3]⟩ ⟨4, ![P, 1, A, B]⟩ [1, 2, 3] [] [] [0, 1, 2] [] 1 ![1, A, B]) :
    GatherDims ⟨3, ![N, A, B]⟩ ⟨2, ![P, 3]⟩ ⟨4, ![P, 1, A, B]⟩ where
  offsetDims := [1, 2, 3]
  collapsedSliceDims := []
  operandBatchingDims := []
  startIndicesBatchingDims := []
  startIndexMap := [0, 1, 2]
  indexVectorDim := 1
  sliceSizes := ![1, A, B]
  wf := wf

/-- A slab gathered at number `e` and at no offset inside is that slab. -/
theorem slab_apply {α : Type} {N A B P : Nat}
    (wf : GatherDims.WF ⟨3, ![N, A, B]⟩ ⟨2, ![P, 3]⟩ ⟨4, ![P, 1, A, B]⟩ [1, 2, 3] [] [] [0, 1, 2] [] 1 ![1, A, B])
    (x : (⟨3, ![N, A, B]⟩ : Shape).Idx → α) (idx : IVec ⟨2, ![P, 3]⟩ 32) (p : Fin P) (i : Fin A) (j : Fin B) (e : Fin N)
    (h0 : (idx (ix2 p 0)).toInt.toNat = e.val) :
    Host.gather (slabDims N A B P wf) x idx (ix4 p 0 i j) = x (ix3 e i j) := by
  unfold Host.gather
  congr 1
  funext a
  refine Fin.ext ?_
  show (slabDims N A B P wf).start (ix4 p 0 i j) idx a + (slabDims N A B P wf).batchCoord (ix4 p 0 i j) a
      + (slabDims N A B P wf).offCoord (ix4 p 0 i j) a = _
  rw [GatherDims.batchCoord_eq_zero _ _ _ List.not_mem_nil, Nat.add_zero]
  unfold GatherDims.start GatherDims.offCoord
  have hm : ∀ a : Fin 3, a ∈ (slabDims N A B P wf).startIndexMap := by intro a; show a ∈ ([0, 1, 2] : List (Fin 3)); revert a; decide
  have hk : ∀ a : Fin 3, a ∈ (slabDims N A B P wf).sKept := fun a => (GatherDims.mem_sKept _ _).mpr ⟨List.not_mem_nil, List.not_mem_nil⟩
  rw [dif_pos (hm a), dif_pos (hk a)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · have hsi : (slabDims N A B P wf).siIdx (ix4 p 0 i j) ⟨List.idxOf (0 : Fin 3) (slabDims N A B P wf).startIndexMap,
        List.idxOf_lt_length_iff.2 (hm 0)⟩ = ix2 p 0 := by
      funext b; refine Fin.ext ?_
      match b with
      | ⟨0, _⟩ => rfl
      | ⟨1, _⟩ => rfl
    rw [hsi, h0]
    show min e.val (N - 1) + 0 = e.val
    have := e.isLt
    omega
  · show min _ (A - A) + i.val = i.val
    omega
  · show min _ (B - B) + j.val = j.val
    omega

variable (x0 : (⟨S288, .i32⟩ : BufTy).Contents (Elt Ideal)) (x2 : (⟨S73728x1024, .f32⟩ : BufTy).Contents (Elt Ideal))
  (x3 x4 : (⟨S32x1024x512, .f32⟩ : BufTy).Contents (Elt Ideal)) (x5 : (⟨S32x512x1024, .f32⟩ : BufTy).Contents (Elt Ideal))

/-- An expert number in range is not negative. -/
theorem select_id (w : BitVec 32) (h : w.toNat < 32) : Scalar.select (IntOp.cmpi .slt w 0#32) (IntOp.addi w 32#32) w = w := by
  have e : BitVec.slt w 0#32 = false := by
    rw [Bool.eq_false_iff, ne_eq, BitVec.slt_iff_toInt_lt, BitVec.toInt_eq_toNat_cond, if_pos (by omega)]
    have z : (0#32 : BitVec 32).toInt = 0 := by decide
    omega
  show Scalar.select (BitVec.ofBool (BitVec.slt w 0#32)) _ _ = w
  rw [e]
  rfl

/-- The first start of a triple, whatever the two others. -/
theorem triple_first (y0 y1 y2 : S288x1.Idx → BitVec 32) (hc : Shape.Concatenates [S288x1, S288x1, S288x1] S288x3 1) (b : Fin 288) :
    concatenate S288x3 1 [⟨S288x1, y0⟩, ⟨S288x1, y1⟩, ⟨S288x1, y2⟩] hc (ix2 b 0) = y0 (ix2 b 0) := by
  refine concatenate_apply_piece (t := S288x3) 1 [⟨S288x1, y0⟩, ⟨S288x1, y1⟩, ⟨S288x1, y2⟩] hc (ix2 b 0) 0 (Nat.zero_lt_succ _) S288x1 y0 rfl rfl 0 rfl (ix2 b 0) (fun k hk => ?_) rfl
  match k with
  | ⟨0, _⟩ => rfl
  | ⟨1, _⟩ => exact absurd rfl hk

/-- The start of the gate's gather is the block's expert number. -/
theorem v15_apply (h : ∀ i, (x0 i).toNat < 32) (b : Fin 288) : val_main_v15 (F := Ideal) x0 (ix2 b 0) = x0 (ix1 b) := by
  refine (triple_first _ _ _ _ b).trans ?_
  pointwise [val_main_v12, val_main_v5, val_main_v4, val_main_v3, val_main_v2, val_main_v1, val_main_c, val_main_c_0]
  exact select_id _ (h _)

/-- A number in range, read signed. -/
theorem toInt_id (w : BitVec 32) (h : w.toNat < 32) : w.toInt.toNat = w.toNat := by
  rw [BitVec.toInt_eq_toNat_cond, if_pos (by omega)]
  rfl

/-- The gate's weights of a block. -/
theorem v17_apply (h : ∀ i, (x0 i).toNat < 32) (b : Fin 288) (i : Fin 1024) (j : Fin 512) :
    val_main_v17 x0 x3 (ix3 b i j) = x3 (ix3 ⟨(x0 (ix1 b)).toNat, h _⟩ i j) := by
  have e : val_main_v16 x0 x3 (ix4 b 0 i j) = x3 (ix3 ⟨(x0 (ix1 b)).toNat, h _⟩ i j) :=
    slab_apply _ x3 _ b i j ⟨(x0 (ix1 b)).toNat, h _⟩ (by rw [v15_apply x0 h]; exact toInt_id _ (h _))
  rw [← e]
  unfold val_main_v17
  generalize val_main_v16 x0 x3 = y
  pointwise []

/-- The up projection's weights of a block. -/
theorem v36_apply (h : ∀ i, (x0 i).toNat < 32) (b : Fin 288) (i : Fin 1024) (j : Fin 512) :
    val_main_v36 x0 x4 (ix3 b i j) = x4 (ix3 ⟨(x0 (ix1 b)).toNat, h _⟩ i j) := by
  have e0 : val_main_v34 (F := Ideal) x0 (ix2 b 0) = x0 (ix1 b) := by
    refine (triple_first _ _ _ _ b).trans ?_
    pointwise [val_main_v31, val_main_v24, val_main_v23, val_main_v22, val_main_v21, val_main_v20, val_main_c_11, val_main_c_12]
    exact select_id _ (h _)
  have e : val_main_v35 x0 x4 (ix4 b 0 i j) = x4 (ix3 ⟨(x0 (ix1 b)).toNat, h _⟩ i j) :=
    slab_apply _ x4 _ b i j ⟨(x0 (ix1 b)).toNat, h _⟩ (by rw [e0]; exact toInt_id _ (h _))
  rw [← e]
  unfold val_main_v36
  generalize val_main_v35 x0 x4 = y
  pointwise []

/-- The down projection's weights of a block. -/
theorem v55_apply (h : ∀ i, (x0 i).toNat < 32) (b : Fin 288) (i : Fin 512) (j : Fin 1024) :
    val_main_v55 x0 x5 (ix3 b i j) = x5 (ix3 ⟨(x0 (ix1 b)).toNat, h _⟩ i j) := by
  have e0 : val_main_v53 (F := Ideal) x0 (ix2 b 0) = x0 (ix1 b) := by
    refine (triple_first _ _ _ _ b).trans ?_
    pointwise [val_main_v50, val_main_v43, val_main_v42, val_main_v41, val_main_v40, val_main_v39, val_main_c_23, val_main_c_24]
    exact select_id _ (h _)
  have e : val_main_v54 x0 x5 (ix4 b 0 i j) = x5 (ix3 ⟨(x0 (ix1 b)).toNat, h _⟩ i j) :=
    slab_apply _ x5 _ b i j ⟨(x0 (ix1 b)).toNat, h _⟩ (by rw [e0]; exact toInt_id _ (h _))
  rw [← e]
  unfold val_main_v55
  generalize val_main_v54 x0 x5 = y
  pointwise []

/-- The gate before its activation. -/
theorem v18_apply (h : ∀ i, (x0 i).toNat < 32) (b : Fin 288) (r : Fin 256) (l : Fin 512) :
    val_main_v18 x0 x2 x3 (ix3 b r l)
      = ∑ k, x2 (ix2 ⟨b.val * 256 + r.val, by omega⟩ k) * x3 (ix3 ⟨(x0 (ix1 b)).toNat, h _⟩ k l) := by
  simp only [← v17_apply x0 x3 h]
  unfold val_main_v18
  generalize val_main_v17 x0 x3 = y
  pointwise [val_main_v0]

/-- The up projection. -/
theorem v37_apply (h : ∀ i, (x0 i).toNat < 32) (b : Fin 288) (r : Fin 256) (l : Fin 512) :
    val_main_v37 x0 x2 x4 (ix3 b r l)
      = ∑ k, x2 (ix2 ⟨b.val * 256 + r.val, by omega⟩ k) * x4 (ix3 ⟨(x0 (ix1 b)).toNat, h _⟩ k l) := by
  simp only [← v36_apply x0 x4 h]
  unfold val_main_v37
  generalize val_main_v36 x0 x4 = y
  pointwise [val_main_v0]

/-- The activated gate times the up projection. -/
theorem v38_apply (b : Fin 288) (r : Fin 256) (l : Fin 512) :
    val_main_v38 x0 x2 x3 x4 (ix3 b r l) = silu (val_main_v18 x0 x2 x3 (ix3 b r l)) * val_main_v37 x0 x2 x4 (ix3 b r l) := by
  unfold val_main_v38 val_main_v19 val_main_call0_v5 val_main_call0_v3 val_main_call0_v1 val_main_call0_v0
  generalize val_main_v18 x0 x2 x3 = y
  generalize val_main_v37 x0 x2 x4 = z
  pointwise [val_main_call0_v2, val_main_call0_v4, val_main_call0_cst, val_main_call0_cst_0]
  rfl

/-- The result: every row of a block through the block's expert. -/
theorem v57_apply (h : ∀ i, (x0 i).toNat < 32) (b : Fin 288) (r : Fin 256) (j : Fin 1024) :
    val_main_v57 x0 x2 x3 x4 x5 (ix2 ⟨b.val * 256 + r.val, by omega⟩ j)
      = expertRow (fun k => x2 (ix2 ⟨b.val * 256 + r.val, by omega⟩ k)) (fun k l => x3 (ix3 ⟨(x0 (ix1 b)).toNat, h _⟩ k l))
          (fun k l => x4 (ix3 ⟨(x0 (ix1 b)).toNat, h _⟩ k l)) (fun l j => x5 (ix3 ⟨(x0 (ix1 b)).toNat, h _⟩ l j)) j := by
  have e : val_main_v56 x0 x2 x3 x4 x5 (ix3 b r j) = expertRow (fun k => x2 (ix2 ⟨b.val * 256 + r.val, by omega⟩ k)) (fun k l => x3 (ix3 ⟨(x0 (ix1 b)).toNat, h _⟩ k l))
          (fun k l => x4 (ix3 ⟨(x0 (ix1 b)).toNat, h _⟩ k l)) (fun l j => x5 (ix3 ⟨(x0 (ix1 b)).toNat, h _⟩ l j)) j := by
    have hs : val_main_v56 x0 x2 x3 x4 x5 (ix3 b r j) = ∑ l, val_main_v38 x0 x2 x3 x4 (ix3 b r l) * val_main_v55 x0 x5 (ix3 b l j) := by
      unfold val_main_v56
      generalize val_main_v38 x0 x2 x3 x4 = y
      generalize val_main_v55 x0 x5 = z
      pointwise []
    rw [hs]
    simp only [v38_apply, v18_apply x0 x2 x3 h, v37_apply x0 x2 x4 h, v55_apply x0 x5 h]
    rfl
  rw [← e]
  rw [val_main_v57_apply]
  congr 1
  funext a
  refine Fin.ext ?_
  have := b.isLt
  have := r.isLt
  have := j.isLt
  match a with
  | ⟨0, _⟩ => show ((b.val * 256 + r.val) * 1024 + j.val) / 262144 = b.val; omega
  | ⟨1, _⟩ => show ((b.val * 256 + r.val) * 1024 + j.val) / 1024 % 256 = r.val; omega
  | ⟨2, _⟩ => show ((b.val * 256 + r.val) * 1024 + j.val) % 1024 = j.val; omega

end Cert.ExpertsRefIdeal.Rows

end
-- ==== Proof.ExpertsPre.lean ====
/-
  THE EXPERTS CALL, ITS PRECONDITIONS, READ: what a set mask says of one entry.
-/
module

public import proofs.«01_k».proof.Proof.Gen.Pre_expert_ids
public import proofs.«01_k».proof.Proof.Gen.Pre_routed
public import proofs.«01_k».proof.Proof.ExpertsMath
public import Idealize.ShloMosaic.Lib.Pointwise

@[expose] public section

set_option maxRecDepth 16384

noncomputable section

open Idealize.ShloMosaic Idealize.ShloMosaic.TcCoe Idealize.SL.Sem

namespace Cert.PreRead

open Cert.LayerMath

/-- A word which is neither negative nor 32 or more, read signed, is below 32. -/
theorem lt_of_masks (w : BitVec 32) (h1 : IntOp.cmpi .sge w 0#32 = 1#1) (h2 : IntOp.cmpi .slt w 32#32 = 1#1) : w.toNat < 32 := by
  have a : BitVec.ofBool (BitVec.sle 0#32 w) = 1#1 := h1
  have b : BitVec.ofBool (BitVec.slt w 32#32) = 1#1 := h2
  have a' : BitVec.sle 0#32 w = true := by revert a; cases BitVec.sle 0#32 w <;> decide
  have b' : BitVec.slt w 32#32 = true := by revert b; cases BitVec.slt w 32#32 <;> decide
  rw [BitVec.sle_iff_toInt_le] at a'
  rw [BitVec.slt_iff_toInt_lt] at b'
  have hw := BitVec.toInt_eq_toNat_cond w
  have z : (0#32 : BitVec 32).toInt = 0 := by decide
  have t : (32#32 : BitVec 32).toInt = 32 := by decide
  rw [z] at a'
  rw [t] at b'
  split at hw <;> omega

open Cert.Pre_expert_ids in
/-- Under the precondition every expert number is below 32. -/
theorem ids_lt {F : FTy → Type} [FloatOps F] (a0 : IVec S288 32) (a1 : IVec S1 32) (a2 : FVec F S73728x1024 .f32) (a3 a4 : FVec F S32x1024x512 .f32) (a5 : FVec F S32x512x1024 .f32)
    (h1 : ∀ i, (fn (F := F) a0 a1 a2 a3 a4 a5).1 i = 1#1) (h2 : ∀ i, (fn (F := F) a0 a1 a2 a3 a4 a5).2 i = 1#1) (i : S288.Idx) :
    (a0 i).toNat < 32 := lt_of_masks (a0 i) (h1 i) (h2 i)

open Cert.Pre_routed in
/-- The same of the precondition of the values. -/
theorem routed_lt {F : FTy → Type} [FloatOps F] (a0 : IVec S288 32) (a1 : IVec S1 32) (a2 : FVec F S73728x1024 .f32) (a3 a4 : FVec F S32x1024x512 .f32) (a5 : FVec F S32x512x1024 .f32)
    (h1 : ∀ i, (fn (F := F) a0 a1 a2 a3 a4 a5).1 i = 1#1) (h2 : ∀ i, (fn (F := F) a0 a1 a2 a3 a4 a5).2.1 i = 1#1) (i : S288.Idx) :
    (a0 i).toNat < 32 := lt_of_masks (a0 i) (h1 i) (h2 i)

/-- One of the two bits is set. -/
theorem or_bits (a b : BitVec 1) (h : a ||| b = 1#1) (ha : ¬ a = 1#1) : b = 1#1 := by
  revert a b; decide

open Cert.Pre_routed in
/-- Under the precondition of the values the rows of an unused block are zero. -/
theorem routed_zero (a0 : IVec S288 32) (a1 : IVec S1 32) (a2 : FVec Ideal S73728x1024 .f32) (a3 a4 : FVec Ideal S32x1024x512 .f32) (a5 : FVec Ideal S32x512x1024 .f32)
    (h : ∀ i, (fn (F := Ideal) a0 a1 a2 a3 a4 a5).2.2 i = 1#1) (b : Fin 288) (r : Fin 256) (j : Fin 1024)
    (hb : ¬ IntOp.cmpi .slt (BitVec.ofNat 32 b.val) (a1 (ix1 0)) = 1#1) : a2 (ix2 ⟨b.val * 256 + r.val, by omega⟩ j) = (0 : EReal) := by
  have h := h (ix3 b r j)
  pointwise [fn] at h
  have h' := or_bits _ _ h hb
  by_contra hn
  rw [decide_eq_false hn] at h'
  exact absurd h' (by decide)

end Cert.PreRead

end
-- ==== Proof.ExpertsEq.lean ====
/-
  THE EXPERTS CALL, THE CLAIM: the kernel's rows are the reference's, unused blocks being zero rows.
-/
module

public import proofs.«01_k».proof.Defs
public import proofs.«01_k».proof.Proof.ExpertsRun
public import proofs.«01_k».proof.Proof.ExpertsFinal
public import proofs.«01_k».proof.Proof.ExpertsRef
public import proofs.«01_k».proof.Proof.ExpertsPre
public import Idealize.ShloMosaic.Lib.Quiescent

@[expose] public section

set_option maxRecDepth 16384

noncomputable section

open Idealize.ShloMosaic Idealize.ShloMosaic.TcCoe Idealize.SL.Sem

namespace Cert.ExpertsEq

/-- The kernel's expert numbers are in range under its precondition. -/
theorem range_kernel (m : (ℓ : Loc Experts.nD Experts.τ Experts.sig) → Buf (Elt Bits) ℓ) (h : Pre_Experts m) :
    Cert.Experts.Block.InRange m :=
  Cert.PreRead.ids_lt _ _ _ _ _ _ (fun i => congrFun (h 0).1 i) (fun i => congrFun (h 0).2 i)

/-- The same over the reals. -/
theorem range_ideal (m : (ℓ : Loc ExpertsIdeal.nD ExpertsIdeal.τ ExpertsIdeal.sig) → Buf (Elt Ideal) ℓ) (h : Pre_ExpertsIdeal m) :
    Cert.ExpertsIdeal.Block.InRange m :=
  Cert.PreRead.ids_lt _ _ _ _ _ _ (fun i => congrFun (h 0).1 i) (fun i => congrFun (h 0).2 i)

/-- The same under the precondition of the values. -/
theorem range_routed (m : (ℓ : Loc ExpertsIdeal.nD ExpertsIdeal.τ ExpertsIdeal.sig) → Buf (Elt Ideal) ℓ) (h : Pre_ExpertsIdeal_routed m) :
    Cert.ExpertsIdeal.Block.InRange m :=
  Cert.PreRead.routed_lt _ _ _ _ _ _ (fun i => congrFun (h 0).1 i) (fun i => congrFun (h 0).2.1 i)

open Cert.Experts Cert.Experts.Gen Cert.Experts.Block in
/-- Run and frame of the kernel as printed. -/
theorem frame_kernel : quiescent_Experts := fun m ρ h =>
  (θ_run defs _ _).mono (fun _ h => ⟨fun c => (h.1 c).2, h.2⟩) (run m ρ (ok_of_range m (range_kernel m h)))

open Cert.ExpertsIdeal Cert.ExpertsIdeal.Gen Cert.ExpertsIdeal.Block in
/-- Run and frame of the kernel over the reals. -/
theorem frame_ideal : quiescent_ExpertsIdeal := fun m ρ h =>
  (θ_run defs _ _).mono (fun _ h => ⟨fun c => (h.1 c).2, h.2⟩) (run m ρ (ok_of_range m (range_ideal m h)))

open Cert.ExpertsIdeal Cert.ExpertsIdeal.Gen Cert.ExpertsIdeal.Block in
/-- The same under the precondition of the values. -/
theorem frame_ideal_routed : quiescent_ExpertsIdeal_pre_routed := fun m ρ h =>
  (θ_run defs _ _).mono (fun _ h => ⟨fun c => (h.1 c).2, h.2⟩) (run m ρ (ok_of_range m (range_routed m h)))

open Cert.ExpertsRefIdeal Cert.ExpertsRefIdeal.Gen in
/-- Run and frame of the reference. -/
theorem frame_ref : quiescent_ExpertsRefIdeal := fun m ρ _ =>
  (θ_run defs _ _).mono (fun r h => ⟨fun c => (h c).2, sem_eq_zero_of_no_sems (by decide) r.2⟩) (Cert.ExpertsRefIdeal.Value.run (F := Ideal) m ρ)

/-- The same under the precondition of the values. -/
theorem frame_ref_routed : quiescent_ExpertsRefIdeal_pre_routed := fun m ρ _ => frame_ref m ρ trivial

open Cert.LayerMath Cert.ExpertsIdeal.Block in
/-- The reference's rows are the kernel's, from the same arguments under the precondition. -/
theorem res_eq (m : (ℓ : Loc ExpertsIdeal.nD ExpertsIdeal.τ ExpertsIdeal.sig) → Buf (Elt Ideal) ℓ)
    (hpre : Pre_ExpertsIdeal_routed m) (c : Dev ExpertsIdeal.nD) :
    Cert.ExpertsRefIdeal.Read.val_main_v57
      (m ((c.tc : Thread ExpertsIdeal.nD ExpertsIdeal.τ).loc ExpertsIdeal.main_arg0))
      (m ((c.tc : Thread ExpertsIdeal.nD ExpertsIdeal.τ).loc ExpertsIdeal.main_arg2)) (m ((c.tc : Thread ExpertsIdeal.nD ExpertsIdeal.τ).loc ExpertsIdeal.main_arg3))
      (m ((c.tc : Thread ExpertsIdeal.nD ExpertsIdeal.τ).loc ExpertsIdeal.main_arg4)) (m ((c.tc : Thread ExpertsIdeal.nD ExpertsIdeal.τ).loc ExpertsIdeal.main_arg5))
      = G4 m (range_routed m hpre) c := by
  obtain rfl : c = 0 := Subsingleton.elim _ _
  funext i
  obtain ⟨n, j, rfl⟩ : ∃ (n : Fin 73728) (j : Fin 1024), i = ix2 n j := ⟨i 0, i 1, by funext k; fin_cases k <;> rfl⟩
  have hn : ∀ h : n.val / 256 * 256 + n.val % 256 < 73728, (⟨n.val / 256 * 256 + n.val % 256, h⟩ : Fin 73728) = n :=
    fun h => Fin.ext (by dsimp; omega)
  have hv := Cert.ExpertsRefIdeal.Rows.v57_apply
    (m (((0 : Dev ExpertsIdeal.nD).tc : Thread ExpertsIdeal.nD ExpertsIdeal.τ).loc ExpertsIdeal.main_arg0))
    (m (((0 : Dev ExpertsIdeal.nD).tc : Thread ExpertsIdeal.nD ExpertsIdeal.τ).loc ExpertsIdeal.main_arg2)) (m (((0 : Dev ExpertsIdeal.nD).tc : Thread ExpertsIdeal.nD ExpertsIdeal.τ).loc ExpertsIdeal.main_arg3))
    (m (((0 : Dev ExpertsIdeal.nD).tc : Thread ExpertsIdeal.nD ExpertsIdeal.τ).loc ExpertsIdeal.main_arg4)) (m (((0 : Dev ExpertsIdeal.nD).tc : Thread ExpertsIdeal.nD ExpertsIdeal.τ).loc ExpertsIdeal.main_arg5))
    (range_routed m hpre) ⟨n.val / 256, by omega⟩ ⟨n.val % 256, by omega⟩ j
  have hz := Cert.PreRead.routed_zero _ _ _ _ _ _ (fun i => congrFun (hpre 0).2.2 i) ⟨n.val / 256, by omega⟩ ⟨n.val % 256, by omega⟩
  have hv' := (congrArg (fun x => Cert.ExpertsRefIdeal.Read.val_main_v57
    (m (((0 : Dev ExpertsIdeal.nD).tc : Thread ExpertsIdeal.nD ExpertsIdeal.τ).loc ExpertsIdeal.main_arg0))
    (m (((0 : Dev ExpertsIdeal.nD).tc : Thread ExpertsIdeal.nD ExpertsIdeal.τ).loc ExpertsIdeal.main_arg2)) (m (((0 : Dev ExpertsIdeal.nD).tc : Thread ExpertsIdeal.nD ExpertsIdeal.τ).loc ExpertsIdeal.main_arg3))
    (m (((0 : Dev ExpertsIdeal.nD).tc : Thread ExpertsIdeal.nD ExpertsIdeal.τ).loc ExpertsIdeal.main_arg4)) (m (((0 : Dev ExpertsIdeal.nD).tc : Thread ExpertsIdeal.nD ExpertsIdeal.τ).loc ExpertsIdeal.main_arg5)) (ix2 x j)) (hn (by omega))).symm.trans hv
  refine hv'.trans ?_
  show _ = entry m (range_routed m hpre) 0 ⟨n.val / 256, _⟩ ⟨n.val % 256, _⟩ j
  unfold entry
  split
  · rfl
  · rename_i hb
    exact expertRow_zero _ (fun k => hz k hb) _ _ _ j

open Cert.ExpertsRefIdeal in
/-- The kernel's result is the reference's. -/
theorem algebraic : algebraic_ExpertsIdeal_ExpertsRefIdeal_pre_routed := fun m ρ m' ρ' hpre hag =>
  ⟨fun c => Cert.ExpertsIdeal.Block.G4 m (range_routed m hpre) c,
    (θ_run ExpertsIdeal.defs _ _).mono (fun _ h c => ⟨(h.1 c).1.trans (Cert.ExpertsIdeal.Block.final m _ (range_routed m hpre) c), (h.1 c).2⟩)
      (Cert.ExpertsIdeal.Block.run m ρ (Cert.ExpertsIdeal.Block.ok_of_range m (range_routed m hpre))),
    (θ_run defs _ _).mono (fun _ h c => ⟨(h c).1.trans (by
      obtain ⟨h0, h1, h2, h3, h4, h5⟩ := hag c
      refine (Cert.ExpertsRefIdeal.Read.val_main_v57_eq m' c).trans ?_
      rw [h0, h2, h3, h4, h5]
      exact res_eq m hpre c), (h c).2⟩) (Cert.ExpertsRefIdeal.Value.run (F := Ideal) m' ρ')⟩

end Cert.ExpertsEq

end
-- ==== Proof.MemKvBlock.lean ====
/-
  THE MEMORY KEYS AND VALUES CALL, ONE BLOCK: the normalised memory times the weights; the first half, normalised head
  by head, is the keys, the second half the values.
-/
module

public import proofs.«01_k».proof.Proof.Gen.MemKvIdeal.Value
public import proofs.«01_k».proof.Proof.InProjBlock
public import Idealize.ShloMosaic.Lib.Pipeline.ValueKit

@[expose] public section

set_option maxRecDepth 16384

noncomputable section

open Idealize.ShloMosaic Idealize.ShloMosaic.TcCoe Idealize.SL.Sem

namespace Cert.LayerMath

/-- The keys of a row `q` of the product, normalised head by head with the gain `g`. -/
def keyRow (q : Fin 2048 → EReal) (g : Fin 256 → EReal) (j : Fin 1024) : EReal :=
  rms c256 (fun e => q ⟨256 * (j.val / 256) + e.val, by omega⟩) g ⟨j.val % 256, by omega⟩

/-- A head of the keys at a column of its own. -/
theorem keyRow_of (q : Fin 2048 → EReal) (g : Fin 256 → EReal) (j : Fin 1024) (a : Nat) (d : Fin 256) (ha : a < 4) (hj : j.val = 256 * a + d.val) :
    keyRow q g j = rms c256 (fun e => q ⟨256 * a + e.val, by omega⟩) g d := by
  have h1 : j.val / 256 = a := by omega
  have h2 : (⟨j.val % 256, by omega⟩ : Fin 256) = d := Fin.ext (by dsimp; omega)
  unfold keyRow
  simp only [h1, h2]

end Cert.LayerMath

namespace Cert.MemKvIdeal.Block

open Cert.MemKvIdeal Cert.MemKvIdeal.Gen Cert.LayerMath

/-- The product's row. -/
theorem pay3_apply (v0 : Vec Ideal S1x256x1024 .f32) (v2 : Vec Ideal S1x1024 .f32) (v17 : Vec Ideal S1024x2048 .bf16) (r : Fin 256) (j : Fin 2048) :
    k0_pay3 v0 v2 v17 (ix2 r j) = proj (fun j => v0 (ix3 0 r j)) (fun j => v2 (ix2 0 j)) (fun i j => v17 (ix2 i j)) j := by
  pointwise [k0_pay3]
  rfl

/-- Head 0 of the keys. -/
theorem pay5_apply (v0 : Vec Ideal S1x256x1024 .f32) (v2 : Vec Ideal S1x1024 .f32) (v17 : Vec Ideal S1024x2048 .bf16) (v20 : Vec Ideal S1x256 .f32) (r d : Fin 256) :
    k0_pay5 v0 v2 v17 v20 (ix3 0 r d) = rms c256 (fun e => k0_pay3 v0 v2 v17 (ix2 r ⟨256 * 0 + e.val, by omega⟩)) (fun e => v20 (ix2 0 e)) d := by
  have h0 : ∀ (e : Fin 256) (h : 256 * 0 + e.val < 2048), (⟨256 * 0 + e.val, h⟩ : Fin 2048) = ⟨e.val, by omega⟩ := fun e h => Fin.ext (by simp)
  simp only [h0]
  unfold k0_pay5
  generalize k0_pay3 v0 v2 v17 = q
  pointwise [k0_pay4]
  rfl

/-- Head 1 of the keys. -/
theorem pay6_apply (q : FVec Ideal S256x2048 .f32) (v20 : Vec Ideal S1x256 .f32) (r d : Fin 256) :
    k0_pay6 q (k0_pay4 v20) (ix3 0 r d) = rms c256 (fun e => q (ix2 r ⟨256 * 1 + e.val, by omega⟩)) (fun e => v20 (ix2 0 e)) d := by
  pointwise [k0_pay6, k0_pay4]
  rfl

/-- Head 2 of the keys. -/
theorem pay7_apply (q : FVec Ideal S256x2048 .f32) (v20 : Vec Ideal S1x256 .f32) (r d : Fin 256) :
    k0_pay7 q (k0_pay4 v20) (ix3 0 r d) = rms c256 (fun e => q (ix2 r ⟨256 * 2 + e.val, by omega⟩)) (fun e => v20 (ix2 0 e)) d := by
  pointwise [k0_pay7, k0_pay4]
  rfl

/-- Head 3 of the keys. -/
theorem pay1_apply (q : FVec Ideal S256x2048 .f32) (v20 : Vec Ideal S1x256 .f32) (r d : Fin 256) :
    k0_pay1 (k0_pay4 v20) (k0_pay8 q) (k0_pay9 q) (ix3 0 r d) = rms c256 (fun e => q (ix2 r ⟨256 * 3 + e.val, by omega⟩)) (fun e => v20 (ix2 0 e)) d := by
  pointwise [k0_pay1, k0_pay4, k0_pay8, k0_pay9]
  rfl

/-- The values. -/
theorem pay2_apply (q : FVec Ideal S256x2048 .f32) (r : Fin 256) (j : Fin 1024) :
    k0_pay2 q (ix3 0 r j) = q (ix2 r ⟨1024 + j.val, by omega⟩) := by
  pointwise [k0_pay2]

/-- Three zeros are the zero offset. -/
theorem hz3 : (![0, 0, 0] : Fin 3 → Nat) = fun _ => 0 := funext fun a => by fin_cases a <;> rfl

/-- Two zeros are the zero offset. -/
theorem hz2 : (![0, 0] : Fin 2 → Nat) = fun _ => 0 := funext fun a => by fin_cases a <;> rfl

variable (x0 : Vec Ideal S1x256x1024 .f32) (x1 : Vec Ideal S1x1024 .f32) (x2 : Vec Ideal S1024x2048 .bf16) (x3 : Vec Ideal S1x256 .f32)

/-- The keys the body stores. -/
theorem out4_apply (r : Fin 256) (j : Fin 1024) :
    out0_4 x0 x1 x2 x3 (ix3 0 r j)
      = keyRow (proj (fun j => x0 (ix3 0 r j)) (fun j => x1 (ix2 0 j)) (fun i j => x2 (ix2 i j))) (fun e => x3 (ix2 0 e)) j := by
  have l0 : View.ld x0 r0_0 = x0 := View.ld_unit_zero hz3 _ x0
  have l1 : View.ld x1 r0_1 = x1 := View.ld_unit_zero hz2 _ x1
  have l2 : View.ld x2 r0_2 = x2 := View.ld_unit_zero hz2 _ x2
  have l3 : View.ld x3 r0_3 = x3 := View.ld_unit_zero hz2 _ x3
  have hq : (fun j => k0_pay3 x0 x1 x2 (ix2 r j)) = proj (fun j => x0 (ix3 0 r j)) (fun j => x1 (ix2 0 j)) (fun i j => x2 (ix2 i j)) :=
    funext fun j => pay3_apply x0 x1 x2 r j
  unfold_out out0_4
  rw [l0, l1, l2, l3, ← hq]
  canon_tiles x h
  · have h1' : r.val = (x 1).val := h1
    obtain ⟨d, rfl⟩ : ∃ d : Fin 256, x = ix3 0 r d := ⟨x 2, by blk_ext⟩
    exact (pay1_apply _ _ _ _).trans (keyRow_of (fun j => k0_pay3 x0 x1 x2 (ix2 r j)) (fun e => x3 (ix2 0 e)) j 3 d (by omega) (by simpa using h2)).symm
  · have h1' : r.val = (x 1).val := h1
    obtain ⟨d, rfl⟩ : ∃ d : Fin 256, x = ix3 0 r d := ⟨x 2, by blk_ext⟩
    exact (pay7_apply _ _ _ _).trans (keyRow_of (fun j => k0_pay3 x0 x1 x2 (ix2 r j)) (fun e => x3 (ix2 0 e)) j 2 d (by omega) (by simpa using h2)).symm
  · have h1' : r.val = (x 1).val := h1
    obtain ⟨d, rfl⟩ : ∃ d : Fin 256, x = ix3 0 r d := ⟨x 2, by blk_ext⟩
    exact (pay6_apply _ _ _ _).trans (keyRow_of (fun j => k0_pay3 x0 x1 x2 (ix2 r j)) (fun e => x3 (ix2 0 e)) j 1 d (by omega) (by simpa using h2)).symm
  · have h1' : r.val = (x 1).val := h1
    obtain ⟨d, rfl⟩ : ∃ d : Fin 256, x = ix3 0 r d := ⟨x 2, by blk_ext⟩
    exact (pay5_apply _ _ _ _ _ _).trans (keyRow_of (fun j => k0_pay3 x0 x1 x2 (ix2 r j)) (fun e => x3 (ix2 0 e)) j 0 d (by omega) (by simpa using h2)).symm

/-- The values the body stores. -/
theorem out5_apply (r : Fin 256) (j : Fin 1024) :
    out0_5 x0 x1 x2 x3 (ix3 0 r j)
      = proj (fun j => x0 (ix3 0 r j)) (fun j => x1 (ix2 0 j)) (fun i j => x2 (ix2 i j)) ⟨1024 + j.val, by omega⟩ := by
  have l0 : View.ld x0 r0_0 = x0 := View.ld_unit_zero hz3 _ x0
  have l1 : View.ld x1 r0_1 = x1 := View.ld_unit_zero hz2 _ x1
  have l2 : View.ld x2 r0_2 = x2 := View.ld_unit_zero hz2 _ x2
  unfold_out out0_5
  rw [View.canon_unit_zero hz3, l0, l1, l2, pay2_apply, pay3_apply]

end Cert.MemKvIdeal.Block

end
-- ==== Proof.MemKvFinal.lean ====
/-
  THE MEMORY KEYS AND VALUES CALL, ITS RESULT ARRAYS: one block for each of the two batches.
-/
module

public import proofs.«01_k».proof.Proof.MemKvBlock

@[expose] public section

set_option maxRecDepth 16384

noncomputable section

open Idealize.ShloMosaic Idealize.ShloMosaic.TcCoe Idealize.SL.Sem
open Idealize.ShloMosaic.Pipeline (Dat)

namespace Cert.MemKvIdeal.Block

open Cert.MemKvIdeal Cert.MemKvIdeal.Gen Cert.LayerMath

/-- Row `n` of batch `b` of the product. -/
def kvRow (x : Vec Ideal S2x256x1024 .f32) (g : Vec Ideal S1024 .f32) (w : Vec Ideal S1024x2048 .f32) (b : Fin 2) (n : Fin 256) : Fin 2048 → EReal :=
  proj (fun j => x (ix3 b n j)) (fun j => g (ix1 j)) (fun i l => w (ix2 i l))

variable (m : (ℓ : Loc nD τ sig) → Buf (Elt Ideal) ℓ) (ρ : Dev nD → PrngReg)

/-- The block each window reads or writes at grid point `t`, decided. -/
theorem idx : ∀ t : Fin cfg0.N,
    win0_0.index t = ![t.val, 0, 0] ∧ win0_1.index t = ![0, 0] ∧ win0_2.index t = ![0, 0] ∧ win0_3.index t = ![0, 0]
      ∧ win0_4.index t = ![t.val, 0, 0] ∧ win0_5.index t = ![t.val, 0, 0] :=
  (by decide +kernel : ∀ t : Fin grid0.N, _)

/-- The grid has two points. -/
theorem lt2 (t : Fin cfg0.N) : t.val < 2 := t.isLt

/-- The memory of the batch. -/
theorem blk0 (c : Dev nD) (t : Fin cfg0.N) (r : Fin 256) (j : Fin 1024) :
    iblk m c 0 t (ix3 0 r j) = m ((c : Thread nD τ).loc main_arg0) (ix3 ⟨t.val, lt2 t⟩ r j) := by
  have := lt2 t
  blk_ext! [iblk, V, idx t]

/-- The gain of the memory. -/
theorem blk1 (c : Dev nD) (t : Fin cfg0.N) (j : Fin 1024) :
    iblk m c 1 t (ix2 0 j) = m ((c : Thread nD τ).loc main_arg1) (ix1 j) := by
  have := lt2 t
  blk_ext! [iblk, V, idx t]

/-- The weights. -/
theorem blk2 (c : Dev nD) (t : Fin cfg0.N) (i : Fin 1024) (j : Fin 2048) :
    iblk m c 2 t (ix2 i j) = m ((c : Thread nD τ).loc main_arg2) (ix2 i j) := by
  have := lt2 t
  blk_ext! [iblk, V, idx t]

/-- The gain of the heads. -/
theorem blk3 (c : Dev nD) (t : Fin cfg0.N) (j : Fin 256) :
    iblk m c 3 t (ix2 0 j) = m ((c : Thread nD τ).loc main_arg3) (ix1 j) := by
  have := lt2 t
  blk_ext! [iblk, V, idx t]

/-- Entry of the keys. -/
def ekey (c : Dev nD) (b : Fin 2) (n : Fin 256) (j : Fin 1024) : EReal :=
  keyRow (kvRow (m ((c : Thread nD τ).loc main_arg0)) (m ((c : Thread nD τ).loc main_arg1)) (m ((c : Thread nD τ).loc main_arg2)) b n) (fun e => m ((c : Thread nD τ).loc main_arg3) (ix1 e)) j

/-- Entry of the values. -/
def evalue (c : Dev nD) (b : Fin 2) (n : Fin 256) (j : Fin 1024) : EReal :=
  kvRow (m ((c : Thread nD τ).loc main_arg0)) (m ((c : Thread nD τ).loc main_arg1)) (m ((c : Thread nD τ).loc main_arg2)) b n ⟨1024 + j.val, by omega⟩

/-- The array of the keys. -/
def G4 (c : Dev nD) : Buf (Elt Ideal) ((c : Thread nD τ).loc main_v3_0) := fun i => ekey m c (i 0) (i 1) (i 2)

/-- The block of the keys grid point `t` writes. -/
theorem point4 (c : Dev nD) (t : Fin cfg0.N) (r : Fin 256) (j : Fin 1024) :
    out0_4 (iblk m c 0 t) (iblk m c 1 t) (iblk m c 2 t) (iblk m c 3 t) (ix3 0 r j) = ekey m c ⟨t.val, lt2 t⟩ r j := by
  rw [out4_apply]
  simp only [blk0, blk1, blk2, blk3]
  rfl

/-- The array of the keys after the run. -/
theorem final4 (c : Dev nD) : (dats m 0 c).arrAt 4 cfg0.N = G4 m c := by
  refine (dats m 0 c).arrAt_eq_of_covers 4 _ (by decide +kernel) fun t hf y => ?_
  blk_simp
  rw [after0_4]
  have := lt2 t
  obtain ⟨r, j, rfl⟩ : ∃ r j, y = ix3 0 r j := ⟨y 1, y 2, by blk_ext⟩
  rw [point4]
  unfold G4
  have e3 : ∀ {a a' : Fin 2} {b b' : Fin 256} {d d' : Fin 1024}, a = a' → b = b' → d = d' → ekey m c a b d = ekey m c a' b' d' := by
    rintro _ _ _ _ _ _ rfl rfl rfl; rfl
  refine e3 (Fin.ext ?_) (Fin.ext ?_) (Fin.ext ?_) <;> blk_simp [idx t] <;> simp <;> omega

/-- The array of the values. -/
def G5 (c : Dev nD) : Buf (Elt Ideal) ((c : Thread nD τ).loc main_v3_1) := fun i => evalue m c (i 0) (i 1) (i 2)

/-- The block of the values grid point `t` writes. -/
theorem point5 (c : Dev nD) (t : Fin cfg0.N) (r : Fin 256) (j : Fin 1024) :
    out0_5 (iblk m c 0 t) (iblk m c 1 t) (iblk m c 2 t) (iblk m c 3 t) (ix3 0 r j) = evalue m c ⟨t.val, lt2 t⟩ r j := by
  rw [out5_apply]
  simp only [blk0, blk1, blk2, blk3]
  rfl

/-- The array of the values after the run. -/
theorem final5 (c : Dev nD) : (dats m 0 c).arrAt 5 cfg0.N = G5 m c := by
  refine (dats m 0 c).arrAt_eq_of_covers 5 _ (by decide +kernel) fun t hf y => ?_
  blk_simp
  rw [after0_5]
  have := lt2 t
  obtain ⟨r, j, rfl⟩ : ∃ r j, y = ix3 0 r j := ⟨y 1, y 2, by blk_ext⟩
  rw [point5]
  unfold G5
  have e3 : ∀ {a a' : Fin 2} {b b' : Fin 256} {d d' : Fin 1024}, a = a' → b = b' → d = d' → evalue m c a b d = evalue m c a' b' d' := by
    rintro _ _ _ _ _ _ rfl rfl rfl; rfl
  refine e3 (Fin.ext ?_) (Fin.ext ?_) (Fin.ext ?_) <;> blk_simp [idx t] <;> simp <;> omega

/-- The run: both result arrays are these, and the arguments end unchanged. -/
theorem run : θ_run defs (onTc (τ := τ) (main (F := Ideal))) ⟨m, fun _ => 0, ρ⟩ fun r => ∀ c : Dev nD,
      r.2.mem ((c : Thread nD τ).loc main_v3_0) = G4 m c
      ∧ r.2.mem ((c : Thread nD τ).loc main_v3_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

end Cert.MemKvIdeal.Block

end
-- ==== Proof.MemKvRef.lean ====
/-
  THE MEMORY KEYS AND VALUES CALL, ITS REFERENCE: the two results read at an index.
-/
module

public import proofs.«01_k».proof.Proof.Gen.MemKvRefIdeal.Read
public import proofs.«01_k».proof.Proof.Gen.MemKvRefIdeal.Run
public import proofs.«01_k».proof.Proof.MemKvBlock

@[expose] public section

set_option maxRecDepth 16384

noncomputable section

open Idealize.ShloMosaic Idealize.ShloMosaic.TcCoe Idealize.SL.Sem

namespace Cert.MemKvRefIdeal.Rows

open Cert.MemKvRefIdeal Cert.MemKvRefIdeal.Gen Cert.MemKvRefIdeal.Read Cert.LayerMath

variable (x0 : (⟨S2x256x1024, .f32⟩ : BufTy).Contents (Elt Ideal)) (x1 : (⟨S1024, .f32⟩ : BufTy).Contents (Elt Ideal))
  (x2 : (⟨S1024x2048, .f32⟩ : BufTy).Contents (Elt Ideal)) (x3 : (⟨S256, .f32⟩ : BufTy).Contents (Elt Ideal))

/-- The normalised memory. -/
theorem v12_apply (b : Fin 2) (t : Fin 256) (j : Fin 1024) :
    val_main_v12 x0 x1 (ix3 b t j) = rms c1024 (fun j => x0 (ix3 b t j)) (fun j => x1 (ix1 j)) j := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The product. -/
theorem v13_apply (b : Fin 2) (t : Fin 256) (l : Fin 2048) :
    val_main_v13 x0 x1 x2 (ix3 b t l) = proj (fun j => x0 (ix3 b t j)) (fun j => x1 (ix1 j)) (fun i l => x2 (ix2 i l)) l := by
  have h := v12_apply x0 x1 b t
  unfold val_main_v13
  generalize val_main_v12 x0 x1 = y at h ⊢
  pointwise [h]
  rfl

/-- The heads of the keys before the normalisation. -/
theorem v16_apply (b : Fin 2) (t : Fin 256) (a : Fin 4) (d : Fin 256) :
    val_main_v16 x0 x1 x2 (ix4 b t a d) = val_main_v13 x0 x1 x2 (ix3 b t ⟨256 * a.val + d.val, by omega⟩) := by
  unfold val_main_v16 val_main_v14
  generalize val_main_v13 x0 x1 x2 = y
  pointwise
  refine congrArg y ?_
  funext k
  fin_cases k <;> apply Fin.ext <;> simp <;> omega

/-- The heads of the keys. -/
theorem v29_apply (b : Fin 2) (t : Fin 256) (a : Fin 4) (d : Fin 256) :
    val_main_v29 x0 x1 x2 x3 (ix4 b t a d)
      = rms c256 (fun e => val_main_v13 x0 x1 x2 (ix3 b t ⟨256 * a.val + e.val, by omega⟩)) (fun e => x3 (ix1 e)) d := by
  have h := v16_apply x0 x1 x2 b t a
  unfold val_main_v29 val_main_v28 val_main_v27 val_main_v26 val_main_v25 val_main_v24 val_main_v23 val_main_v22 val_main_v21 val_main_v20 val_main_v19 val_main_v18 val_main_v17
  generalize val_main_v16 x0 x1 x2 = y at h ⊢
  pointwise [h, val_main_cst_2, val_main_cst_3, val_main_cst_4]
  rfl

/-- The keys. -/
theorem v31_apply (b : Fin 2) (t : Fin 256) (j : Fin 1024) :
    val_main_v31 x0 x1 x2 x3 (ix3 b t j)
      = keyRow (proj (fun j => x0 (ix3 b t j)) (fun j => x1 (ix1 j)) (fun i l => x2 (ix2 i l))) (fun e => x3 (ix1 e)) j := by
  have hq : (fun l => val_main_v13 x0 x1 x2 (ix3 b t l)) = proj (fun j => x0 (ix3 b t j)) (fun j => x1 (ix1 j)) (fun i l => x2 (ix2 i l)) :=
    funext fun l => v13_apply x0 x1 x2 b t l
  rw [← hq]
  refine Eq.trans ?_ (v29_apply x0 x1 x2 x3 b t ⟨j.val / 256, by omega⟩ ⟨j.val % 256, by omega⟩)
  unfold val_main_v31 val_main_v30
  generalize val_main_v29 x0 x1 x2 x3 = y
  pointwise

/-- The values. -/
theorem v32_apply (b : Fin 2) (t : Fin 256) (j : Fin 1024) :
    val_main_v32 x0 x1 x2 (ix3 b t j)
      = proj (fun j => x0 (ix3 b t j)) (fun j => x1 (ix1 j)) (fun i l => x2 (ix2 i l)) ⟨1024 + j.val, by omega⟩ := by
  refine Eq.trans ?_ (v13_apply x0 x1 x2 b t ⟨1024 + j.val, by omega⟩)
  unfold val_main_v32 val_main_v15
  generalize val_main_v13 x0 x1 x2 = y
  pointwise

end Cert.MemKvRefIdeal.Rows

end
-- ==== Proof.MemKvEq.lean ====
/-
  THE MEMORY KEYS AND VALUES CALL, THE CLAIM: the kernel's keys and values are the reference's.
-/
module

public import proofs.«01_k».proof.Defs
public import proofs.«01_k».proof.Proof.MemKvFinal
public import proofs.«01_k».proof.Proof.MemKvRef
public import proofs.«01_k».proof.Proof.Gen.MemKv.Frame
public import Idealize.ShloMosaic.Lib.Quiescent

@[expose] public section

set_option maxRecDepth 16384

noncomputable section

open Idealize.ShloMosaic Idealize.ShloMosaic.TcCoe Idealize.SL.Sem

namespace Cert.MemKvEq

/-- Run and frame of the kernel as printed. -/
theorem frame_kernel : quiescent_MemKv := fun m ρ _ => Cert.MemKv.Gen.frame m ρ

/-- Run and frame of the kernel over the reals. -/
theorem frame_ideal : quiescent_MemKvIdeal := fun m ρ _ => Cert.MemKvIdeal.Gen.frame m ρ

open Cert.MemKvRefIdeal Cert.MemKvRefIdeal.Gen in
/-- Run and frame of the reference. -/
theorem frame_ref : quiescent_MemKvRefIdeal := fun m ρ _ =>
  (θ_run defs _ _).mono (fun r h => ⟨fun c => (h c).2.2, sem_eq_zero_of_no_sems (by decide) r.2⟩) (Cert.MemKvRefIdeal.Value.run (F := Ideal) m ρ)

variable (m : (ℓ : Loc MemKvIdeal.nD MemKvIdeal.τ MemKvIdeal.sig) → Buf (Elt Ideal) ℓ) (c : Dev MemKvIdeal.nD)

/-- The reference's keys are the kernel's. -/
theorem keys : Cert.MemKvRefIdeal.Read.val_main_v31 (m ((c.tc : Thread MemKvIdeal.nD MemKvIdeal.τ).loc MemKvIdeal.main_arg0)) (m ((c.tc : Thread MemKvIdeal.nD MemKvIdeal.τ).loc MemKvIdeal.main_arg1)) (m ((c.tc : Thread MemKvIdeal.nD MemKvIdeal.τ).loc MemKvIdeal.main_arg2)) (m ((c.tc : Thread MemKvIdeal.nD MemKvIdeal.τ).loc MemKvIdeal.main_arg3)) = Cert.MemKvIdeal.Block.G4 m c := by
  funext i
  obtain ⟨b, n, j, rfl⟩ : ∃ (b : Fin 2) (n : Fin 256) (j : Fin 1024), i = ix3 b n j := ⟨i 0, i 1, i 2, by funext k; fin_cases k <;> rfl⟩
  exact Cert.MemKvRefIdeal.Rows.v31_apply _ _ _ _ b n j

/-- The reference's values are the kernel's. -/
theorem values : Cert.MemKvRefIdeal.Read.val_main_v32 (m ((c.tc : Thread MemKvIdeal.nD MemKvIdeal.τ).loc MemKvIdeal.main_arg0)) (m ((c.tc : Thread MemKvIdeal.nD MemKvIdeal.τ).loc MemKvIdeal.main_arg1)) (m ((c.tc : Thread MemKvIdeal.nD MemKvIdeal.τ).loc MemKvIdeal.main_arg2)) = Cert.MemKvIdeal.Block.G5 m c := by
  funext i
  obtain ⟨b, n, j, rfl⟩ : ∃ (b : Fin 2) (n : Fin 256) (j : Fin 1024), i = ix3 b n j := ⟨i 0, i 1, i 2, by funext k; fin_cases k <;> rfl⟩
  exact Cert.MemKvRefIdeal.Rows.v32_apply _ _ _ b n j

open Cert.MemKvRefIdeal in
/-- The kernel's results are the reference's. -/
theorem algebraic : algebraic_MemKvIdeal_MemKvRefIdeal := fun m ρ m' ρ' _ hag =>
  ⟨fun c => Cert.MemKvIdeal.Block.G4 m c, fun c => Cert.MemKvIdeal.Block.G5 m c, Cert.MemKvIdeal.Block.run m ρ,
    (θ_run defs _ _).mono (fun _ h c => by
      obtain ⟨a0, a1, a2, a3⟩ := hag c
      obtain ⟨h0, h1, hk⟩ := h c
      refine ⟨h0.trans (?_ : _ = _), h1.trans (?_ : _ = _), hk⟩
      · refine (Cert.MemKvRefIdeal.Read.val_main_v31_eq _ _ _ _).trans ?_; rw [a0, a1, a2, a3]; exact keys m c
      · refine (Cert.MemKvRefIdeal.Read.val_main_v32_eq _ _ _).trans ?_; rw [a0, a1, a2]; exact values m c) (Cert.MemKvRefIdeal.Value.run (F := Ideal) m' ρ')⟩

end Cert.MemKvEq

end
-- ==== Proof.ConvsMath.lean ====
/-
  THE CONVOLUTIONS CALL, ITS MATHEMATICS: the two gated convolutions of one row, over the rows before it, and a
  sequence with zeros in front.
-/
module

public import proofs.«01_k».proof.Proof.ExpertsMath

@[expose] public section

noncomputable section

open Idealize.ShloMosaic
open scoped BigOperators

namespace Cert.LayerMath

/-- The row length 384, as printed. -/
abbrev c384 : EReal := Ideal.ofBits .f32 0x43C00000#32
/-- The constant added under the root of the layer normalisation: 1e-5 as the program prints it. -/
abbrev eps5 : EReal := Ideal.ofBits .f32 0x3727C5AC#32

/-- The gate: the logistic function. -/
def gate (x : EReal) : EReal := Ideal.div 1 (1 + Ideal.exp (-x))

/-- The mean of a row of 384. -/
def mean (a : Fin 384 → EReal) : EReal := Ideal.div (∑ e, a e) c384

/-- Layer normalisation of a row `a` with gain `g` and offset `b`. -/
def layerNorm (a g b : Fin 384 → EReal) (d : Fin 384) : EReal :=
  (a d - mean a) * Ideal.rsqrt (mean (fun e => (a e - mean a) * (a e - mean a)) + eps5) * g d + b d

/-- The sum of the taps of one column: weight times row, oldest row first. -/
def taps {n : Nat} (w q : Fin n → EReal) : EReal := ∑ k, w k * q k

/-- One entry of the long convolution: the 31 rows `q` times the taps `w`, the offset, layer normalisation, the
    activation. -/
def longRow (w : Fin 31 → Fin 384 → EReal) (b g o : Fin 384 → EReal) (q : Fin 31 → Fin 384 → EReal) (d : Fin 384) : EReal :=
  silu (layerNorm (fun e => b e + taps (fun k => w k e) (fun k => q k e)) g o d)

/-- A sequence of rows with `p` rows of zeros in front. -/
def padded (p : Nat) (f : Nat → EReal) (n : Nat) : EReal := if p ≤ n then f (n - p) else 0

/-- Zeros in front move the sequence. -/
theorem padded_add (p k : Nat) (f : Nat → EReal) (n : Nat) : padded (p + k) f (n + k) = padded p f n := by
  unfold padded
  by_cases h : p ≤ n
  · rw [if_pos h, if_pos (by omega)]; congr 1; omega
  · rw [if_neg h, if_neg (by omega)]

/-- Three products one after the other are the sum of the taps. -/
theorem taps_three (w q : Fin 3 → EReal) : w 0 * q 0 + w 1 * q 1 + w 2 * q 2 = taps w q := by
  unfold taps
  simp only [Fin.sum_univ_succ, Finset.univ_eq_empty, Finset.sum_empty, add_zero, add_assoc]
  rfl

/-- The 31 products in groups, the taps a multiple of eight apart together, are the sum of the taps. -/
theorem taps_groups (b : EReal) (t : Fin 31 → EReal) :
    b + (t 6 + t 14 + t 22 + t 30) + (t 7 + t 15 + t 23) + (t 0 + t 8 + t 16 + t 24) + (t 1 + t 9 + t 17 + t 25)
        + (t 2 + t 10 + t 18 + t 26) + (t 3 + t 11 + t 19 + t 27) + (t 4 + t 12 + t 20 + t 28) + (t 5 + t 13 + t 21 + t 29)
      = b + ∑ k, t k := by
  have e : ∑ k, t k = t 0 + t 1 + t 2 + t 3 + t 4 + t 5 + t 6 + t 7 + t 8 + t 9 + t 10 + t 11 + t 12 + t 13 + t 14 + t 15
      + t 16 + t 17 + t 18 + t 19 + t 20 + t 21 + t 22 + t 23 + t 24 + t 25 + t 26 + t 27 + t 28 + t 29 + t 30 := by
    simp only [Fin.sum_univ_castSucc, Finset.univ_eq_empty, Finset.sum_empty, zero_add]
    rfl
  rw [e]
  ac_rfl

/-- The 31 products one after the other are the sum of the taps. -/
theorem taps_line (t : Fin 31 → EReal) :
    t 0 + t 1 + t 2 + t 3 + t 4 + t 5 + t 6 + t 7 + t 8 + t 9 + t 10 + t 11 + t 12 + t 13 + t 14 + t 15
      + t 16 + t 17 + t 18 + t 19 + t 20 + t 21 + t 22 + t 23 + t 24 + t 25 + t 26 + t 27 + t 28 + t 29 + t 30 = ∑ k, t k := by
  simp only [Fin.sum_univ_castSucc, Finset.univ_eq_empty, Finset.sum_empty, zero_add]
  rfl

end Cert.LayerMath

end
-- ==== Proof.ConvsBlock.lean ====
/-
  THE CONVOLUTIONS CALL, ONE BLOCK: what one point stores, row by row, over the two buffers that hold the rows before
  the block and the block's own rows.
-/
module

public import proofs.«01_k».proof.Proof.Gen.ConvsIdeal.Value
public import proofs.«01_k».proof.Proof.ConvsMath
public import Idealize.ShloMosaic.Lib.Pipeline.ValueKit
public import Idealize.ShloMosaic.Lib.VecWindow
public import Idealize.ShloMosaic.Lib.WholeRead

@[expose] public section

set_option maxRecDepth 16384

noncomputable section

open Idealize.ShloMosaic Idealize.ShloMosaic.TcCoe Idealize.SL.Sem

namespace Cert.ConvsIdeal.Block

open Cert.ConvsIdeal Cert.ConvsIdeal.Gen Cert.LayerMath

/-- What a load of a box reads of an array. -/
def ldr {s : Shape} {e : EltTy} (G : s.Idx → Elt Ideal e) (B : LoadRect s) : B.shape.Idx → Elt Ideal e := fun x => G (B.idx x)

/-- Row `n` of the long buffer, zero beyond it. -/
def rowAt (G : Vec Ideal S544x384 .f32) (n : Nat) (e : Fin 384) : EReal := if h : n < 544 then G (ix2 ⟨n, h⟩ e) else (0 : EReal)

/-- The weights of tap `k`. -/
abbrev wld (x6 : Vec Ideal S31x384 .f32) (k : Nat) (hk : k + 1 ≤ 31) : Vec Ideal S1x384 .f32 :=
  ldr x6 (Rect.unit (s := S31x384) ![k, 0] S1x384.size (Fin.forall_fin_two.mpr ⟨hk, by show 0 + 384 ≤ 384; exact le_refl _⟩)).toLoadRect

/-- Tap `k` over 64 rows of the buffer. -/
def t64 (G : Vec Ideal S544x384 .f32) (x6 : Vec Ideal S31x384 .f32) (r0 k : Nat) (hk : k + 1 ≤ 31) (hr : r0 ≤ 448) : FVec Ideal S64x384 .f32 :=
  mulf (broadcastTo S64x384 (wld x6 k hk) broadcasts_S1x384_S64x384)
    (ldr G (Rect.unit (s := S544x384) ![r0 + k + 2, 0] S64x384.size
      (Fin.forall_fin_two.mpr ⟨by show r0 + k + 2 + 64 ≤ 544; omega, by show 0 + 384 ≤ 384; exact le_refl _⟩)).toLoadRect)

/-- Tap `k` over 72 rows of the buffer, `s` rows earlier. -/
def t72 (G : Vec Ideal S544x384 .f32) (x6 : Vec Ideal S31x384 .f32) (r0 k s : Nat) (hk : k + 1 ≤ 31) (hr : r0 ≤ 448) (hs : k + 2 ≤ s + 24) :
    FVec Ideal S72x384 .f32 :=
  mulf (broadcastTo S72x384 (wld x6 k hk) broadcasts_S1x384_S72x384)
    (ldr G (Rect.unit (s := S544x384) ![r0 + k + 2 - s, 0] S72x384.size
      (Fin.forall_fin_two.mpr ⟨by show r0 + k + 2 - s + 72 ≤ 544; omega, by show 0 + 384 ≤ 384; exact le_refl _⟩)).toLoadRect)

/-- An entry of a tap's weights. -/
theorem wld_apply (x6 : Vec Ideal S31x384 .f32) (k : Nat) (hk : k + 1 ≤ 31) (e : Fin 384) :
    wld x6 k hk (ix2 0 e) = x6 (ix2 ⟨k, by omega⟩ e) := by
  unfold wld ldr
  refine congrArg x6 (funext fun a => Fin.ext ?_)
  match a with
  | ⟨0, _⟩ => show k + 1 * 0 = k; omega
  | ⟨1, _⟩ => show 0 + 1 * e.val = e.val; omega

/-- Weights times 64 rows. -/
theorem mul64_apply (w : Vec Ideal S1x384 .f32) (v : Vec Ideal S64x384 .f32) (r : Fin 64) (e : Fin 384) :
    mulf (F := Ideal) (broadcastTo S64x384 w broadcasts_S1x384_S64x384 : FVec Ideal S64x384 .f32) v (ix2 r e) = w (ix2 0 e) * v (ix2 r e) := by
  pointwise

/-- Weights times 72 rows. -/
theorem mul72_apply (w : Vec Ideal S1x384 .f32) (v : Vec Ideal S72x384 .f32) (r : Fin 72) (e : Fin 384) :
    mulf (F := Ideal) (broadcastTo S72x384 w broadcasts_S1x384_S72x384 : FVec Ideal S72x384 .f32) v (ix2 r e) = w (ix2 0 e) * v (ix2 r e) := by
  pointwise

/-- A tap's product at a row. -/
theorem t64_apply (G : Vec Ideal S544x384 .f32) (x6 : Vec Ideal S31x384 .f32) (r0 k : Nat) (hk : k + 1 ≤ 31) (hr : r0 ≤ 448) (r : Fin 64) (e : Fin 384) :
    t64 G x6 r0 k hk hr (ix2 r e) = x6 (ix2 ⟨k, by omega⟩ e) * rowAt G (r0 + r.val + 2 + k) e := by
  unfold t64
  rw [mul64_apply, wld_apply]
  congr 1
  unfold rowAt ldr
  rw [dif_pos (by omega)]
  refine congrArg G (funext fun a => Fin.ext ?_)
  match a with
  | ⟨0, _⟩ => show r0 + k + 2 + 1 * r.val = r0 + r.val + 2 + k; omega
  | ⟨1, _⟩ => show 0 + 1 * e.val = e.val; omega

/-- The same of the earlier rows. -/
theorem t72_apply (G : Vec Ideal S544x384 .f32) (x6 : Vec Ideal S31x384 .f32) (r0 k s : Nat) (hk : k + 1 ≤ 31) (hr : r0 ≤ 448) (hs : k + 2 ≤ s + 24)
    (hs' : s ≤ k + 2) (r : Fin 64) (h) (e : Fin 384) :
    t72 G x6 r0 k s hk hr hs (ix2 ⟨s + r.val, h⟩ e) = x6 (ix2 ⟨k, by omega⟩ e) * rowAt G (r0 + r.val + 2 + k) e := by
  unfold t72
  rw [mul72_apply, wld_apply]
  congr 1
  unfold rowAt ldr
  rw [dif_pos (by omega)]
  refine congrArg G (funext fun a => Fin.ext ?_)
  match a with
  | ⟨0, _⟩ => show r0 + k + 2 - s + 1 * (s + r.val) = r0 + r.val + 2 + k; omega
  | ⟨1, _⟩ => show 0 + 1 * e.val = e.val; omega

/-- The convolution of 64 rows, before the normalisation: the taps in groups. -/
def acc (G : Vec Ideal S544x384 .f32) (x6 : Vec Ideal S31x384 .f32) (b : Vec Ideal S1x384 .f32) (r0 : Nat) (hr : r0 ≤ 448) : FVec Ideal S64x384 .f32 :=
  (addf (addf (addf (addf (addf (addf (addf (addf (broadcastTo S64x384 (shapeCast S1x384 b shapeCasts_S1x384_S1x384) broadcasts_S1x384_S64x384)
    (addf (addf (addf (t64 G x6 r0 6 (by decide) hr) (t64 G x6 r0 14 (by decide) hr)) (t64 G x6 r0 22 (by decide) hr)) (t64 G x6 r0 30 (by decide) hr)))
    (extractStridedSlice S64x384 ![1, 0] (addf (addf (t72 G x6 r0 7 1 (by decide) hr (by decide)) (t72 G x6 r0 15 1 (by decide) hr (by decide))) (t72 G x6 r0 23 1 (by decide) hr (by decide))) slices_S72x384_o1_0_S64x384))
    (extractStridedSlice S64x384 ![2, 0] (addf (addf (addf (t72 G x6 r0 0 2 (by decide) hr (by decide)) (t72 G x6 r0 8 2 (by decide) hr (by decide))) (t72 G x6 r0 16 2 (by decide) hr (by decide))) (t72 G x6 r0 24 2 (by decide) hr (by decide))) slices_S72x384_o2_0_S64x384))
    (extractStridedSlice S64x384 ![3, 0] (addf (addf (addf (t72 G x6 r0 1 3 (by decide) hr (by decide)) (t72 G x6 r0 9 3 (by decide) hr (by decide))) (t72 G x6 r0 17 3 (by decide) hr (by decide))) (t72 G x6 r0 25 3 (by decide) hr (by decide))) slices_S72x384_o3_0_S64x384))
    (extractStridedSlice S64x384 ![4, 0] (addf (addf (addf (t72 G x6 r0 2 4 (by decide) hr (by decide)) (t72 G x6 r0 10 4 (by decide) hr (by decide))) (t72 G x6 r0 18 4 (by decide) hr (by decide))) (t72 G x6 r0 26 4 (by decide) hr (by decide))) slices_S72x384_o4_0_S64x384))
    (extractStridedSlice S64x384 ![5, 0] (addf (addf (addf (t72 G x6 r0 3 5 (by decide) hr (by decide)) (t72 G x6 r0 11 5 (by decide) hr (by decide))) (t72 G x6 r0 19 5 (by decide) hr (by decide))) (t72 G x6 r0 27 5 (by decide) hr (by decide))) slices_S72x384_o5_0_S64x384))
    (extractStridedSlice S64x384 ![6, 0] (addf (addf (addf (t72 G x6 r0 4 6 (by decide) hr (by decide)) (t72 G x6 r0 12 6 (by decide) hr (by decide))) (t72 G x6 r0 20 6 (by decide) hr (by decide))) (t72 G x6 r0 28 6 (by decide) hr (by decide))) slices_S72x384_o6_0_S64x384))
    (extractStridedSlice S64x384 ![7, 0] (addf (addf (addf (t72 G x6 r0 5 7 (by decide) hr (by decide)) (t72 G x6 r0 13 7 (by decide) hr (by decide))) (t72 G x6 r0 21 7 (by decide) hr (by decide))) (t72 G x6 r0 29 7 (by decide) hr (by decide))) slices_S72x384_o7_0_S64x384))

/-- The convolution of one row. -/
theorem acc_apply (G : Vec Ideal S544x384 .f32) (x6 : Vec Ideal S31x384 .f32) (b : Vec Ideal S1x384 .f32) (r0 : Nat) (hr : r0 ≤ 448) (r : Fin 64) (e : Fin 384) :
    acc G x6 b r0 hr (ix2 r e) = b (ix2 0 e) + taps (fun k => x6 (ix2 k e)) (fun k : Fin 31 => rowAt G (r0 + r.val + 2 + k.val) e) := by
  unfold taps
  rw [← taps_groups]
  unfold acc
  pointwise
  simp only [t64_apply, t72_apply, Nat.reduceAdd, Nat.reduceLeDiff]
  rfl

/-- The normalisation and the activation of 64 rows. -/
def fin64 (a : FVec Ideal S64x384 .f32) (g o : Vec Ideal S1x384 .f32) : FVec Ideal S64x384 .f32 :=
  have g' : FVec Ideal S1x384 .f32 := shapeCast S1x384 g shapeCasts_S1x384_S1x384
  have o' : FVec Ideal S1x384 .f32 := shapeCast S1x384 o shapeCasts_S1x384_S1x384
  have m : FVec Ideal S64x1 .f32 := divf (shapeCast S64x1 (multiReduction .add [1] S64 a 0x00000000#32 reduces_S64x384_S64 (.inl rfl) rfl) shapeCasts_S64_S64x1)
    (broadcast S64x1 (Scalar.ofBits .f32 0x43C00000#32))
  have x : FVec Ideal S64x384 .f32 := subf a (broadcastTo S64x384 m broadcasts_S64x1_S64x384)
  have v : FVec Ideal S64x1 .f32 := divf (shapeCast S64x1 (multiReduction .add [1] S64 (mulf x x) 0x00000000#32 reduces_S64x384_S64 (.inl rfl) rfl) shapeCasts_S64_S64x1)
    (broadcast S64x1 (Scalar.ofBits .f32 0x43C00000#32))
  have s : FVec Ideal S64x1 .f32 := rsqrt (addf v (broadcast S64x1 (Scalar.ofBits .f32 0x3727C5AC#32)))
  have y : FVec Ideal S64x384 .f32 := addf (mulf (mulf x (broadcastTo S64x384 s broadcasts_S64x1_S64x384)) (broadcastTo S64x384 g' broadcasts_S1x384_S64x384))
    (broadcastTo S64x384 o' broadcasts_S1x384_S64x384)
  mulf y (divf (broadcast S64x384 (Scalar.ofBits .f32 0x3F800000#32))
    (addf (broadcast S64x384 (Scalar.ofBits .f32 0x3F800000#32)) (exp (subf (broadcast S64x384 (Scalar.ofBits .f32 0x00000000#32)) y))))

/-- The normalisation and the activation of one row. -/
theorem fin64_apply (a : FVec Ideal S64x384 .f32) (g o : Vec Ideal S1x384 .f32) (r : Fin 64) (d : Fin 384) :
    fin64 a g o (ix2 r d) = silu (layerNorm (fun e => a (ix2 r e)) (fun e => g (ix2 0 e)) (fun e => o (ix2 0 e)) d) := by
  unfold silu layerNorm mean
  simp only [← zero_sub_eq]
  pointwise [fin64]

/-- The long convolution of 64 rows. -/
def chunk (G : Vec Ideal S544x384 .f32) (x6 : Vec Ideal S31x384 .f32) (b g o : Vec Ideal S1x384 .f32) (r0 : Nat) (hr : r0 ≤ 448) : FVec Ideal S64x384 .f32 :=
  fin64 (acc G x6 b r0 hr) g o

/-- The long convolution of one row. -/
theorem chunk_apply (G : Vec Ideal S544x384 .f32) (x6 : Vec Ideal S31x384 .f32) (b g o : Vec Ideal S1x384 .f32) (r0 : Nat) (hr : r0 ≤ 448) (r : Fin 64) (d : Fin 384) :
    chunk G x6 b g o r0 hr (ix2 r d) = longRow (fun k e => x6 (ix2 k e)) (fun e => b (ix2 0 e)) (fun e => g (ix2 0 e)) (fun e => o (ix2 0 e))
      (fun k e => rowAt G (r0 + r.val + 2 + k.val) e) d := by
  unfold chunk longRow
  rw [fin64_apply]
  simp only [acc_apply]

end Cert.ConvsIdeal.Block

end
-- ==== Proof.ConvsLoads.lean ====
/-
  THE CONVOLUTIONS CALL, ITS BUFFERS: what a load reads of the two buffers in which the block's rows stand behind the last
  rows of the block before.
-/
module

public import proofs.«01_k».proof.Proof.ConvsBlock
public import Idealize.ShloMosaic.Lib.WritesUnit

@[expose] public section

set_option maxRecDepth 16384

noncomputable section

open Idealize.ShloMosaic Idealize.ShloMosaic.TcCoe Idealize.SL.Sem

namespace Cert.ConvsIdeal.Block

open Cert.ConvsIdeal Cert.ConvsIdeal.Gen Cert.LayerMath

/-- A load of a memref held at contents that read `X` reads `X` at the box. -/
theorem ld_unread {s : Shape} {e : EltTy} {m : Memref sig .tc .vmem s e} (h : m.IsWhole) (X : Vec Ideal s e) (B : LoadRect s) :
    View.readAt (Elt Ideal) m.view B (h.unread X) = ldr X B := funext fun x => h.readAt_unread X B x

/-- A load of a whole array of rows of 384 is the array. -/
theorem ldr_whole {n : Nat} {φ : EltTy} (X : Vec Ideal ⟨2, ![n, 384]⟩ φ) (inb) :
    ldr X (Rect.unit (s := ⟨2, ![n, 384]⟩) ![0, 0] ![n, 384] inb).toLoadRect = X := by
  unfold ldr
  refine funext fun x => congrArg X (funext fun a => Fin.ext ?_)
  match a with
  | ⟨0, _⟩ => show 0 + 1 * (x 0).val = (x 0).val; omega
  | ⟨1, _⟩ => show 0 + 1 * (x 1).val = (x 1).val; omega

/-- The zeros stored first. -/
theorem k0_pay2_zero (x : S8x384.Idx) : (k0_pay2 (F := Ideal)) x = (0 : EReal) := by
  obtain ⟨r, d, rfl⟩ : ∃ (r : Fin 8) (d : Fin 384), x = ix2 r d := ⟨x 0, x 1, by blk_ext⟩
  pointwise [k0_pay2]

/-- The zeros stored first. -/
theorem k0_pay3_zero (x : S32x384.Idx) : (k0_pay3 (F := Ideal)) x = (0 : EReal) := by
  obtain ⟨r, d, rfl⟩ : ∃ (r : Fin 32) (d : Fin 384), x = ix2 r d := ⟨x 0, x 1, by blk_ext⟩
  pointwise [k0_pay3]

/-- The long buffer: 32 rows of `X`, then the block's rows `T`. -/
def buf (X : Vec Ideal S544x384 .f32) (T : Vec Ideal S512x384 .f32) : Vec Ideal S544x384 .f32 := fun y =>
  if h : 32 ≤ (y 0).val then T (ix2 ⟨(y 0).val - 32, by have := (y 0).isLt; have e : S544x384.size 0 = 544 := rfl; omega⟩ (y 1)) else X y

/-- Beyond the first 32 rows the long buffer holds the block. -/
theorem buf_ge (X X' : Vec Ideal S544x384 .f32) (T : Vec Ideal S512x384 .f32) (y : S544x384.Idx) (h : 32 ≤ (y 0).val) : buf X T y = buf X' T y := by
  unfold buf
  rw [dif_pos h, dif_pos h]

/-- Storing the block makes the long buffer of what the array read before. -/
theorem buf_store {sp : Space} {κ : Kind} (v : View sig κ sp S544x384 .f32) (f : v.ty.Contents (Elt Ideal)) (L : List (View.Piece (Elt Ideal) S544x384 .f32)) (inb) (T : Vec Ideal S512x384 .f32) (y : S544x384.Idx) :
    v.read (Elt Ideal) (v.writes (Elt Ideal) f (⟨Rect.unit (s := S544x384) ![32, 0] S512x384.size inb, T⟩ :: L)) y = buf (v.read (Elt Ideal) (v.writes (Elt Ideal) f L)) T y := by
  have hy : (y 0).val < 544 := (y 0).isLt
  unfold buf
  by_cases h : 32 ≤ (y 0).val
  · rw [dif_pos h]
    refine View.read_writes_cons_rows_of_mem (o := 32) v f inb T L y _ rfl ?_ ?_
    · show (y 0).val = 32 + ((y 0).val - 32); omega
    · rfl
  · rw [dif_neg h]
    exact View.read_writes_cons_rows_of_not_mem (o := 32) (W := 512) v f inb T L y rfl rfl (Or.inl (by omega))

/-- A load after the block is stored reads the long buffer. -/
theorem buf_load {m : Memref sig .tc .vmem S544x384 .f32} (hm : m.IsWhole) (X : Vec Ideal S544x384 .f32) (inb) (T : Vec Ideal S512x384 .f32) (B : LoadRect S544x384) :
    View.readAt (Elt Ideal) m.view B (m.view.writes (Elt Ideal) (hm.unread X) [⟨Rect.unit (s := S544x384) ![32, 0] S512x384.size inb, T⟩]) = ldr (buf X T) B := by
  refine funext fun x => (buf_store m.view (hm.unread X) [] inb T (B.idx x)).trans ?_
  show buf (m.view.read (Elt Ideal) (hm.unread X)) T (B.idx x) = ldr (buf X T) B x
  rw [hm.read_unread]
  rfl

/-- A load of rows of the block reads the long buffer, whatever stands in its first rows. -/
theorem buf_cov (X : Vec Ideal S544x384 .f32) {sp : Space} {κ : Kind} (v : View sig κ sp S544x384 .f32) (inb) (T : Vec Ideal S512x384 .f32) (a : Nat) (sz : Fin 2 → Nat) (inb') (ha : 32 ≤ a) :
    v.readCov (Val := Elt Ideal) [⟨Rect.unit (s := S544x384) ![32, 0] S512x384.size inb, T⟩] (Rect.unit (s := S544x384) ![a, 0] sz inb').toLoadRect
      = ldr (buf X T) (Rect.unit (s := S544x384) ![a, 0] sz inb').toLoadRect := by
  refine funext fun x => (buf_store v v.junk [] inb T _).trans ?_
  refine buf_ge _ X T _ ?_
  show 32 ≤ a + 1 * (x 0).val
  omega

/-- The zeros read back. -/
theorem buf_zeros {sp : Space} {κ : Kind} (v : View sig κ sp S544x384 .f32) (inb0) (y : S544x384.Idx) (h : (y 0).val < 32) :
    v.read (Elt Ideal) (v.writes (Elt Ideal) v.junk [⟨Rect.unit (s := S544x384) ![0, 0] S32x384.size inb0, k0_pay3 (F := Ideal)⟩]) y = (0 : EReal) := by
  have e := View.read_writes_cons_rows_of_mem (Val := Elt Ideal) (o := 0) v v.junk inb0 (k0_pay3 (F := Ideal)) [] y (ix2 (⟨(y 0).val, h⟩ : Fin 32) (y 1)) rfl
    (by show (y 0).val = 0 + (y 0).val; omega) rfl
  rw [e]
  exact k0_pay3_zero _

/-- A load after zeros and the block are stored reads the long buffer of zeros. -/
theorem buf_zero {sp : Space} {κ : Kind} (v : View sig κ sp S544x384 .f32) (inb) (T : Vec Ideal S512x384 .f32) (inb0) (B : LoadRect S544x384) :
    v.readCov (Val := Elt Ideal) [⟨Rect.unit (s := S544x384) ![32, 0] S512x384.size inb, T⟩, ⟨Rect.unit (s := S544x384) ![0, 0] S32x384.size inb0, k0_pay3 (F := Ideal)⟩] B
      = ldr (buf (fun _ => (0 : EReal)) T) B := by
  refine funext fun x => (buf_store v v.junk _ inb T _).trans ?_
  unfold ldr
  generalize B.idx x = y
  unfold buf
  by_cases h : 32 ≤ (y 0).val
  · rw [dif_pos h, dif_pos h]
  · rw [dif_neg h, dif_neg h]
    exact buf_zeros v inb0 y (by omega)

/-- What the long buffer holds at the end of a point, in its first rows: the block's last 32 rows. -/
theorem buf_end (X : Vec Ideal S544x384 .f32) {sp : Space} {κ : Kind} (v : View sig κ sp S544x384 .f32) (L : List (View.Piece (Elt Ideal) S544x384 .f32)) (inb) (T : Vec Ideal S512x384 .f32)
    (inb') (k : Fin 32) (d : Fin 384) :
    v.read (Elt Ideal) (v.writes (Elt Ideal) v.junk (⟨Rect.unit (s := S544x384) ![0, 0] S32x384.size inb, ldr (buf X T) (Rect.unit (s := S544x384) ![512, 0] S32x384.size inb').toLoadRect⟩ :: L)) (ix2 ⟨k.val, by omega⟩ d)
      = T (ix2 ⟨512 - 32 + k.val, by omega⟩ d) := by
  refine (View.read_writes_cons_rows_of_mem (o := 0) v v.junk inb _ L _ (ix2 k d) rfl ?_ rfl).trans ?_
  · show k.val = 0 + k.val; omega
  · unfold ldr buf
    have h : 32 ≤ (((Rect.unit (s := S544x384) ![512, 0] S32x384.size inb').toLoadRect.idx (ix2 k d)) 0).val := by
      show 32 ≤ 512 + 1 * k.val; omega
    rw [dif_pos h]
    refine congrArg T (funext fun a => Fin.ext ?_)
    match a with
    | ⟨0, _⟩ => show 512 + 1 * k.val - 32 = 512 - 32 + k.val; omega
    | ⟨1, _⟩ => show 0 + 1 * d.val = d.val; omega

/-- The short buffer: 8 rows of `X`, then the block's rows `T`. -/
def sbuf (X : Vec Ideal S520x384 .f32) (T : Vec Ideal S512x384 .f32) : Vec Ideal S520x384 .f32 := fun y =>
  if h : 8 ≤ (y 0).val then T (ix2 ⟨(y 0).val - 8, by have := (y 0).isLt; have e : S520x384.size 0 = 520 := rfl; omega⟩ (y 1)) else X y

/-- Beyond the first 8 rows the short buffer holds the block. -/
theorem sbuf_ge (X X' : Vec Ideal S520x384 .f32) (T : Vec Ideal S512x384 .f32) (y : S520x384.Idx) (h : 8 ≤ (y 0).val) : sbuf X T y = sbuf X' T y := by
  unfold sbuf
  rw [dif_pos h, dif_pos h]

/-- Storing the block makes the short buffer of what the array read before. -/
theorem sbuf_store {sp : Space} {κ : Kind} (v : View sig κ sp S520x384 .f32) (f : v.ty.Contents (Elt Ideal)) (L : List (View.Piece (Elt Ideal) S520x384 .f32)) (inb) (T : Vec Ideal S512x384 .f32) (y : S520x384.Idx) :
    v.read (Elt Ideal) (v.writes (Elt Ideal) f (⟨Rect.unit (s := S520x384) ![8, 0] S512x384.size inb, T⟩ :: L)) y = sbuf (v.read (Elt Ideal) (v.writes (Elt Ideal) f L)) T y := by
  have hy : (y 0).val < 520 := (y 0).isLt
  unfold sbuf
  by_cases h : 8 ≤ (y 0).val
  · rw [dif_pos h]
    refine View.read_writes_cons_rows_of_mem (o := 8) v f inb T L y _ rfl ?_ ?_
    · show (y 0).val = 8 + ((y 0).val - 8); omega
    · rfl
  · rw [dif_neg h]
    exact View.read_writes_cons_rows_of_not_mem (o := 8) (W := 512) v f inb T L y rfl rfl (Or.inl (by omega))

/-- A load after the block is stored reads the short buffer. -/
theorem sbuf_load {m : Memref sig .tc .vmem S520x384 .f32} (hm : m.IsWhole) (X : Vec Ideal S520x384 .f32) (inb) (T : Vec Ideal S512x384 .f32) (B : LoadRect S520x384) :
    View.readAt (Elt Ideal) m.view B (m.view.writes (Elt Ideal) (hm.unread X) [⟨Rect.unit (s := S520x384) ![8, 0] S512x384.size inb, T⟩]) = ldr (sbuf X T) B := by
  refine funext fun x => (sbuf_store m.view (hm.unread X) [] inb T (B.idx x)).trans ?_
  show sbuf (m.view.read (Elt Ideal) (hm.unread X)) T (B.idx x) = ldr (sbuf X T) B x
  rw [hm.read_unread]
  rfl

/-- A load of rows of the block reads the short buffer, whatever stands in its first rows. -/
theorem sbuf_cov (X : Vec Ideal S520x384 .f32) {sp : Space} {κ : Kind} (v : View sig κ sp S520x384 .f32) (inb) (T : Vec Ideal S512x384 .f32) (a : Nat) (sz : Fin 2 → Nat) (inb') (ha : 8 ≤ a) :
    v.readCov (Val := Elt Ideal) [⟨Rect.unit (s := S520x384) ![8, 0] S512x384.size inb, T⟩] (Rect.unit (s := S520x384) ![a, 0] sz inb').toLoadRect
      = ldr (sbuf X T) (Rect.unit (s := S520x384) ![a, 0] sz inb').toLoadRect := by
  refine funext fun x => (sbuf_store v v.junk [] inb T _).trans ?_
  refine sbuf_ge _ X T _ ?_
  show 8 ≤ a + 1 * (x 0).val
  omega

/-- The zeros read back. -/
theorem sbuf_zeros {sp : Space} {κ : Kind} (v : View sig κ sp S520x384 .f32) (inb0) (y : S520x384.Idx) (h : (y 0).val < 8) :
    v.read (Elt Ideal) (v.writes (Elt Ideal) v.junk [⟨Rect.unit (s := S520x384) ![0, 0] S8x384.size inb0, k0_pay2 (F := Ideal)⟩]) y = (0 : EReal) := by
  have e := View.read_writes_cons_rows_of_mem (Val := Elt Ideal) (o := 0) v v.junk inb0 (k0_pay2 (F := Ideal)) [] y (ix2 (⟨(y 0).val, h⟩ : Fin 8) (y 1)) rfl
    (by show (y 0).val = 0 + (y 0).val; omega) rfl
  rw [e]
  exact k0_pay2_zero _

/-- A load after zeros and the block are stored reads the short buffer of zeros. -/
theorem sbuf_zero {sp : Space} {κ : Kind} (v : View sig κ sp S520x384 .f32) (inb) (T : Vec Ideal S512x384 .f32) (inb0) (B : LoadRect S520x384) :
    v.readCov (Val := Elt Ideal) [⟨Rect.unit (s := S520x384) ![8, 0] S512x384.size inb, T⟩, ⟨Rect.unit (s := S520x384) ![0, 0] S8x384.size inb0, k0_pay2 (F := Ideal)⟩] B
      = ldr (sbuf (fun _ => (0 : EReal)) T) B := by
  refine funext fun x => (sbuf_store v v.junk _ inb T _).trans ?_
  unfold ldr
  generalize B.idx x = y
  unfold sbuf
  by_cases h : 8 ≤ (y 0).val
  · rw [dif_pos h, dif_pos h]
  · rw [dif_neg h, dif_neg h]
    exact sbuf_zeros v inb0 y (by omega)

/-- What the short buffer holds at the end of a point, in its first rows: the block's last 8 rows. -/
theorem sbuf_end (X : Vec Ideal S520x384 .f32) {sp : Space} {κ : Kind} (v : View sig κ sp S520x384 .f32) (L : List (View.Piece (Elt Ideal) S520x384 .f32)) (inb) (T : Vec Ideal S512x384 .f32)
    (inb') (k : Fin 8) (d : Fin 384) :
    v.read (Elt Ideal) (v.writes (Elt Ideal) v.junk (⟨Rect.unit (s := S520x384) ![0, 0] S8x384.size inb, ldr (sbuf X T) (Rect.unit (s := S520x384) ![512, 0] S8x384.size inb').toLoadRect⟩ :: L)) (ix2 ⟨k.val, by omega⟩ d)
      = T (ix2 ⟨512 - 8 + k.val, by omega⟩ d) := by
  refine (View.read_writes_cons_rows_of_mem (o := 0) v v.junk inb _ L _ (ix2 k d) rfl ?_ rfl).trans ?_
  · show k.val = 0 + k.val; omega
  · unfold ldr sbuf
    have h : 8 ≤ (((Rect.unit (s := S520x384) ![512, 0] S8x384.size inb').toLoadRect.idx (ix2 k d)) 0).val := by
      show 8 ≤ 512 + 1 * k.val; omega
    rw [dif_pos h]
    refine congrArg T (funext fun a => Fin.ext ?_)
    match a with
    | ⟨0, _⟩ => show 512 + 1 * k.val - 8 = 512 - 8 + k.val; omega
    | ⟨1, _⟩ => show 0 + 1 * d.val = d.val; omega

/-- Row `n` of the short buffer, zero beyond it. -/
def srowAt (G : Vec Ideal S520x384 .f32) (n : Nat) (e : Fin 384) : EReal := if h : n < 520 then G (ix2 ⟨n, h⟩ e) else (0 : EReal)

/-- The gated rows of the long convolution. -/
theorem pay5_apply (a g : Vec Ideal S512x384 .f32) (r : Fin 512) (d : Fin 384) : k0_pay5 a g (ix2 r d) = a (ix2 r d) * gate (g (ix2 r d)) := by
  unfold gate
  simp only [← zero_sub_eq]
  pointwise [k0_pay5]

/-- The gated rows of the short convolution. -/
theorem pay4_apply (a g : Vec Ideal S512x384 .f32) (r : Fin 512) (d : Fin 384) : k0_pay4 a g (ix2 r d) = a (ix2 r d) * g (ix2 r d) := by
  pointwise [k0_pay4]

/-- The copy back changes nothing. -/
theorem pay1_eq (v : Vec Ideal S32x384 .f32) : k0_pay1 v = v := by
  refine funext fun x => ?_
  obtain ⟨r, d, rfl⟩ : ∃ (r : Fin 32) (d : Fin 384), x = ix2 r d := ⟨x 0, x 1, by blk_ext⟩
  pointwise [k0_pay1]

/-- The copy back changes nothing. -/
theorem pay102_eq (v : Vec Ideal S8x384 .f32) : k0_pay102 v = v := by
  refine funext fun x => ?_
  obtain ⟨r, d, rfl⟩ : ∃ (r : Fin 8) (d : Fin 384), x = ix2 r d := ⟨x 0, x 1, by blk_ext⟩
  pointwise [k0_pay102]

/-- A row of the short convolution. -/
theorem pay8_apply (w0 w1 w2 : Vec Ideal S1x384 .f32) (u6 u7 u8 v : Vec Ideal S512x384 .f32) (r : Fin 512) (d : Fin 384) :
    k0_pay8 (k0_pay6 w0 u6) (k0_pay7 w1 u7) w2 u8 v (ix2 r d)
      = v (ix2 r d) * (w0 (ix2 0 d) * u6 (ix2 r d) + w1 (ix2 0 d) * u7 (ix2 r d) + w2 (ix2 0 d) * u8 (ix2 r d)) := by
  pointwise [k0_pay6, k0_pay7, k0_pay8]

/-- Tap `k` of the short convolution. -/
theorem sw_apply (x : Vec Ideal S3x384 .f32) (k : Fin 3) (inb) (d : Fin 384) :
    ldr x (Rect.unit (s := S3x384) ![k.val, 0] S1x384.size inb).toLoadRect (ix2 0 d) = x (ix2 k d) := by
  unfold ldr
  refine congrArg x (funext fun a => Fin.ext ?_)
  match a with
  | ⟨0, _⟩ => show k.val + 1 * 0 = k.val; omega
  | ⟨1, _⟩ => show 0 + 1 * d.val = d.val; omega

/-- The rows tap `k` of the short convolution reads. -/
theorem su_apply (G : Vec Ideal S520x384 .f32) (k : Nat) (hk : k ≤ 8) (inb) (r : Fin 512) (d : Fin 384) :
    ldr G (Rect.unit (s := S520x384) ![k, 0] S512x384.size inb).toLoadRect (ix2 r d) = srowAt G (r.val + k) d := by
  unfold ldr srowAt
  rw [dif_pos (by omega)]
  refine congrArg G (funext fun a => Fin.ext ?_)
  match a with
  | ⟨0, _⟩ => show k + 1 * r.val = r.val + k; omega
  | ⟨1, _⟩ => show 0 + 1 * d.val = d.val; omega

/-- Two zeros are the zero offset. -/
theorem hz2 : (![0, 0] : Fin 2 → Nat) = fun _ => 0 := funext fun a => by fin_cases a <;> rfl

/-- A row of the short convolution, over the short buffer. -/
theorem short_apply (G : Vec Ideal S520x384 .f32) (x5 : Vec Ideal S3x384 .f32) (v : Vec Ideal S512x384 .f32) (i0 i1 i2 j0 j1 j2) (r : Fin 512) (d : Fin 384) :
    k0_pay8 (k0_pay6 (ldr x5 (Rect.unit (s := S3x384) ![0, 0] S1x384.size i0).toLoadRect) (ldr G (Rect.unit (s := S520x384) ![6, 0] S512x384.size j0).toLoadRect))
        (k0_pay7 (ldr x5 (Rect.unit (s := S3x384) ![1, 0] S1x384.size i1).toLoadRect) (ldr G (Rect.unit (s := S520x384) ![7, 0] S512x384.size j1).toLoadRect))
        (ldr x5 (Rect.unit (s := S3x384) ![2, 0] S1x384.size i2).toLoadRect) (ldr G (Rect.unit (s := S520x384) ![8, 0] S512x384.size j2).toLoadRect) v (ix2 r d)
      = v (ix2 r d) * taps (fun k : Fin 3 => x5 (ix2 k d)) (fun k : Fin 3 => srowAt G (r.val + 6 + k.val) d) := by
  have a0 := sw_apply x5 0 i0 d
  have a1 := sw_apply x5 1 i1 d
  have a2 := sw_apply x5 2 i2 d
  have b0 := su_apply G 6 (by decide) j0 r d
  have b1 := su_apply G 7 (by decide) j1 r d
  have b2 := su_apply G 8 (by decide) j2 r d
  refine (pay8_apply _ _ _ _ _ _ _ r d).trans ?_
  rw [← taps_three]
  exact congrArg (v (ix2 r d) * ·) (congrArg₂ (· + ·) (congrArg₂ (· + ·) (congrArg₂ (· * ·) a0 b0) (congrArg₂ (· * ·) a1 b1)) (congrArg₂ (· * ·) a2 b2))

end Cert.ConvsIdeal.Block

end
-- ==== Proof.ConvsOutA.lean ====
/-
  THE CONVOLUTIONS CALL, ONE POINT: what the body leaves in its two results and its two buffers, at a point that starts a batch.
-/
module

public import proofs.«01_k».proof.Proof.ConvsLoads

@[expose] public section

set_option maxRecDepth 65536
set_option maxHeartbeats 4000000

noncomputable section

open Idealize.ShloMosaic Idealize.ShloMosaic.TcCoe Idealize.SL.Sem

namespace Cert.ConvsIdeal.Block

open Cert.ConvsIdeal Cert.ConvsIdeal.Gen Cert.LayerMath

/-- The rows of the long convolution. -/
theorem out11_A (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S3x384 .f32) (harg7 : arg7.IsWhole) (arg8 : Memref sig .tc .vmem S31x384 .f32) (harg8 : arg8.IsWhole) (arg9 : Memref sig .tc .vmem S1x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S512x384 .f32) (harg12 : arg12.IsWhole) (arg13 : Memref sig .tc .vmem S512x384 .f32) (harg13 : arg13.IsWhole) (arg14 : Memref sig .tc .vmem S520x384 .f32) (harg14 : arg14.IsWhole) (arg15 : Memref sig .tc .vmem S544x384 .f32) (harg15 : arg15.IsWhole) (hc0 : cond0_0 i)
    (x0 : Vec Ideal S512x384 .f32) (x1 : Vec Ideal S512x384 .f32) (x2 : Vec Ideal S512x384 .f32) (x3 : Vec Ideal S512x384 .f32) (x4 : Vec Ideal S512x384 .f32) (x5 : Vec Ideal S3x384 .f32) (x6 : Vec Ideal S31x384 .f32) (x7 : Vec Ideal S1x384 .f32) (x8 : Vec Ideal S1x384 .f32) (x9 : Vec Ideal S1x384 .f32)
    (r : Fin 512) (d : Fin 384) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix2 r d)
      = longRow (fun k e => x6 (ix2 k e)) (fun e => x7 (ix2 0 e)) (fun e => x8 (ix2 0 e)) (fun e => x9 (ix2 0 e))
        (fun k e => rowAt (buf (fun _ => (0 : EReal)) (k0_pay5 x3 x4)) (r.val + 2 + k.val) e) d := by
  unfold out0_A_11
  rw [View.read_writes_eq_canon _ _ _ (cover0_A_11 c _ _ _ _ _ _ _ _ _ _ _ _ _ _ _ _ _ _ _ _ _ _ _ _ _ _ _ _ _ _ _ _ _ _ _ _ _ _ _ _)]
  unfold kernelRun0_A
  dsimp only
  sl_unfold_words
  simp (disch := decide) only [ld_unread, buf_zero arg15.view, sbuf_zero arg14.view, ldr_whole]
  have hG : ∃ G, G = buf (fun _ => (0 : EReal)) (k0_pay5 x3 x4) := ⟨_, rfl⟩
  obtain ⟨G, hG⟩ := hG
  rw [← hG]
  canon_tiles y h
  · obtain ⟨q, rfl⟩ : ∃ q : Fin 64, y = ix2 q d := ⟨y 0, funext fun a => Fin.ext (by
      match a with
      | ⟨0, _⟩ => rfl
      | ⟨1, _⟩ => exact h1.symm)⟩
    have e : r.val = 448 + q.val := h0
    rw [e]
    exact chunk_apply G x6 x7 x8 x9 448 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 384 + q.val := h0
    rw [e]
    exact chunk_apply G x6 x7 x8 x9 384 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 320 + q.val := h0
    rw [e]
    exact chunk_apply G x6 x7 x8 x9 320 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 256 + q.val := h0
    rw [e]
    exact chunk_apply G x6 x7 x8 x9 256 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 192 + q.val := h0
    rw [e]
    exact chunk_apply G x6 x7 x8 x9 192 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 128 + q.val := h0
    rw [e]
    exact chunk_apply G x6 x7 x8 x9 128 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 64 + q.val := h0
    rw [e]
    exact chunk_apply G x6 x7 x8 x9 64 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 0 + q.val := h0.trans (Nat.zero_add _).symm
    rw [e]
    exact chunk_apply G x6 x7 x8 x9 0 (by decide) q d

/-- The rows of the short convolution. -/
theorem out10_A (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S3x384 .f32) (harg7 : arg7.IsWhole) (arg8 : Memref sig .tc .vmem S31x384 .f32) (harg8 : arg8.IsWhole) (arg9 : Memref sig .tc .vmem S1x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S512x384 .f32) (harg12 : arg12.IsWhole) (arg13 : Memref sig .tc .vmem S512x384 .f32) (harg13 : arg13.IsWhole) (arg14 : Memref sig .tc .vmem S520x384 .f32) (harg14 : arg14.IsWhole) (arg15 : Memref sig .tc .vmem S544x384 .f32) (harg15 : arg15.IsWhole) (hc0 : cond0_0 i)
    (x0 : Vec Ideal S512x384 .f32) (x1 : Vec Ideal S512x384 .f32) (x2 : Vec Ideal S512x384 .f32) (x3 : Vec Ideal S512x384 .f32) (x4 : Vec Ideal S512x384 .f32) (x5 : Vec Ideal S3x384 .f32) (x6 : Vec Ideal S31x384 .f32) (x7 : Vec Ideal S1x384 .f32) (x8 : Vec Ideal S1x384 .f32) (x9 : Vec Ideal S1x384 .f32)
    (r : Fin 512) (d : Fin 384) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix2 r d)
      = x0 (ix2 r d) * taps (fun k : Fin 3 => x5 (ix2 k d)) (fun k : Fin 3 => srowAt (sbuf (fun _ => (0 : EReal)) (k0_pay4 x1 x2)) (r.val + 6 + k.val) d) := by
  unfold out0_A_10
  rw [View.read_writes_eq_canon _ _ _ (cover0_A_10 c _ _ _ _ _ _ _ _ _ _ _ _ _ _ _ _ _ _ _ _ _ _ _ _ _ _ _ _ _ _ _ _ _ _ _ _ _ _ _ _)]
  unfold kernelRun0_A
  dsimp only
  sl_unfold_words
  simp (disch := decide) only [ld_unread, buf_zero arg15.view, sbuf_zero arg14.view, ldr_whole]
  rw [View.canon_unit_zero hz2]
  exact short_apply _ x5 x0 _ _ _ _ _ _ r d

/-- The first rows of the long buffer at the end of the point. -/
theorem end1_A (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S3x384 .f32) (harg7 : arg7.IsWhole) (arg8 : Memref sig .tc .vmem S31x384 .f32) (harg8 : arg8.IsWhole) (arg9 : Memref sig .tc .vmem S1x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S512x384 .f32) (harg12 : arg12.IsWhole) (arg13 : Memref sig .tc .vmem S512x384 .f32) (harg13 : arg13.IsWhole) (arg14 : Memref sig .tc .vmem S520x384 .f32) (harg14 : arg14.IsWhole) (arg15 : Memref sig .tc .vmem S544x384 .f32) (harg15 : arg15.IsWhole) (hc0 : cond0_0 i)
    (x0 : Vec Ideal S512x384 .f32) (x1 : Vec Ideal S512x384 .f32) (x2 : Vec Ideal S512x384 .f32) (x3 : Vec Ideal S512x384 .f32) (x4 : Vec Ideal S512x384 .f32) (x5 : Vec Ideal S3x384 .f32) (x6 : Vec Ideal S31x384 .f32) (x7 : Vec Ideal S1x384 .f32) (x8 : Vec Ideal S1x384 .f32) (x9 : Vec Ideal S1x384 .f32)
    (k : Fin 32) (d : Fin 384) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix2 ⟨k.val, by omega⟩ d) = k0_pay5 x3 x4 (ix2 ⟨480 + k.val, by omega⟩ d) := by
  unfold sout0_A_1
  unfold kernelRun0_A
  dsimp only
  sl_unfold_words
  simp (disch := decide) only [ld_unread, buf_zero arg15.view, sbuf_zero arg14.view, ldr_whole, pay1_eq]
  exact buf_end (fun _ => (0 : EReal)) _ _ _ (k0_pay5 x3 x4) _ k d

/-- The first rows of the short buffer at the end of the point. -/
theorem end0_A (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S3x384 .f32) (harg7 : arg7.IsWhole) (arg8 : Memref sig .tc .vmem S31x384 .f32) (harg8 : arg8.IsWhole) (arg9 : Memref sig .tc .vmem S1x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S512x384 .f32) (harg12 : arg12.IsWhole) (arg13 : Memref sig .tc .vmem S512x384 .f32) (harg13 : arg13.IsWhole) (arg14 : Memref sig .tc .vmem S520x384 .f32) (harg14 : arg14.IsWhole) (arg15 : Memref sig .tc .vmem S544x384 .f32) (harg15 : arg15.IsWhole) (hc0 : cond0_0 i)
    (x0 : Vec Ideal S512x384 .f32) (x1 : Vec Ideal S512x384 .f32) (x2 : Vec Ideal S512x384 .f32) (x3 : Vec Ideal S512x384 .f32) (x4 : Vec Ideal S512x384 .f32) (x5 : Vec Ideal S3x384 .f32) (x6 : Vec Ideal S31x384 .f32) (x7 : Vec Ideal S1x384 .f32) (x8 : Vec Ideal S1x384 .f32) (x9 : Vec Ideal S1x384 .f32)
    (k : Fin 8) (d : Fin 384) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix2 ⟨k.val, by omega⟩ d) = k0_pay4 x1 x2 (ix2 ⟨504 + k.val, by omega⟩ d) := by
  unfold sout0_A_0
  unfold kernelRun0_A
  dsimp only
  sl_unfold_words
  simp (disch := decide) only [ld_unread, buf_zero arg15.view, sbuf_zero arg14.view, ldr_whole, pay102_eq]
  exact sbuf_end (fun _ => (0 : EReal)) _ _ _ (k0_pay4 x1 x2) _ k d

end Cert.ConvsIdeal.Block

end
-- ==== Proof.ConvsOutB.lean ====
/-
  THE CONVOLUTIONS CALL, ONE POINT: what the body leaves in its two results and its two buffers, at a point that follows another.
-/
module

public import proofs.«01_k».proof.Proof.ConvsLoads

@[expose] public section

set_option maxRecDepth 65536
set_option maxHeartbeats 4000000

noncomputable section

open Idealize.ShloMosaic Idealize.ShloMosaic.TcCoe Idealize.SL.Sem

namespace Cert.ConvsIdeal.Block

open Cert.ConvsIdeal Cert.ConvsIdeal.Gen Cert.LayerMath

/-- The rows of the long convolution. -/
theorem out11_B (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S3x384 .f32) (harg7 : arg7.IsWhole) (arg8 : Memref sig .tc .vmem S31x384 .f32) (harg8 : arg8.IsWhole) (arg9 : Memref sig .tc .vmem S1x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S512x384 .f32) (harg12 : arg12.IsWhole) (arg13 : Memref sig .tc .vmem S512x384 .f32) (harg13 : arg13.IsWhole) (arg14 : Memref sig .tc .vmem S520x384 .f32) (harg14 : arg14.IsWhole) (arg15 : Memref sig .tc .vmem S544x384 .f32) (harg15 : arg15.IsWhole) (hc0 : ¬cond0_0 i)
    (x0 : Vec Ideal S512x384 .f32) (x1 : Vec Ideal S512x384 .f32) (x2 : Vec Ideal S512x384 .f32) (x3 : Vec Ideal S512x384 .f32) (x4 : Vec Ideal S512x384 .f32) (x5 : Vec Ideal S3x384 .f32) (x6 : Vec Ideal S31x384 .f32) (x7 : Vec Ideal S1x384 .f32) (x8 : Vec Ideal S1x384 .f32) (x9 : Vec Ideal S1x384 .f32) (xs0 : Vec Ideal S520x384 .f32) (xs1 : Vec Ideal S544x384 .f32)
    (r : Fin 512) (d : Fin 384) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 (ix2 r d)
      = longRow (fun k e => x6 (ix2 k e)) (fun e => x7 (ix2 0 e)) (fun e => x8 (ix2 0 e)) (fun e => x9 (ix2 0 e))
        (fun k e => rowAt (buf xs1 (k0_pay5 x3 x4)) (r.val + 2 + k.val) e) d := by
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _)]
  unfold kernelRun0_B
  dsimp only
  sl_unfold_words
  simp (disch := decide) only [ld_unread, buf_load harg15 xs1, buf_cov xs1, sbuf_load harg14 xs0, sbuf_cov xs0, ldr_whole, Nat.reduceLeDiff]
  have hG : ∃ G, G = buf xs1 (k0_pay5 x3 x4) := ⟨_, rfl⟩
  obtain ⟨G, hG⟩ := hG
  rw [← hG]
  canon_tiles y h
  · obtain ⟨q, rfl⟩ : ∃ q : Fin 64, y = ix2 q d := ⟨y 0, funext fun a => Fin.ext (by
      match a with
      | ⟨0, _⟩ => rfl
      | ⟨1, _⟩ => exact h1.symm)⟩
    have e : r.val = 448 + q.val := h0
    rw [e]
    exact chunk_apply G x6 x7 x8 x9 448 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 384 + q.val := h0
    rw [e]
    exact chunk_apply G x6 x7 x8 x9 384 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 320 + q.val := h0
    rw [e]
    exact chunk_apply G x6 x7 x8 x9 320 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 256 + q.val := h0
    rw [e]
    exact chunk_apply G x6 x7 x8 x9 256 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 192 + q.val := h0
    rw [e]
    exact chunk_apply G x6 x7 x8 x9 192 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 128 + q.val := h0
    rw [e]
    exact chunk_apply G x6 x7 x8 x9 128 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 64 + q.val := h0
    rw [e]
    exact chunk_apply G x6 x7 x8 x9 64 (by decide) q d
  · obtain ⟨q, rfl⟩ : ∃ q : Fin 64, y = ix2 q d := ⟨y 0, funext fun a => Fin.ext (by
      match a with
      | ⟨0, _⟩ => rfl
      | ⟨1, _⟩ => exact h1.symm)⟩
    have e : r.val = 0 + q.val := h0.trans (Nat.zero_add _).symm
    rw [e]
    exact chunk_apply G x6 x7 x8 x9 0 (by decide) q d

/-- The rows of the short convolution. -/
theorem out10_B (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S3x384 .f32) (harg7 : arg7.IsWhole) (arg8 : Memref sig .tc .vmem S31x384 .f32) (harg8 : arg8.IsWhole) (arg9 : Memref sig .tc .vmem S1x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S512x384 .f32) (harg12 : arg12.IsWhole) (arg13 : Memref sig .tc .vmem S512x384 .f32) (harg13 : arg13.IsWhole) (arg14 : Memref sig .tc .vmem S520x384 .f32) (harg14 : arg14.IsWhole) (arg15 : Memref sig .tc .vmem S544x384 .f32) (harg15 : arg15.IsWhole) (hc0 : ¬cond0_0 i)
    (x0 : Vec Ideal S512x384 .f32) (x1 : Vec Ideal S512x384 .f32) (x2 : Vec Ideal S512x384 .f32) (x3 : Vec Ideal S512x384 .f32) (x4 : Vec Ideal S512x384 .f32) (x5 : Vec Ideal S3x384 .f32) (x6 : Vec Ideal S31x384 .f32) (x7 : Vec Ideal S1x384 .f32) (x8 : Vec Ideal S1x384 .f32) (x9 : Vec Ideal S1x384 .f32) (xs0 : Vec Ideal S520x384 .f32) (xs1 : Vec Ideal S544x384 .f32)
    (r : Fin 512) (d : Fin 384) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 (ix2 r d)
      = x0 (ix2 r d) * taps (fun k : Fin 3 => x5 (ix2 k d)) (fun k : Fin 3 => srowAt (sbuf xs0 (k0_pay4 x1 x2)) (r.val + 6 + k.val) d) := by
  unfold out0_B_10
  rw [View.read_writes_eq_canon _ _ _ (cover0_B_10 c _ _ _ _ _ _ _ _ _ _ _ _ _ _ _ _ _ _ _ _ _ _ _ _ _ _ _ _ _ _ _ _ _ _ _ _ _ _ _ _ _ _)]
  unfold kernelRun0_B
  dsimp only
  sl_unfold_words
  simp (disch := decide) only [ld_unread, buf_load harg15 xs1, buf_cov xs1, sbuf_load harg14 xs0, sbuf_cov xs0, ldr_whole, Nat.reduceLeDiff]
  rw [View.canon_unit_zero hz2]
  exact short_apply _ x5 x0 _ _ _ _ _ _ r d

/-- The first rows of the long buffer at the end of the point. -/
theorem end1_B (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S3x384 .f32) (harg7 : arg7.IsWhole) (arg8 : Memref sig .tc .vmem S31x384 .f32) (harg8 : arg8.IsWhole) (arg9 : Memref sig .tc .vmem S1x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S512x384 .f32) (harg12 : arg12.IsWhole) (arg13 : Memref sig .tc .vmem S512x384 .f32) (harg13 : arg13.IsWhole) (arg14 : Memref sig .tc .vmem S520x384 .f32) (harg14 : arg14.IsWhole) (arg15 : Memref sig .tc .vmem S544x384 .f32) (harg15 : arg15.IsWhole) (hc0 : ¬cond0_0 i)
    (x0 : Vec Ideal S512x384 .f32) (x1 : Vec Ideal S512x384 .f32) (x2 : Vec Ideal S512x384 .f32) (x3 : Vec Ideal S512x384 .f32) (x4 : Vec Ideal S512x384 .f32) (x5 : Vec Ideal S3x384 .f32) (x6 : Vec Ideal S31x384 .f32) (x7 : Vec Ideal S1x384 .f32) (x8 : Vec Ideal S1x384 .f32) (x9 : Vec Ideal S1x384 .f32) (xs0 : Vec Ideal S520x384 .f32) (xs1 : Vec Ideal S544x384 .f32)
    (k : Fin 32) (d : Fin 384) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 (ix2 ⟨k.val, by omega⟩ d) = k0_pay5 x3 x4 (ix2 ⟨480 + k.val, by omega⟩ d) := by
  unfold sout0_B_1
  unfold kernelRun0_B
  dsimp only
  sl_unfold_words
  simp (disch := decide) only [ld_unread, buf_load harg15 xs1, buf_cov xs1, sbuf_load harg14 xs0, sbuf_cov xs0, ldr_whole, Nat.reduceLeDiff, pay1_eq]
  exact buf_end xs1 _ _ _ (k0_pay5 x3 x4) _ k d

/-- The first rows of the short buffer at the end of the point. -/
theorem end0_B (c : Dev nD) (i : grid0.Coords) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S3x384 .f32) (harg7 : arg7.IsWhole) (arg8 : Memref sig .tc .vmem S31x384 .f32) (harg8 : arg8.IsWhole) (arg9 : Memref sig .tc .vmem S1x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S512x384 .f32) (harg12 : arg12.IsWhole) (arg13 : Memref sig .tc .vmem S512x384 .f32) (harg13 : arg13.IsWhole) (arg14 : Memref sig .tc .vmem S520x384 .f32) (harg14 : arg14.IsWhole) (arg15 : Memref sig .tc .vmem S544x384 .f32) (harg15 : arg15.IsWhole) (hc0 : ¬cond0_0 i)
    (x0 : Vec Ideal S512x384 .f32) (x1 : Vec Ideal S512x384 .f32) (x2 : Vec Ideal S512x384 .f32) (x3 : Vec Ideal S512x384 .f32) (x4 : Vec Ideal S512x384 .f32) (x5 : Vec Ideal S3x384 .f32) (x6 : Vec Ideal S31x384 .f32) (x7 : Vec Ideal S1x384 .f32) (x8 : Vec Ideal S1x384 .f32) (x9 : Vec Ideal S1x384 .f32) (xs0 : Vec Ideal S520x384 .f32) (xs1 : Vec Ideal S544x384 .f32)
    (k : Fin 8) (d : Fin 384) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 (ix2 ⟨k.val, by omega⟩ d) = k0_pay4 x1 x2 (ix2 ⟨504 + k.val, by omega⟩ d) := by
  unfold sout0_B_0
  unfold kernelRun0_B
  dsimp only
  sl_unfold_words
  simp (disch := decide) only [ld_unread, buf_load harg15 xs1, buf_cov xs1, sbuf_load harg14 xs0, sbuf_cov xs0, ldr_whole, Nat.reduceLeDiff, pay102_eq]
  exact sbuf_end xs0 _ _ _ (k0_pay4 x1 x2) _ k d

end Cert.ConvsIdeal.Block

end
-- ==== Proof.ConvsFinal.lean ====
/-
  THE CONVOLUTIONS CALL, ITS RESULT ARRAYS: 32 blocks of 512 rows for each of the two batches, each point finding the last
  rows of the block before in its buffers.
-/
module

public import proofs.«01_k».proof.Proof.ConvsOutA
public import proofs.«01_k».proof.Proof.ConvsOutB

@[expose] public section

set_option maxRecDepth 16384

noncomputable section

open Idealize.ShloMosaic Idealize.ShloMosaic.TcCoe Idealize.SL.Sem
open Idealize.ShloMosaic.Pipeline (Dat)

namespace Cert.LayerMath

/-- Column `d` of batch `b` of the products of two arrays, row by row; zero beyond the batch. -/
def prodRow (x y : Fin 32768 → Fin 384 → EReal) (b : Fin 2) (d : Fin 384) (n : Nat) : EReal :=
  if h : n < 16384 then x ⟨16384 * b.val + n, by omega⟩ d * y ⟨16384 * b.val + n, by omega⟩ d else 0

/-- One entry of the short convolution: the gate times the three rows before and at `t`. -/
def shortEntry (x0 x1 x2 : Fin 32768 → Fin 384 → EReal) (w : Fin 3 → Fin 384 → EReal) (b : Fin 2) (t : Nat) (h : t < 16384) (d : Fin 384) : EReal :=
  x0 ⟨16384 * b.val + t, by omega⟩ d * taps (fun k => w k d) (fun k => padded 2 (prodRow x1 x2 b d) (t + k.val))

/-- One entry of the long convolution: the 31 rows before and at `t`. -/
def longEntry (x3 x4 : Fin 32768 → Fin 384 → EReal) (w : Fin 31 → Fin 384 → EReal) (a g o : Fin 384 → EReal) (b : Fin 2) (t : Nat) (d : Fin 384) : EReal :=
  longRow w a g o (fun k e => padded 30 (prodRow x3 (fun r e => gate (x4 r e)) b e) (t + k.val)) d

end Cert.LayerMath

namespace Cert.ConvsIdeal.Block

open Cert.ConvsIdeal Cert.ConvsIdeal.Gen Cert.LayerMath

/-- The long buffer holds a stretch of the padded sequence when its two parts do. -/
theorem rowAt_buf (X : Vec Ideal S544x384 .f32) (T : Vec Ideal S512x384 .f32) (f : Nat → EReal) (o : Nat) (d : Fin 384)
    (hX : ∀ k : Fin 32, X (ix2 ⟨k.val, by omega⟩ d) = padded 32 f (o + k.val)) (hT : ∀ r : Fin 512, T (ix2 r d) = f (o + r.val)) (n : Nat) (hn : n < 544) :
    rowAt (buf X T) n d = padded 32 f (o + n) := by
  unfold rowAt
  rw [dif_pos hn]
  unfold buf
  by_cases h : 32 ≤ n
  · rw [dif_pos (show 32 ≤ ((ix2 (⟨n, hn⟩ : Fin 544) d) 0).val from h)]
    refine (hT ⟨n - 32, by omega⟩).trans ?_
    unfold padded
    rw [if_pos (by omega)]
    congr 1
    show o + (n - 32) = o + n - 32
    omega
  · rw [dif_neg (show ¬ 32 ≤ ((ix2 (⟨n, hn⟩ : Fin 544) d) 0).val from h)]
    exact hX ⟨n, by omega⟩

/-- The short buffer holds a stretch of the padded sequence when its two parts do. -/
theorem srowAt_sbuf (X : Vec Ideal S520x384 .f32) (T : Vec Ideal S512x384 .f32) (f : Nat → EReal) (o : Nat) (d : Fin 384)
    (hX : ∀ k : Fin 8, X (ix2 ⟨k.val, by omega⟩ d) = padded 8 f (o + k.val)) (hT : ∀ r : Fin 512, T (ix2 r d) = f (o + r.val)) (n : Nat) (hn : n < 520) :
    srowAt (sbuf X T) n d = padded 8 f (o + n) := by
  unfold srowAt
  rw [dif_pos hn]
  unfold sbuf
  by_cases h : 8 ≤ n
  · rw [dif_pos (show 8 ≤ ((ix2 (⟨n, hn⟩ : Fin 520) d) 0).val from h)]
    refine (hT ⟨n - 8, by omega⟩).trans ?_
    unfold padded
    rw [if_pos (by omega)]
    congr 1
    show o + (n - 8) = o + n - 8
    omega
  · rw [dif_neg (show ¬ 8 ≤ ((ix2 (⟨n, hn⟩ : Fin 520) d) 0).val from h)]
    exact hX ⟨n, by omega⟩

variable (m : (ℓ : Loc nD τ sig) → Buf (Elt Ideal) ℓ) (ρ : Dev nD → PrngReg)

/-- The block each window reads or writes at grid point `t`, decided. -/
theorem idx : ∀ t : Fin cfg0.N,
    win0_0.index t = ![t.val, 0] ∧ win0_1.index t = ![t.val, 0] ∧ win0_2.index t = ![t.val, 0] ∧ win0_3.index t = ![t.val, 0] ∧ win0_4.index t = ![t.val, 0]
      ∧ win0_5.index t = ![0, 0] ∧ win0_6.index t = ![0, 0] ∧ win0_7.index t = ![0, 0] ∧ win0_8.index t = ![0, 0] ∧ win0_9.index t = ![0, 0]
      ∧ win0_10.index t = ![t.val, 0] ∧ win0_11.index t = ![t.val, 0] :=
  (by decide +kernel : ∀ t : Fin grid0.N, _)

/-- The grid has 64 points. -/
theorem lt64 (t : Fin cfg0.N) : t.val < 64 := t.isLt

/-- A block: the gate of the short convolution. -/
theorem blk0 (c : Dev nD) (t : Fin cfg0.N) (r : Fin 512) (j : Fin 384) :
    iblk m c 0 t (ix2 r j) = m ((c : Thread nD τ).loc main_arg0) (ix2 ⟨512 * t.val + r.val, by have := lt64 t; omega⟩ j) := by
  have := lt64 t
  blk_ext! [iblk, V, idx t]

/-- A block: the first factor of its rows. -/
theorem blk1 (c : Dev nD) (t : Fin cfg0.N) (r : Fin 512) (j : Fin 384) :
    iblk m c 1 t (ix2 r j) = m ((c : Thread nD τ).loc main_arg1) (ix2 ⟨512 * t.val + r.val, by have := lt64 t; omega⟩ j) := by
  have := lt64 t
  blk_ext! [iblk, V, idx t]

/-- A block: the second factor of its rows. -/
theorem blk2 (c : Dev nD) (t : Fin cfg0.N) (r : Fin 512) (j : Fin 384) :
    iblk m c 2 t (ix2 r j) = m ((c : Thread nD τ).loc main_arg2) (ix2 ⟨512 * t.val + r.val, by have := lt64 t; omega⟩ j) := by
  have := lt64 t
  blk_ext! [iblk, V, idx t]

/-- A block: the rows of the long convolution. -/
theorem blk3 (c : Dev nD) (t : Fin cfg0.N) (r : Fin 512) (j : Fin 384) :
    iblk m c 3 t (ix2 r j) = m ((c : Thread nD τ).loc main_arg3) (ix2 ⟨512 * t.val + r.val, by have := lt64 t; omega⟩ j) := by
  have := lt64 t
  blk_ext! [iblk, V, idx t]

/-- A block: the their gates. -/
theorem blk4 (c : Dev nD) (t : Fin cfg0.N) (r : Fin 512) (j : Fin 384) :
    iblk m c 4 t (ix2 r j) = m ((c : Thread nD τ).loc main_arg4) (ix2 ⟨512 * t.val + r.val, by have := lt64 t; omega⟩ j) := by
  have := lt64 t
  blk_ext! [iblk, V, idx t]

/-- A block: the taps of the short convolution. -/
theorem blk5 (c : Dev nD) (t : Fin cfg0.N) (k : Fin 3) (j : Fin 384) :
    iblk m c 5 t (ix2 k j) = m ((c : Thread nD τ).loc main_arg5) (ix2 k j) := by
  have := lt64 t
  blk_ext! [iblk, V, idx t]

/-- A block: the taps of the long convolution. -/
theorem blk6 (c : Dev nD) (t : Fin cfg0.N) (k : Fin 31) (j : Fin 384) :
    iblk m c 6 t (ix2 k j) = m ((c : Thread nD τ).loc main_arg6) (ix2 k j) := by
  have := lt64 t
  blk_ext! [iblk, V, idx t]

/-- A block: the offset of the long convolution. -/
theorem blk7 (c : Dev nD) (t : Fin cfg0.N) (j : Fin 384) :
    iblk m c 7 t (ix2 0 j) = m ((c : Thread nD τ).loc main_arg7) (ix1 j) := by
  have := lt64 t
  blk_ext! [iblk, V, idx t]

/-- A block: the gain of the normalisation. -/
theorem blk8 (c : Dev nD) (t : Fin cfg0.N) (j : Fin 384) :
    iblk m c 8 t (ix2 0 j) = m ((c : Thread nD τ).loc main_arg8) (ix1 j) := by
  have := lt64 t
  blk_ext! [iblk, V, idx t]

/-- A block: the offset of the normalisation. -/
theorem blk9 (c : Dev nD) (t : Fin cfg0.N) (j : Fin 384) :
    iblk m c 9 t (ix2 0 j) = m ((c : Thread nD τ).loc main_arg9) (ix1 j) := by
  have := lt64 t
  blk_ext! [iblk, V, idx t]

/-- The short convolution's gated rows of a batch. -/
def srow (c : Dev nD) (b : Fin 2) (d : Fin 384) : Nat → EReal :=
  prodRow (fun r e => m ((c : Thread nD τ).loc main_arg1) (ix2 r e)) (fun r e => m ((c : Thread nD τ).loc main_arg2) (ix2 r e)) b d

/-- The long convolution's gated rows of a batch. -/
def crow (c : Dev nD) (b : Fin 2) (d : Fin 384) : Nat → EReal :=
  prodRow (fun r e => m ((c : Thread nD τ).loc main_arg3) (ix2 r e)) (fun r e => gate (m ((c : Thread nD τ).loc main_arg4) (ix2 r e))) b d

/-- The batch of a point. -/
def bat (t : Fin cfg0.N) : Fin 2 := ⟨t.val / 32, by have := lt64 t; omega⟩

/-- A block's gated rows are rows of the batch. -/
theorem tile0 (c : Dev nD) (t : Fin cfg0.N) (r : Fin 512) (d : Fin 384) :
    k0_pay4 (iblk m c 1 t) (iblk m c 2 t) (ix2 r d) = srow m c (bat t) d (512 * (t.val % 32) + r.val) := by
  have := lt64 t
  refine (pay4_apply _ _ r d).trans ?_
  rw [blk1, blk2]
  unfold srow prodRow bat
  rw [dif_pos (by omega)]
  have e : (⟨512 * t.val + r.val, by omega⟩ : Fin 32768) = ⟨16384 * (t.val / 32) + (512 * (t.val % 32) + r.val), by omega⟩ := Fin.ext (by dsimp; omega)
  rw [e]

/-- A block's gated rows are rows of the batch. -/
theorem tile1 (c : Dev nD) (t : Fin cfg0.N) (r : Fin 512) (d : Fin 384) :
    k0_pay5 (iblk m c 3 t) (iblk m c 4 t) (ix2 r d) = crow m c (bat t) d (512 * (t.val % 32) + r.val) := by
  have := lt64 t
  refine (pay5_apply _ _ r d).trans ?_
  rw [blk3, blk4]
  unfold crow prodRow bat
  rw [dif_pos (by omega)]
  have e : (⟨512 * t.val + r.val, by omega⟩ : Fin 32768) = ⟨16384 * (t.val / 32) + (512 * (t.val % 32) + r.val), by omega⟩ := Fin.ext (by dsimp; omega)
  rw [e]

/-- The long buffer's first rows after a point: the block's last rows. -/
theorem left1 (c : Dev nD) (t : Fin cfg0.N) (k : Fin 32) (d : Fin 384) :
    (outsAt0 m c t.val t.isLt).2.2.2 (ix2 ⟨k.val, by omega⟩ d) = crow m c (bat t) d (512 * (t.val % 32) + (480 + k.val)) := by
  by_cases h0 : t.val % 32 = 0
  · rw [outsAt0_A m c t h0]
    dsimp only
    rw [end1_A]
    exact tile1 m c t ⟨480 + k.val, by omega⟩ d
  · rw [outsAt0_B m c t h0]
    dsimp only
    rw [end1_B]
    exact tile1 m c t ⟨480 + k.val, by omega⟩ d

/-- The short buffer's first rows after a point: the block's last rows. -/
theorem left0 (c : Dev nD) (t : Fin cfg0.N) (k : Fin 8) (d : Fin 384) :
    (outsAt0 m c t.val t.isLt).2.2.1 (ix2 ⟨k.val, by omega⟩ d) = srow m c (bat t) d (512 * (t.val % 32) + (504 + k.val)) := by
  by_cases h0 : t.val % 32 = 0
  · rw [outsAt0_A m c t h0]
    dsimp only
    rw [end0_A]
    exact tile0 m c t ⟨504 + k.val, by omega⟩ d
  · rw [outsAt0_B m c t h0]
    dsimp only
    rw [end0_B]
    exact tile0 m c t ⟨504 + k.val, by omega⟩ d

/-- The long buffer of a point that follows another. -/
theorem bufB (c : Dev nD) (t : Fin cfg0.N) (h0 : ¬ t.val % 32 = 0) (h) (n : Nat) (hn : n < 544) (d : Fin 384) :
    rowAt (buf (outsAt0 m c (t.val - 1) h).2.2.2 (k0_pay5 (iblk m c 3 t) (iblk m c 4 t))) n d = padded 32 (crow m c (bat t) d) (512 * (t.val % 32) + n) := by
  have ht := lt64 t
  refine rowAt_buf _ _ _ _ d (fun k => ?_) (fun r => tile1 m c t r d) n hn
  refine (left1 m c ⟨t.val - 1, h⟩ k d).trans ?_
  have e : bat (⟨t.val - 1, h⟩ : Fin cfg0.N) = bat t := Fin.ext (by unfold bat; dsimp; omega)
  rw [e]
  unfold padded
  rw [if_pos (by omega)]
  congr 1
  dsimp
  omega

/-- The short buffer of a point that follows another. -/
theorem sbufB (c : Dev nD) (t : Fin cfg0.N) (h0 : ¬ t.val % 32 = 0) (h) (n : Nat) (hn : n < 520) (d : Fin 384) :
    srowAt (sbuf (outsAt0 m c (t.val - 1) h).2.2.1 (k0_pay4 (iblk m c 1 t) (iblk m c 2 t))) n d = padded 8 (srow m c (bat t) d) (512 * (t.val % 32) + n) := by
  have ht := lt64 t
  refine srowAt_sbuf _ _ _ _ d (fun k => ?_) (fun r => tile0 m c t r d) n hn
  refine (left0 m c ⟨t.val - 1, h⟩ k d).trans ?_
  have e : bat (⟨t.val - 1, h⟩ : Fin cfg0.N) = bat t := Fin.ext (by unfold bat; dsimp; omega)
  rw [e]
  unfold padded
  rw [if_pos (by omega)]
  congr 1
  dsimp
  omega

/-- The long buffer of a point that starts a batch. -/
theorem bufA (c : Dev nD) (t : Fin cfg0.N) (h0 : t.val % 32 = 0) (n : Nat) (hn : n < 544) (d : Fin 384) :
    rowAt (buf (fun _ => (0 : EReal)) (k0_pay5 (iblk m c 3 t) (iblk m c 4 t))) n d = padded 32 (crow m c (bat t) d) (512 * (t.val % 32) + n) := by
  refine rowAt_buf _ _ _ _ d (fun k => ?_) (fun r => tile1 m c t r d) n hn
  unfold padded
  rw [if_neg (by omega)]

/-- The short buffer of a point that starts a batch. -/
theorem sbufA (c : Dev nD) (t : Fin cfg0.N) (h0 : t.val % 32 = 0) (n : Nat) (hn : n < 520) (d : Fin 384) :
    srowAt (sbuf (fun _ => (0 : EReal)) (k0_pay4 (iblk m c 1 t) (iblk m c 2 t))) n d = padded 8 (srow m c (bat t) d) (512 * (t.val % 32) + n) := by
  refine srowAt_sbuf _ _ _ _ d (fun k => ?_) (fun r => tile0 m c t r d) n hn
  unfold padded
  rw [if_neg (by omega)]

/-- Entry of the short convolution. -/
def eshort (c : Dev nD) (b : Fin 2) (t : Fin 16384) (d : Fin 384) : EReal :=
  shortEntry (fun r e => m ((c : Thread nD τ).loc main_arg0) (ix2 r e)) (fun r e => m ((c : Thread nD τ).loc main_arg1) (ix2 r e)) (fun r e => m ((c : Thread nD τ).loc main_arg2) (ix2 r e))
    (fun k e => m ((c : Thread nD τ).loc main_arg5) (ix2 k e)) b t.val t.isLt d

/-- Entry of the long convolution. -/
def elong (c : Dev nD) (b : Fin 2) (t : Fin 16384) (d : Fin 384) : EReal :=
  longEntry (fun r e => m ((c : Thread nD τ).loc main_arg3) (ix2 r e)) (fun r e => m ((c : Thread nD τ).loc main_arg4) (ix2 r e))
    (fun k e => m ((c : Thread nD τ).loc main_arg6) (ix2 k e)) (fun e => m ((c : Thread nD τ).loc main_arg7) (ix1 e)) (fun e => m ((c : Thread nD τ).loc main_arg8) (ix1 e))
    (fun e => m ((c : Thread nD τ).loc main_arg9) (ix1 e)) b t.val d

/-- The row of a batch a point's row is. -/
def row (t : Fin cfg0.N) (r : Fin 512) : Fin 16384 := ⟨512 * (t.val % 32) + r.val, by omega⟩

/-- The rows of the long convolution a point leaves. -/
theorem point11 (c : Dev nD) (t : Fin cfg0.N) (r : Fin 512) (d : Fin 384) :
    (outsAt0 m c t.val t.isLt).2.1 (ix2 r d) = elong m c (bat t) (row t r) d := by
  have e : ∀ (k : Fin 31) (e : Fin 384), padded 32 (crow m c (bat t) e) (512 * (t.val % 32) + (r.val + 2 + k.val)) = padded 30 (crow m c (bat t) e) ((row t r).val + k.val) := fun k e => by
    rw [← padded_add 30 2]
    congr 1
    unfold row
    dsimp
    omega
  unfold elong longEntry
  by_cases h0 : t.val % 32 = 0
  · rw [outsAt0_A m c t h0]
    dsimp only
    rw [out11_A]
    simp only [blk6, blk7, blk8, blk9]
    congr 1
    funext k e'
    exact (bufA m c t h0 _ (by omega) e').trans (e k e')
  · rw [outsAt0_B m c t h0]
    dsimp only
    rw [out11_B]
    simp only [blk6, blk7, blk8, blk9]
    congr 1
    funext k e'
    exact (bufB m c t h0 _ _ (by omega) e').trans (e k e')

/-- The rows of the short convolution a point leaves. -/
theorem point10 (c : Dev nD) (t : Fin cfg0.N) (r : Fin 512) (d : Fin 384) :
    (outsAt0 m c t.val t.isLt).1 (ix2 r d) = eshort m c (bat t) (row t r) d := by
  have ht := lt64 t
  have e : ∀ (k : Fin 3), padded 8 (srow m c (bat t) d) (512 * (t.val % 32) + (r.val + 6 + k.val)) = padded 2 (srow m c (bat t) d) ((row t r).val + k.val) := fun k => by
    rw [← padded_add 2 6]
    congr 1
    unfold row
    dsimp
    omega
  have e0 : (⟨512 * t.val + r.val, by omega⟩ : Fin 32768) = ⟨16384 * (bat t).val + (row t r).val, by unfold bat row; dsimp; omega⟩ := Fin.ext (by unfold bat row; dsimp; omega)
  unfold eshort shortEntry
  by_cases h0 : t.val % 32 = 0
  · rw [outsAt0_A m c t h0]
    dsimp only
    rw [out10_A]
    simp only [blk0, blk5]
    rw [e0]
    refine congrArg₂ (fun a b : EReal => a * b) rfl (congrArg (taps _) (funext fun k => ?_))
    exact (sbufA m c t h0 _ (by omega) d).trans (e k)
  · rw [outsAt0_B m c t h0]
    dsimp only
    rw [out10_B]
    simp only [blk0, blk5]
    rw [e0]
    refine congrArg₂ (fun a b : EReal => a * b) rfl (congrArg (taps _) (funext fun k => ?_))
    exact (sbufB m c t h0 _ _ (by omega) d).trans (e k)

/-- The array of the short convolution. -/
def G10 (c : Dev nD) : Buf (Elt Ideal) ((c : Thread nD τ).loc main_v3_0) := fun i =>
  eshort m c ⟨(i 0).val / 16384, by have h : (i 0).val < 32768 := (i 0).isLt; omega⟩ ⟨(i 0).val % 16384, by omega⟩ (i 1)

/-- The array of the long convolution. -/
def G11 (c : Dev nD) : Buf (Elt Ideal) ((c : Thread nD τ).loc main_v3_1) := fun i =>
  elong m c ⟨(i 0).val / 16384, by have h : (i 0).val < 32768 := (i 0).isLt; omega⟩ ⟨(i 0).val % 16384, by omega⟩ (i 1)

/-- The array of the short convolution after the run. -/
theorem final10 (c : Dev nD) : (dats m 0 c).arrAt 10 cfg0.N = G10 m c := by
  refine (dats m 0 c).arrAt_eq_of_covers 10 _ (by decide +kernel) fun t hf y => ?_
  blk_simp
  rw [after0_10]
  have := lt64 t
  obtain ⟨r, j, rfl⟩ : ∃ r j, y = ix2 r j := ⟨y 0, y 1, by blk_ext⟩
  rw [point10]
  unfold G10
  have e3 : ∀ {a a' : Fin 2} {b b' : Fin 16384} {d d' : Fin 384}, a = a' → b = b' → d = d' → eshort m c a b d = eshort m c a' b' d' := by
    rintro _ _ _ _ _ _ rfl rfl rfl; rfl
  unfold bat row
  refine e3 (Fin.ext ?_) (Fin.ext ?_) (Fin.ext ?_) <;> blk_simp [idx t] <;> simp <;> omega

/-- The array of the long convolution after the run. -/
theorem final11 (c : Dev nD) : (dats m 0 c).arrAt 11 cfg0.N = G11 m c := by
  refine (dats m 0 c).arrAt_eq_of_covers 11 _ (by decide +kernel) fun t hf y => ?_
  blk_simp
  rw [after0_11]
  have := lt64 t
  obtain ⟨r, j, rfl⟩ : ∃ r j, y = ix2 r j := ⟨y 0, y 1, by blk_ext⟩
  rw [point11]
  unfold G11
  have e3 : ∀ {a a' : Fin 2} {b b' : Fin 16384} {d d' : Fin 384}, a = a' → b = b' → d = d' → elong m c a b d = elong m c a' b' d' := by
    rintro _ _ _ _ _ _ rfl rfl rfl; rfl
  unfold bat row
  refine e3 (Fin.ext ?_) (Fin.ext ?_) (Fin.ext ?_) <;> blk_simp [idx t] <;> simp <;> omega

/-- The run: both result arrays are these, and the arguments end unchanged. -/
theorem run : θ_run defs (onTc (τ := τ) (main (F := Ideal))) ⟨m, fun _ => 0, ρ⟩ fun r => ∀ c : Dev nD,
      r.2.mem ((c : Thread nD τ).loc main_v3_0) = G10 m c
      ∧ r.2.mem ((c : Thread nD τ).loc main_v3_1) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final10 m c), (h c).2.1.trans (final11 m c), (h c).2.2⟩) (Value.run_blocks m ρ)

end Cert.ConvsIdeal.Block

end
-- ==== Proof.ConvsRef.lean ====
/-
  THE CONVOLUTIONS CALL, ITS REFERENCE: the two results read at an index.
-/
module

public import proofs.«01_k».proof.Proof.Gen.ConvsRefIdeal.Read
public import proofs.«01_k».proof.Proof.Gen.ConvsRefIdeal.Run
public import proofs.«01_k».proof.Proof.ConvsFinal
public import Idealize.ShloMosaic.Lib.KernelVsHost

@[expose] public section

set_option maxRecDepth 16384

noncomputable section

open Idealize.ShloMosaic Idealize.ShloMosaic.TcCoe Idealize.SL.Sem
open scoped BigOperators

namespace Cert.ConvsRefIdeal.Rows

open Cert.ConvsRefIdeal Cert.ConvsRefIdeal.Gen Cert.ConvsRefIdeal.Read Cert.LayerMath

variable (x0 x1 x2 x3 x4 : (⟨S32768x384, .f32⟩ : BufTy).Contents (Elt Ideal)) (x5 : (⟨S3x384, .f32⟩ : BufTy).Contents (Elt Ideal))
  (x6 : (⟨S31x384, .f32⟩ : BufTy).Contents (Elt Ideal)) (x7 x8 x9 : (⟨S384, .f32⟩ : BufTy).Contents (Elt Ideal))

/-- Row `t` of batch `b` in the flat order. -/
theorem flat (x : (⟨S32768x384, .f32⟩ : BufTy).Contents (Elt Ideal)) (i : S32768x384.Idx) (b : Fin 2) (t : Fin 16384) (d : Fin 384)
    (h0 : (i 0).val = 16384 * b.val + t.val) (h1 : (i 1).val = d.val) : x i = x (ix2 ⟨16384 * b.val + t.val, by omega⟩ d) := by
  refine congrArg x (funext fun a => ?_)
  match a with
  | ⟨0, _⟩ => exact Fin.ext h0
  | ⟨1, _⟩ => exact Fin.ext h1

/-- Argument 0 by batch and row. -/
theorem v0_apply (b : Fin 2) (t : Fin 16384) (d : Fin 384) :
    val_main_v0 x0 (ix3 b t d) = x0 (ix2 ⟨16384 * b.val + t.val, by omega⟩ d) := by
  rw [val_main_v0_apply]
  refine flat x0 _ b t d ?_ ?_
  · show ((b.val * 16384 + t.val) * 384 + d.val) / 384 = 16384 * b.val + t.val
    omega
  · show ((b.val * 16384 + t.val) * 384 + d.val) % 384 = d.val
    omega

/-- Argument 1 by batch and row. -/
theorem v1_apply (b : Fin 2) (t : Fin 16384) (d : Fin 384) :
    val_main_v1 x1 (ix3 b t d) = x1 (ix2 ⟨16384 * b.val + t.val, by omega⟩ d) := by
  rw [val_main_v1_apply]
  refine flat x1 _ b t d ?_ ?_
  · show ((b.val * 16384 + t.val) * 384 + d.val) / 384 = 16384 * b.val + t.val
    omega
  · show ((b.val * 16384 + t.val) * 384 + d.val) % 384 = d.val
    omega

/-- Argument 2 by batch and row. -/
theorem v2_apply (b : Fin 2) (t : Fin 16384) (d : Fin 384) :
    val_main_v2 x2 (ix3 b t d) = x2 (ix2 ⟨16384 * b.val + t.val, by omega⟩ d) := by
  rw [val_main_v2_apply]
  refine flat x2 _ b t d ?_ ?_
  · show ((b.val * 16384 + t.val) * 384 + d.val) / 384 = 16384 * b.val + t.val
    omega
  · show ((b.val * 16384 + t.val) * 384 + d.val) % 384 = d.val
    omega

/-- Argument 3 by batch and row. -/
theorem v3_apply (b : Fin 2) (t : Fin 16384) (d : Fin 384) :
    val_main_v3 x3 (ix3 b t d) = x3 (ix2 ⟨16384 * b.val + t.val, by omega⟩ d) := by
  rw [val_main_v3_apply]
  refine flat x3 _ b t d ?_ ?_
  · show ((b.val * 16384 + t.val) * 384 + d.val) / 384 = 16384 * b.val + t.val
    omega
  · show ((b.val * 16384 + t.val) * 384 + d.val) % 384 = d.val
    omega

/-- Argument 4 by batch and row. -/
theorem v4_apply (b : Fin 2) (t : Fin 16384) (d : Fin 384) :
    val_main_v4 x4 (ix3 b t d) = x4 (ix2 ⟨16384 * b.val + t.val, by omega⟩ d) := by
  rw [val_main_v4_apply]
  refine flat x4 _ b t d ?_ ?_
  · show ((b.val * 16384 + t.val) * 384 + d.val) / 384 = 16384 * b.val + t.val
    omega
  · show ((b.val * 16384 + t.val) * 384 + d.val) % 384 = d.val
    omega

/-- The two inputs of the short convolution, multiplied. -/
theorem v5_apply (b : Fin 2) (t : Fin 16384) (d : Fin 384) :
    val_main_v5 x1 x2 (ix3 b t d) = prodRow (fun r e => x1 (ix2 r e)) (fun r e => x2 (ix2 r e)) b d t.val := by
  unfold prodRow
  rw [dif_pos t.isLt, val_main_v5_apply, v1_apply, v2_apply]
  rfl

/-- The input of the long convolution times the logistic function of the other. -/
theorem v34_apply (b : Fin 2) (t : Fin 16384) (d : Fin 384) :
    val_main_v34 x3 x4 (ix3 b t d) = prodRow (fun r e => x3 (ix2 r e)) (fun r e => gate (x4 (ix2 r e))) b d t.val := by
  have h := v4_apply x4 b t d
  unfold prodRow gate
  rw [dif_pos t.isLt, val_main_v34_apply, v3_apply]
  refine congrArg₂ (fun a b : EReal => a * b) rfl ?_
  unfold val_main_v33 val_main_v31 val_main_v29 val_main_v28
  generalize val_main_v4 x4 = y at h ⊢
  pointwise [h, val_main_v32, val_main_v30, val_main_cst, val_main_cst_0]

/-- The rows with 2 rows of zeros in front. -/
theorem v6_apply (b : Fin 2) (n : Fin 16386) (d : Fin 384) :
    val_main_v6 x1 x2 (ix3 b n d) = padded 2 (prodRow (fun r e => x1 (ix2 r e)) (fun r e => x2 (ix2 r e)) b d) n.val := by
  unfold padded val_main_v6
  by_cases h : 2 ≤ n.val
  · rw [if_pos h]
    refine (pad_apply_of_inside _ _ _ _ _ _ _ _ (ix3 b (⟨n.val - 2, by omega⟩ : Fin 16384) d) (fun a => ?_)).trans (v5_apply x1 x2 b _ d)
    match a with
    | ⟨0, _⟩ => show b.val = 0 + b.val * (0 + 1); omega
    | ⟨1, _⟩ => show n.val = 2 + (n.val - 2) * (0 + 1); omega
    | ⟨2, _⟩ => show d.val = 0 + d.val * (0 + 1); omega
  · rw [if_neg h]
    refine (pad_apply_of_not_inside _ _ _ _ _ _ _ _ ⟨1, by decide⟩ (fun ha => h ?_)).trans ?_
    · exact ha.1
    · unfold val_main_call0_v0 val_main_c
      show (((0#32 : BitVec 32).toInt : ℝ) : EReal) = 0
      simp

/-- The rows with 30 rows of zeros in front. -/
theorem v35_apply (b : Fin 2) (n : Fin 16414) (d : Fin 384) :
    val_main_v35 x3 x4 (ix3 b n d) = padded 30 (prodRow (fun r e => x3 (ix2 r e)) (fun r e => gate (x4 (ix2 r e))) b d) n.val := by
  unfold padded val_main_v35
  by_cases h : 30 ≤ n.val
  · rw [if_pos h]
    refine (pad_apply_of_inside _ _ _ _ _ _ _ _ (ix3 b (⟨n.val - 30, by omega⟩ : Fin 16384) d) (fun a => ?_)).trans (v34_apply x3 x4 b _ d)
    match a with
    | ⟨0, _⟩ => show b.val = 0 + b.val * (0 + 1); omega
    | ⟨1, _⟩ => show n.val = 30 + (n.val - 30) * (0 + 1); omega
    | ⟨2, _⟩ => show d.val = 0 + d.val * (0 + 1); omega
  · rw [if_neg h]
    refine (pad_apply_of_not_inside _ _ _ _ _ _ _ _ ⟨1, by decide⟩ (fun ha => h ?_)).trans ?_
    · exact ha.1
    · unfold val_main_call1_v0 val_main_c_1
      show (((0#32 : BitVec 32).toInt : ℝ) : EReal) = 0
      simp

/-- Tap 0 of the short convolution. -/
theorem stap0 (b : Fin 2) (t : Fin 16384) (d : Fin 384) :
    val_main_v12 x1 x2 x5 (ix3 b t d) = x5 (ix2 0 d) * val_main_v6 x1 x2 (ix3 b ⟨0 + t.val, by omega⟩ d) := by
  rw [val_main_v12_apply, val_main_v11_apply, val_main_v10_apply, val_main_v8_apply, val_main_v7_apply, val_main_v9_apply]
  refine congrArg₂ (fun a b : EReal => a * b) (congrArg x5 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => exact Fin.ext (by dsimp; omega)
    | ⟨2, _⟩ => rfl

/-- Tap 1 of the short convolution. -/
theorem stap1 (b : Fin 2) (t : Fin 16384) (d : Fin 384) :
    val_main_v18 x1 x2 x5 (ix3 b t d) = x5 (ix2 1 d) * val_main_v6 x1 x2 (ix3 b ⟨1 + t.val, by omega⟩ d) := by
  rw [val_main_v18_apply, val_main_v17_apply, val_main_v16_apply, val_main_v14_apply, val_main_v13_apply, val_main_v15_apply]
  refine congrArg₂ (fun a b : EReal => a * b) (congrArg x5 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 2 of the short convolution. -/
theorem stap2 (b : Fin 2) (t : Fin 16384) (d : Fin 384) :
    val_main_v25 x1 x2 x5 (ix3 b t d) = x5 (ix2 2 d) * val_main_v6 x1 x2 (ix3 b ⟨2 + t.val, by omega⟩ d) := by
  rw [val_main_v25_apply, val_main_v24_apply, val_main_v23_apply, val_main_v21_apply, val_main_v20_apply, val_main_v22_apply]
  refine congrArg₂ (fun a b : EReal => a * b) (congrArg x5 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 0 of the long convolution. -/
theorem ltap0 (b : Fin 2) (t : Fin 16384) (d : Fin 384) :
    val_main_v41 x3 x4 x6 (ix3 b t d) = x6 (ix2 0 d) * val_main_v35 x3 x4 (ix3 b ⟨0 + t.val, by omega⟩ d) := by
  rw [val_main_v41_apply, val_main_v40_apply, val_main_v39_apply, val_main_v37_apply, val_main_v36_apply, val_main_v38_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => exact Fin.ext (by dsimp; omega)
    | ⟨2, _⟩ => rfl

/-- Tap 1 of the long convolution. -/
theorem ltap1 (b : Fin 2) (t : Fin 16384) (d : Fin 384) :
    val_main_v47 x3 x4 x6 (ix3 b t d) = x6 (ix2 1 d) * val_main_v35 x3 x4 (ix3 b ⟨1 + t.val, by omega⟩ d) := by
  rw [val_main_v47_apply, val_main_v46_apply, val_main_v45_apply, val_main_v43_apply, val_main_v42_apply, val_main_v44_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 2 of the long convolution. -/
theorem ltap2 (b : Fin 2) (t : Fin 16384) (d : Fin 384) :
    val_main_v54 x3 x4 x6 (ix3 b t d) = x6 (ix2 2 d) * val_main_v35 x3 x4 (ix3 b ⟨2 + t.val, by omega⟩ d) := by
  rw [val_main_v54_apply, val_main_v53_apply, val_main_v52_apply, val_main_v50_apply, val_main_v49_apply, val_main_v51_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 3 of the long convolution. -/
theorem ltap3 (b : Fin 2) (t : Fin 16384) (d : Fin 384) :
    val_main_v61 x3 x4 x6 (ix3 b t d) = x6 (ix2 3 d) * val_main_v35 x3 x4 (ix3 b ⟨3 + t.val, by omega⟩ d) := by
  rw [val_main_v61_apply, val_main_v60_apply, val_main_v59_apply, val_main_v57_apply, val_main_v56_apply, val_main_v58_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 4 of the long convolution. -/
theorem ltap4 (b : Fin 2) (t : Fin 16384) (d : Fin 384) :
    val_main_v68 x3 x4 x6 (ix3 b t d) = x6 (ix2 4 d) * val_main_v35 x3 x4 (ix3 b ⟨4 + t.val, by omega⟩ d) := by
  rw [val_main_v68_apply, val_main_v67_apply, val_main_v66_apply, val_main_v64_apply, val_main_v63_apply, val_main_v65_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 5 of the long convolution. -/
theorem ltap5 (b : Fin 2) (t : Fin 16384) (d : Fin 384) :
    val_main_v75 x3 x4 x6 (ix3 b t d) = x6 (ix2 5 d) * val_main_v35 x3 x4 (ix3 b ⟨5 + t.val, by omega⟩ d) := by
  rw [val_main_v75_apply, val_main_v74_apply, val_main_v73_apply, val_main_v71_apply, val_main_v70_apply, val_main_v72_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 6 of the long convolution. -/
theorem ltap6 (b : Fin 2) (t : Fin 16384) (d : Fin 384) :
    val_main_v82 x3 x4 x6 (ix3 b t d) = x6 (ix2 6 d) * val_main_v35 x3 x4 (ix3 b ⟨6 + t.val, by omega⟩ d) := by
  rw [val_main_v82_apply, val_main_v81_apply, val_main_v80_apply, val_main_v78_apply, val_main_v77_apply, val_main_v79_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 7 of the long convolution. -/
theorem ltap7 (b : Fin 2) (t : Fin 16384) (d : Fin 384) :
    val_main_v89 x3 x4 x6 (ix3 b t d) = x6 (ix2 7 d) * val_main_v35 x3 x4 (ix3 b ⟨7 + t.val, by omega⟩ d) := by
  rw [val_main_v89_apply, val_main_v88_apply, val_main_v87_apply, val_main_v85_apply, val_main_v84_apply, val_main_v86_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 8 of the long convolution. -/
theorem ltap8 (b : Fin 2) (t : Fin 16384) (d : Fin 384) :
    val_main_v96 x3 x4 x6 (ix3 b t d) = x6 (ix2 8 d) * val_main_v35 x3 x4 (ix3 b ⟨8 + t.val, by omega⟩ d) := by
  rw [val_main_v96_apply, val_main_v95_apply, val_main_v94_apply, val_main_v92_apply, val_main_v91_apply, val_main_v93_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 9 of the long convolution. -/
theorem ltap9 (b : Fin 2) (t : Fin 16384) (d : Fin 384) :
    val_main_v103 x3 x4 x6 (ix3 b t d) = x6 (ix2 9 d) * val_main_v35 x3 x4 (ix3 b ⟨9 + t.val, by omega⟩ d) := by
  rw [val_main_v103_apply, val_main_v102_apply, val_main_v101_apply, val_main_v99_apply, val_main_v98_apply, val_main_v100_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 10 of the long convolution. -/
theorem ltap10 (b : Fin 2) (t : Fin 16384) (d : Fin 384) :
    val_main_v110 x3 x4 x6 (ix3 b t d) = x6 (ix2 10 d) * val_main_v35 x3 x4 (ix3 b ⟨10 + t.val, by omega⟩ d) := by
  rw [val_main_v110_apply, val_main_v109_apply, val_main_v108_apply, val_main_v106_apply, val_main_v105_apply, val_main_v107_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 11 of the long convolution. -/
theorem ltap11 (b : Fin 2) (t : Fin 16384) (d : Fin 384) :
    val_main_v117 x3 x4 x6 (ix3 b t d) = x6 (ix2 11 d) * val_main_v35 x3 x4 (ix3 b ⟨11 + t.val, by omega⟩ d) := by
  rw [val_main_v117_apply, val_main_v116_apply, val_main_v115_apply, val_main_v113_apply, val_main_v112_apply, val_main_v114_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 12 of the long convolution. -/
theorem ltap12 (b : Fin 2) (t : Fin 16384) (d : Fin 384) :
    val_main_v124 x3 x4 x6 (ix3 b t d) = x6 (ix2 12 d) * val_main_v35 x3 x4 (ix3 b ⟨12 + t.val, by omega⟩ d) := by
  rw [val_main_v124_apply, val_main_v123_apply, val_main_v122_apply, val_main_v120_apply, val_main_v119_apply, val_main_v121_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 13 of the long convolution. -/
theorem ltap13 (b : Fin 2) (t : Fin 16384) (d : Fin 384) :
    val_main_v131 x3 x4 x6 (ix3 b t d) = x6 (ix2 13 d) * val_main_v35 x3 x4 (ix3 b ⟨13 + t.val, by omega⟩ d) := by
  rw [val_main_v131_apply, val_main_v130_apply, val_main_v129_apply, val_main_v127_apply, val_main_v126_apply, val_main_v128_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 14 of the long convolution. -/
theorem ltap14 (b : Fin 2) (t : Fin 16384) (d : Fin 384) :
    val_main_v138 x3 x4 x6 (ix3 b t d) = x6 (ix2 14 d) * val_main_v35 x3 x4 (ix3 b ⟨14 + t.val, by omega⟩ d) := by
  rw [val_main_v138_apply, val_main_v137_apply, val_main_v136_apply, val_main_v134_apply, val_main_v133_apply, val_main_v135_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 15 of the long convolution. -/
theorem ltap15 (b : Fin 2) (t : Fin 16384) (d : Fin 384) :
    val_main_v145 x3 x4 x6 (ix3 b t d) = x6 (ix2 15 d) * val_main_v35 x3 x4 (ix3 b ⟨15 + t.val, by omega⟩ d) := by
  rw [val_main_v145_apply, val_main_v144_apply, val_main_v143_apply, val_main_v141_apply, val_main_v140_apply, val_main_v142_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 16 of the long convolution. -/
theorem ltap16 (b : Fin 2) (t : Fin 16384) (d : Fin 384) :
    val_main_v152 x3 x4 x6 (ix3 b t d) = x6 (ix2 16 d) * val_main_v35 x3 x4 (ix3 b ⟨16 + t.val, by omega⟩ d) := by
  rw [val_main_v152_apply, val_main_v151_apply, val_main_v150_apply, val_main_v148_apply, val_main_v147_apply, val_main_v149_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 17 of the long convolution. -/
theorem ltap17 (b : Fin 2) (t : Fin 16384) (d : Fin 384) :
    val_main_v159 x3 x4 x6 (ix3 b t d) = x6 (ix2 17 d) * val_main_v35 x3 x4 (ix3 b ⟨17 + t.val, by omega⟩ d) := by
  rw [val_main_v159_apply, val_main_v158_apply, val_main_v157_apply, val_main_v155_apply, val_main_v154_apply, val_main_v156_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 18 of the long convolution. -/
theorem ltap18 (b : Fin 2) (t : Fin 16384) (d : Fin 384) :
    val_main_v166 x3 x4 x6 (ix3 b t d) = x6 (ix2 18 d) * val_main_v35 x3 x4 (ix3 b ⟨18 + t.val, by omega⟩ d) := by
  rw [val_main_v166_apply, val_main_v165_apply, val_main_v164_apply, val_main_v162_apply, val_main_v161_apply, val_main_v163_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 19 of the long convolution. -/
theorem ltap19 (b : Fin 2) (t : Fin 16384) (d : Fin 384) :
    val_main_v173 x3 x4 x6 (ix3 b t d) = x6 (ix2 19 d) * val_main_v35 x3 x4 (ix3 b ⟨19 + t.val, by omega⟩ d) := by
  rw [val_main_v173_apply, val_main_v172_apply, val_main_v171_apply, val_main_v169_apply, val_main_v168_apply, val_main_v170_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 20 of the long convolution. -/
theorem ltap20 (b : Fin 2) (t : Fin 16384) (d : Fin 384) :
    val_main_v180 x3 x4 x6 (ix3 b t d) = x6 (ix2 20 d) * val_main_v35 x3 x4 (ix3 b ⟨20 + t.val, by omega⟩ d) := by
  rw [val_main_v180_apply, val_main_v179_apply, val_main_v178_apply, val_main_v176_apply, val_main_v175_apply, val_main_v177_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 21 of the long convolution. -/
theorem ltap21 (b : Fin 2) (t : Fin 16384) (d : Fin 384) :
    val_main_v187 x3 x4 x6 (ix3 b t d) = x6 (ix2 21 d) * val_main_v35 x3 x4 (ix3 b ⟨21 + t.val, by omega⟩ d) := by
  rw [val_main_v187_apply, val_main_v186_apply, val_main_v185_apply, val_main_v183_apply, val_main_v182_apply, val_main_v184_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 22 of the long convolution. -/
theorem ltap22 (b : Fin 2) (t : Fin 16384) (d : Fin 384) :
    val_main_v194 x3 x4 x6 (ix3 b t d) = x6 (ix2 22 d) * val_main_v35 x3 x4 (ix3 b ⟨22 + t.val, by omega⟩ d) := by
  rw [val_main_v194_apply, val_main_v193_apply, val_main_v192_apply, val_main_v190_apply, val_main_v189_apply, val_main_v191_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 23 of the long convolution. -/
theorem ltap23 (b : Fin 2) (t : Fin 16384) (d : Fin 384) :
    val_main_v201 x3 x4 x6 (ix3 b t d) = x6 (ix2 23 d) * val_main_v35 x3 x4 (ix3 b ⟨23 + t.val, by omega⟩ d) := by
  rw [val_main_v201_apply, val_main_v200_apply, val_main_v199_apply, val_main_v197_apply, val_main_v196_apply, val_main_v198_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 24 of the long convolution. -/
theorem ltap24 (b : Fin 2) (t : Fin 16384) (d : Fin 384) :
    val_main_v208 x3 x4 x6 (ix3 b t d) = x6 (ix2 24 d) * val_main_v35 x3 x4 (ix3 b ⟨24 + t.val, by omega⟩ d) := by
  rw [val_main_v208_apply, val_main_v207_apply, val_main_v206_apply, val_main_v204_apply, val_main_v203_apply, val_main_v205_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 25 of the long convolution. -/
theorem ltap25 (b : Fin 2) (t : Fin 16384) (d : Fin 384) :
    val_main_v215 x3 x4 x6 (ix3 b t d) = x6 (ix2 25 d) * val_main_v35 x3 x4 (ix3 b ⟨25 + t.val, by omega⟩ d) := by
  rw [val_main_v215_apply, val_main_v214_apply, val_main_v213_apply, val_main_v211_apply, val_main_v210_apply, val_main_v212_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 26 of the long convolution. -/
theorem ltap26 (b : Fin 2) (t : Fin 16384) (d : Fin 384) :
    val_main_v222 x3 x4 x6 (ix3 b t d) = x6 (ix2 26 d) * val_main_v35 x3 x4 (ix3 b ⟨26 + t.val, by omega⟩ d) := by
  rw [val_main_v222_apply, val_main_v221_apply, val_main_v220_apply, val_main_v218_apply, val_main_v217_apply, val_main_v219_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 27 of the long convolution. -/
theorem ltap27 (b : Fin 2) (t : Fin 16384) (d : Fin 384) :
    val_main_v229 x3 x4 x6 (ix3 b t d) = x6 (ix2 27 d) * val_main_v35 x3 x4 (ix3 b ⟨27 + t.val, by omega⟩ d) := by
  rw [val_main_v229_apply, val_main_v228_apply, val_main_v227_apply, val_main_v225_apply, val_main_v224_apply, val_main_v226_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 28 of the long convolution. -/
theorem ltap28 (b : Fin 2) (t : Fin 16384) (d : Fin 384) :
    val_main_v236 x3 x4 x6 (ix3 b t d) = x6 (ix2 28 d) * val_main_v35 x3 x4 (ix3 b ⟨28 + t.val, by omega⟩ d) := by
  rw [val_main_v236_apply, val_main_v235_apply, val_main_v234_apply, val_main_v232_apply, val_main_v231_apply, val_main_v233_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 29 of the long convolution. -/
theorem ltap29 (b : Fin 2) (t : Fin 16384) (d : Fin 384) :
    val_main_v243 x3 x4 x6 (ix3 b t d) = x6 (ix2 29 d) * val_main_v35 x3 x4 (ix3 b ⟨29 + t.val, by omega⟩ d) := by
  rw [val_main_v243_apply, val_main_v242_apply, val_main_v241_apply, val_main_v239_apply, val_main_v238_apply, val_main_v240_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- Tap 30 of the long convolution. -/
theorem ltap30 (b : Fin 2) (t : Fin 16384) (d : Fin 384) :
    val_main_v250 x3 x4 x6 (ix3 b t d) = x6 (ix2 30 d) * val_main_v35 x3 x4 (ix3 b ⟨30 + t.val, by omega⟩ d) := by
  rw [val_main_v250_apply, val_main_v249_apply, val_main_v248_apply, val_main_v246_apply, val_main_v245_apply, val_main_v247_apply]
  refine congrArg₂ (fun a b : EReal => a * b) (congrArg x6 (funext fun a => ?_)) (congrArg _ (funext fun a => ?_))
  · match a with
    | ⟨0, _⟩ => rfl
    | ⟨1, _⟩ => exact Fin.ext (Nat.mod_eq_of_lt d.isLt)
  · match a with
    | ⟨0, _⟩ => rfl
    | ⟨1, _⟩ => rfl
    | ⟨2, _⟩ => rfl

/-- The short convolution: the three taps. -/
theorem v26_apply (b : Fin 2) (t : Fin 16384) (d : Fin 384) :
    val_main_v26 x1 x2 x5 (ix3 b t d) = taps (fun k : Fin 3 => x5 (ix2 k d))
      (fun k => padded 2 (prodRow (fun r e => x1 (ix2 r e)) (fun r e => x2 (ix2 r e)) b d) (t.val + k.val)) := by
  have e : val_main_v26 x1 x2 x5 (ix3 b t d) = (val_main_v12 x1 x2 x5 (ix3 b t d) : EReal) + val_main_v18 x1 x2 x5 (ix3 b t d) + val_main_v25 x1 x2 x5 (ix3 b t d) := rfl
  rw [e, stap0, stap1, stap2, v6_apply, v6_apply, v6_apply, ← taps_three]
  simp only [Nat.add_comm t.val]
  rfl

/-- The short convolution, gated. -/
theorem v27_apply (b : Fin 2) (t : Fin 16384) (d : Fin 384) :
    val_main_v27 x0 x1 x2 x5 (ix3 b t d) = shortEntry (fun r e => x0 (ix2 r e)) (fun r e => x1 (ix2 r e)) (fun r e => x2 (ix2 r e))
      (fun k e => x5 (ix2 k e)) b t.val t.isLt d := by
  rw [val_main_v27_apply, v0_apply, v26_apply]
  rfl

/-- The long convolution: the 31 taps one after the other. -/
theorem v251_apply (b : Fin 2) (t : Fin 16384) (d : Fin 384) :
    val_main_v251 x3 x4 x6 (ix3 b t d) = taps (fun k : Fin 31 => x6 (ix2 k d))
      (fun k => padded 30 (prodRow (fun r e => x3 (ix2 r e)) (fun r e => gate (x4 (ix2 r e))) b d) (t.val + k.val)) := by
  have e : val_main_v251 x3 x4 x6 (ix3 b t d) = (val_main_v41 x3 x4 x6 (ix3 b t d) : EReal) + val_main_v47 x3 x4 x6 (ix3 b t d) + val_main_v54 x3 x4 x6 (ix3 b t d) + val_main_v61 x3 x4 x6 (ix3 b t d) + val_main_v68 x3 x4 x6 (ix3 b t d) + val_main_v75 x3 x4 x6 (ix3 b t d)
       + val_main_v82 x3 x4 x6 (ix3 b t d) + val_main_v89 x3 x4 x6 (ix3 b t d) + val_main_v96 x3 x4 x6 (ix3 b t d) + val_main_v103 x3 x4 x6 (ix3 b t d) + val_main_v110 x3 x4 x6 (ix3 b t d) + val_main_v117 x3 x4 x6 (ix3 b t d)
       + val_main_v124 x3 x4 x6 (ix3 b t d) + val_main_v131 x3 x4 x6 (ix3 b t d) + val_main_v138 x3 x4 x6 (ix3 b t d) + val_main_v145 x3 x4 x6 (ix3 b t d) + val_main_v152 x3 x4 x6 (ix3 b t d) + val_main_v159 x3 x4 x6 (ix3 b t d)
       + val_main_v166 x3 x4 x6 (ix3 b t d) + val_main_v173 x3 x4 x6 (ix3 b t d) + val_main_v180 x3 x4 x6 (ix3 b t d) + val_main_v187 x3 x4 x6 (ix3 b t d) + val_main_v194 x3 x4 x6 (ix3 b t d) + val_main_v201 x3 x4 x6 (ix3 b t d)
       + val_main_v208 x3 x4 x6 (ix3 b t d) + val_main_v215 x3 x4 x6 (ix3 b t d) + val_main_v222 x3 x4 x6 (ix3 b t d) + val_main_v229 x3 x4 x6 (ix3 b t d) + val_main_v236 x3 x4 x6 (ix3 b t d) + val_main_v243 x3 x4 x6 (ix3 b t d)
       + val_main_v250 x3 x4 x6 (ix3 b t d) := rfl
  rw [e, ltap0, ltap1, ltap2, ltap3, ltap4, ltap5, ltap6, ltap7, ltap8, ltap9, ltap10, ltap11, ltap12, ltap13, ltap14, ltap15, ltap16, ltap17, ltap18, ltap19, ltap20, ltap21, ltap22, ltap23, ltap24, ltap25, ltap26, ltap27, ltap28, ltap29, ltap30]
  simp only [v35_apply]
  unfold taps
  rw [← taps_line]
  simp only [Nat.add_comm t.val]
  rfl

/-- The long convolution with its offset. -/
theorem v254_apply (b : Fin 2) (t : Fin 16384) (d : Fin 384) :
    val_main_v254 x3 x4 x6 x7 (ix3 b t d) = x7 (ix1 d) + taps (fun k : Fin 31 => x6 (ix2 k d))
      (fun k => padded 30 (prodRow (fun r e => x3 (ix2 r e)) (fun r e => gate (x4 (ix2 r e))) b d) (t.val + k.val)) := by
  have h := v251_apply x3 x4 x6 b t d
  rw [← h]
  refine Eq.trans ?_ (add_comm _ _)
  unfold val_main_v254
  generalize val_main_v251 x3 x4 x6 = y
  pointwise [val_main_v253, val_main_v252]

/-- The layer normalisation of the long convolution. -/
theorem v276_apply (b : Fin 2) (t : Fin 16384) (d : Fin 384) :
    val_main_v276 x3 x4 x6 x7 x8 x9 (ix3 b t d) = layerNorm (fun e => val_main_v254 x3 x4 x6 x7 (ix3 b t e)) (fun e => x8 (ix1 e)) (fun e => x9 (ix1 e)) d := by
  unfold layerNorm mean val_main_v276 val_main_v273 val_main_v270 val_main_v269 val_main_v268 val_main_v267 val_main_v265 val_main_v263 val_main_v262 val_main_v261
    val_main_v260 val_main_v259 val_main_v258 val_main_v256 val_main_v255
  generalize val_main_v254 x3 x4 x6 x7 = y
  pointwise [val_main_v275, val_main_v274, val_main_v272, val_main_v271, val_main_v266, val_main_v264, val_main_v257, val_main_cst_2, val_main_cst_3,
    val_main_cst_4, val_main_cst_5, val_main_cst_6]

/-- The activation. -/
theorem v277_silu (b : Fin 2) (t : Fin 16384) (d : Fin 384) :
    val_main_v277 x3 x4 x6 x7 x8 x9 (ix3 b t d) = silu (val_main_v276 x3 x4 x6 x7 x8 x9 (ix3 b t d)) := by
  unfold val_main_v277 val_main_call2_v5 val_main_call2_v3 val_main_call2_v1 val_main_call2_v0
  generalize val_main_v276 x3 x4 x6 x7 x8 x9 = y
  pointwise [val_main_call2_v2, val_main_call2_v4, val_main_call2_cst, val_main_call2_cst_0]
  rfl

/-- The long convolution, normalised and activated. -/
theorem v277_apply (b : Fin 2) (t : Fin 16384) (d : Fin 384) :
    val_main_v277 x3 x4 x6 x7 x8 x9 (ix3 b t d) = longEntry (fun r e => x3 (ix2 r e)) (fun r e => x4 (ix2 r e)) (fun k e => x6 (ix2 k e))
      (fun e => x7 (ix1 e)) (fun e => x8 (ix1 e)) (fun e => x9 (ix1 e)) b t.val d := by
  rw [v277_silu, v276_apply]
  unfold longEntry longRow
  refine congrArg silu (congrArg (fun a => layerNorm a _ _ d) (funext fun e => ?_))
  exact v254_apply x3 x4 x6 x7 b t e

/-- Result 0 at row `i`, column `d`. -/
theorem v278_apply (i : Fin 32768) (d : Fin 384) :
    val_main_v278 x0 x1 x2 x5 (ix2 i d) = shortEntry (fun r e => x0 (ix2 r e)) (fun r e => x1 (ix2 r e)) (fun r e => x2 (ix2 r e)) (fun k e => x5 (ix2 k e))
      ⟨i.val / 16384, by omega⟩ (i.val % 16384) (Nat.mod_lt _ (by decide)) d := by
  rw [val_main_v278_apply]
  refine Eq.trans (congrArg _ (funext fun a => ?_)) (v27_apply x0 x1 x2 x5 ⟨i.val / 16384, by omega⟩ ⟨i.val % 16384, Nat.mod_lt _ (by decide)⟩ d)
  match a with
  | ⟨0, _⟩ => exact Fin.ext (by show (i.val * 384 + d.val) / 6291456 = i.val / 16384; omega)
  | ⟨1, _⟩ => exact Fin.ext (by show (i.val * 384 + d.val) / 384 % 16384 = i.val % 16384; omega)
  | ⟨2, _⟩ => exact Fin.ext (by show (i.val * 384 + d.val) % 384 = d.val; omega)

/-- Result 1 at row `i`, column `d`. -/
theorem v279_apply (i : Fin 32768) (d : Fin 384) :
    val_main_v279 x3 x4 x6 x7 x8 x9 (ix2 i d) = longEntry (fun r e => x3 (ix2 r e)) (fun r e => x4 (ix2 r e)) (fun k e => x6 (ix2 k e))
      (fun e => x7 (ix1 e)) (fun e => x8 (ix1 e)) (fun e => x9 (ix1 e)) ⟨i.val / 16384, by omega⟩ (i.val % 16384) d := by
  rw [val_main_v279_apply]
  refine Eq.trans (congrArg _ (funext fun a => ?_)) (v277_apply x3 x4 x6 x7 x8 x9 ⟨i.val / 16384, by omega⟩ ⟨i.val % 16384, Nat.mod_lt _ (by decide)⟩ d)
  match a with
  | ⟨0, _⟩ => exact Fin.ext (by show (i.val * 384 + d.val) / 6291456 = i.val / 16384; omega)
  | ⟨1, _⟩ => exact Fin.ext (by show (i.val * 384 + d.val) / 384 % 16384 = i.val % 16384; omega)
  | ⟨2, _⟩ => exact Fin.ext (by show (i.val * 384 + d.val) % 384 = d.val; omega)

end Cert.ConvsRefIdeal.Rows

end
-- ==== Proof.ConvsEq.lean ====
/-
  THE CONVOLUTIONS CALL, THE CLAIM: the kernel's two results are the reference's.
-/
module

public import proofs.«01_k».proof.Defs
public import proofs.«01_k».proof.Proof.ConvsFinal
public import proofs.«01_k».proof.Proof.ConvsRef
public import proofs.«01_k».proof.Proof.Gen.Convs.Frame
public import Idealize.ShloMosaic.Lib.Quiescent

@[expose] public section

set_option maxRecDepth 16384

noncomputable section

open Idealize.ShloMosaic Idealize.ShloMosaic.TcCoe Idealize.SL.Sem

namespace Cert.ConvsEq

/-- Run and frame of the kernel as printed. -/
theorem frame_kernel : quiescent_Convs := fun m ρ _ => Cert.Convs.Gen.frame m ρ

/-- Run and frame of the kernel over the reals. -/
theorem frame_ideal : quiescent_ConvsIdeal := fun m ρ _ => Cert.ConvsIdeal.Gen.frame m ρ

open Cert.ConvsRefIdeal Cert.ConvsRefIdeal.Gen in
/-- Run and frame of the reference. -/
theorem frame_ref : quiescent_ConvsRefIdeal := fun m ρ _ =>
  (θ_run defs _ _).mono (fun r h => ⟨fun c => (h c).2.2, sem_eq_zero_of_no_sems (by decide) r.2⟩) (Cert.ConvsRefIdeal.Value.run (F := Ideal) m ρ)

variable (m : (ℓ : Loc ConvsIdeal.nD ConvsIdeal.τ ConvsIdeal.sig) → Buf (Elt Ideal) ℓ) (c : Dev ConvsIdeal.nD)

/-- The reference's short convolution is the kernel's. -/
theorem short : Cert.ConvsRefIdeal.Read.val_main_v278 (m ((c.tc : Thread ConvsIdeal.nD ConvsIdeal.τ).loc ConvsIdeal.main_arg0)) (m ((c.tc : Thread ConvsIdeal.nD ConvsIdeal.τ).loc ConvsIdeal.main_arg1)) (m ((c.tc : Thread ConvsIdeal.nD ConvsIdeal.τ).loc ConvsIdeal.main_arg2)) (m ((c.tc : Thread ConvsIdeal.nD ConvsIdeal.τ).loc ConvsIdeal.main_arg5)) = Cert.ConvsIdeal.Block.G10 m c := by
  funext i
  obtain ⟨n, d, rfl⟩ : ∃ (n : Fin 32768) (d : Fin 384), i = ix2 n d := ⟨i 0, i 1, by funext k; fin_cases k <;> rfl⟩
  exact Cert.ConvsRefIdeal.Rows.v278_apply _ _ _ _ n d

/-- The reference's long convolution is the kernel's. -/
theorem long : Cert.ConvsRefIdeal.Read.val_main_v279 (m ((c.tc : Thread ConvsIdeal.nD ConvsIdeal.τ).loc ConvsIdeal.main_arg3)) (m ((c.tc : Thread ConvsIdeal.nD ConvsIdeal.τ).loc ConvsIdeal.main_arg4)) (m ((c.tc : Thread ConvsIdeal.nD ConvsIdeal.τ).loc ConvsIdeal.main_arg6)) (m ((c.tc : Thread ConvsIdeal.nD ConvsIdeal.τ).loc ConvsIdeal.main_arg7)) (m ((c.tc : Thread ConvsIdeal.nD ConvsIdeal.τ).loc ConvsIdeal.main_arg8)) (m ((c.tc : Thread ConvsIdeal.nD ConvsIdeal.τ).loc ConvsIdeal.main_arg9)) = Cert.ConvsIdeal.Block.G11 m c := by
  funext i
  obtain ⟨n, d, rfl⟩ : ∃ (n : Fin 32768) (d : Fin 384), i = ix2 n d := ⟨i 0, i 1, by funext k; fin_cases k <;> rfl⟩
  exact Cert.ConvsRefIdeal.Rows.v279_apply _ _ _ _ _ _ n d

open Cert.ConvsRefIdeal in
/-- The kernel's results are the reference's. -/
theorem algebraic : algebraic_ConvsIdeal_ConvsRefIdeal := fun m ρ m' ρ' _ hag =>
  ⟨fun c => Cert.ConvsIdeal.Block.G10 m c, fun c => Cert.ConvsIdeal.Block.G11 m c, Cert.ConvsIdeal.Block.run m ρ,
    (θ_run defs _ _).mono (fun _ h c => by
      obtain ⟨a0, a1, a2, a3, a4, a5, a6, a7, a8, a9⟩ := hag c
      obtain ⟨h0, h1, hk⟩ := h c
      refine ⟨h0.trans (?_ : _ = _), h1.trans (?_ : _ = _), hk⟩
      · refine (Cert.ConvsRefIdeal.Read.val_main_v278_eq _).trans ?_
        exact Eq.trans (congr (congr (congr (congrArg _ a0) a1) a2) a5) (short m c)
      · refine (Cert.ConvsRefIdeal.Read.val_main_v279_eq _).trans ?_
        exact Eq.trans (congr (congr (congr (congr (congr (congrArg _ a3) a4) a6) a7) a8) a9) (long m c)) (Cert.ConvsRefIdeal.Value.run (F := Ideal) m' ρ')⟩

end Cert.ConvsEq

end
-- ==== Proof.lean ====
/- The proof of the certificate: the mixers' output projection with the memory cross-attention, the combined input
   projection, the routed experts, the memory's keys and values, and the two gated convolutions. The work is in the
   modules `Proof/CrossEq`, `Proof/InProjEq`, `Proof/ExpertsEq`, `Proof/MemKvEq` and `Proof/ConvsEq`; here the pieces are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Pre_finite_keys
public import proofs.«01_k».proof.Proof.Gen.KernelIdeal.Value
public import proofs.«01_k».proof.Proof.Gen.InProjIdeal.Value
public import proofs.«01_k».proof.Proof.Gen.MemKvIdeal.Value
public import proofs.«01_k».proof.Proof.Gen.ReferenceIdeal.Run
public import proofs.«01_k».proof.Proof.Gen.ReferenceIdeal.Read
public import proofs.«01_k».proof.Proof.Gen.InProjRefIdeal.Run
public import proofs.«01_k».proof.Proof.Gen.InProjRefIdeal.Read
public import proofs.«01_k».proof.Proof.Gen.MemKvRefIdeal.Run
public import proofs.«01_k».proof.Proof.Gen.MemKvRefIdeal.Read
public import proofs.«01_k».proof.Proof.Gen.Pre_expert_ids
public import proofs.«01_k».proof.Proof.Gen.Pre_routed
public import proofs.«01_k».proof.Proof.Gen.Experts
public import proofs.«01_k».proof.Proof.Gen.Experts.Skeleton
public import proofs.«01_k».proof.Proof.Gen.Experts.Launch
public import proofs.«01_k».proof.Proof.Gen.Experts.Flash.Runs
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash.Runs
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Convs
public import proofs.«01_k».proof.Proof.Gen.Convs.Skeleton
public import proofs.«01_k».proof.Proof.Gen.Convs.Launch
public import proofs.«01_k».proof.Proof.Gen.Convs.Points
public import proofs.«01_k».proof.Proof.Gen.Convs.Frame
public import proofs.«01_k».proof.Proof.Gen.ConvsIdeal
public import proofs.«01_k».proof.Proof.Gen.ConvsIdeal.Skeleton
public import proofs.«01_k».proof.Proof.Gen.ConvsIdeal.Launch
public import proofs.«01_k».proof.Proof.Gen.ConvsIdeal.Points
public import proofs.«01_k».proof.Proof.Gen.ConvsIdeal.Frame
public import proofs.«01_k».proof.Proof.Gen.ConvsIdeal.Value
public import proofs.«01_k».proof.Proof.Gen.ConvsRefIdeal
public import proofs.«01_k».proof.Proof.Gen.ConvsRefIdeal.Run
public import proofs.«01_k».proof.Proof.Gen.ConvsRefIdeal.Read
public import proofs.«01_k».proof.Proof.CrossEq
public import proofs.«01_k».proof.Proof.InProjEq
public import proofs.«01_k».proof.Proof.ExpertsEq
public import proofs.«01_k».proof.Proof.MemKvEq
public import proofs.«01_k».proof.Proof.ConvsEq
public import Idealize.ShloMosaic.Adequacy
public import Idealize.ShloMosaic.Init

@[expose] public section

noncomputable section

namespace Cert.Proof

open Idealize.ShloMosaic Idealize.SL.Sem Cert.Kernel

/-- The certificate: every program runs to its end with its semaphores back at zero, and each of the five calls
computes its reference over the idealized numbers. -/
theorem claim : Cert.Claim :=
  ⟨Cert.Kernel.Gen.facts, Cert.KernelIdeal.Gen.facts, Cert.ReferenceIdeal.Gen.facts, Cert.InProj.Gen.facts, Cert.InProjIdeal.Gen.facts, Cert.InProjRefIdeal.Gen.facts, Cert.Experts.Gen.facts, Cert.ExpertsIdeal.Gen.facts, Cert.ExpertsRefIdeal.Gen.facts, Cert.MemKv.Gen.facts, Cert.MemKvIdeal.Gen.facts, Cert.MemKvRefIdeal.Gen.facts, Cert.Convs.Gen.facts, Cert.ConvsIdeal.Gen.facts, Cert.ConvsRefIdeal.Gen.facts, Cert.Pre_finite_keys.Gen.facts, Cert.Pre_expert_ids.Gen.facts, Cert.Pre_routed.Gen.facts,
   Cross.frame_kernel, Cross.frame_ideal, Cross.frame_ideal_pre, Cross.frame_ref, Cross.frame_ref_pre,
   InProjEq.frame_kernel, InProjEq.frame_ideal, InProjEq.frame_ref,
   ExpertsEq.frame_kernel, ExpertsEq.frame_ideal, ExpertsEq.frame_ideal_routed, ExpertsEq.frame_ref, ExpertsEq.frame_ref_routed,
   MemKvEq.frame_kernel, MemKvEq.frame_ideal, MemKvEq.frame_ref,
   ConvsEq.frame_kernel, ConvsEq.frame_ideal, ConvsEq.frame_ref,
   trivial, Cross.algebraic, trivial, InProjEq.algebraic, trivial, ExpertsEq.algebraic, trivial, MemKvEq.algebraic, trivial, ConvsEq.algebraic⟩

end Cert.Proof

end
